-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ preserves_Kernel_KernelIdeal
    ∧ preserves_Kernel2_Kernel2Ideal
    ∧ algebraic_Kernel2Ideal_Reference2Ideal_pre_finite (hKernel2Ideal := hKernel2Ideal) (hReference2Ideal := hReference2Ideal) (hPre_finite := hPre_finite)
-- ==== Pre_finite.lean ====
abbrev S8x2048x1024 : Shape := ⟨3, ![8, 2048, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S8x2048x1024 .f32) (main_arg1 : FVec F S1024x2816 .f32) (main_arg2 : FVec F S1024x2816 .f32) (main_arg3 : FVec F S2816x1024 .f32) (main_arg4 : FVec F S1024 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  main_v8
-- ==== Kernel.lean ====
abbrev S8x2048x1024 : Shape := ⟨3, ![8, 2048, 1024]⟩
abbrev S1024x4616 : Shape := ⟨2, ![1024, 4616]⟩
abbrev S4x1536 : Shape := ⟨2, ![4, 1536]⟩
abbrev S4 : Shape := ⟨1, ![4]⟩
abbrev S128 : Shape := ⟨1, ![128]⟩
abbrev S512x1024 : Shape := ⟨2, ![512, 1024]⟩
abbrev S4x128x128 : Shape := ⟨3, ![4, 128, 128]⟩
abbrev S4x128 : Shape := ⟨2, ![4, 128]⟩
abbrev S1024x1024 : Shape := ⟨2, ![1024, 1024]⟩
abbrev S1024 : Shape := ⟨1, ![1024]⟩
abbrev S_ : Shape := ⟨0, ![]⟩
abbrev S2x8x512 : Shape := ⟨3, ![2, 8, 512]⟩
abbrev S4x1 : Shape := ⟨2, ![4, 1]⟩
abbrev S4x512 : Shape := ⟨2, ![4, 512]⟩
abbrev S1 : Shape := ⟨1, ![1]⟩
abbrev S2 : Shape := ⟨1, ![2]⟩
abbrev S4616x1024 : Shape := ⟨2, ![4616, 1024]⟩
abbrev S1x128 : Shape := ⟨2, ![1, 128]⟩
abbrev S512 : Shape := ⟨1, ![512]⟩
abbrev S1x512 : Shape := ⟨2, ![1, 512]⟩
abbrev S1x1024 : Shape := ⟨2, ![1, 1024]⟩
abbrev S256x256 : Shape := ⟨2, ![256, 256]⟩
abbrev S1x256x256 : Shape := ⟨3, ![1, 256, 256]⟩
abbrev S4x256x256 : Shape := ⟨3, ![4, 256, 256]⟩
abbrev S16x16 : Shape := ⟨2, ![16, 16]⟩
abbrev S1x16x16 : Shape := ⟨3, ![1, 16, 16]⟩
abbrev S4x16x16 : Shape := ⟨3, ![4, 16, 16]⟩
abbrev S2x256x1024 : Shape := ⟨3, ![2, 256, 1024]⟩
abbrev S2x4x128x128 : Shape := ⟨4, ![2, 4, 128, 128]⟩
abbrev S2x8x1536 : Shape := ⟨3, ![2, 8, 1536]⟩
abbrev S2x16x512 : Shape := ⟨3, ![2, 16, 512]⟩
abbrev S9x1024x512 : Shape := ⟨3, ![9, 1024, 512]⟩
abbrev S8x1024 : Shape := ⟨2, ![8, 1024]⟩
abbrev S2x512x512 : Shape := ⟨3, ![2, 512, 512]⟩
abbrev S2x1024x512 : Shape := ⟨3, ![2, 1024, 512]⟩
abbrev S2x512x1024 : Shape := ⟨3, ![2, 512, 1024]⟩
abbrev S3 : Shape := ⟨1, ![3]⟩
abbrev S1x512x1024 : Shape := ⟨3, ![1, 512, 1024]⟩
abbrev S1024x512 : Shape := ⟨2, ![1024, 512]⟩
abbrev S1x1024x512 : Shape := ⟨3, ![1, 1024, 512]⟩
abbrev S512x512 : Shape := ⟨2, ![512, 512]⟩
abbrev S1x512x512 : Shape := ⟨3, ![1, 512, 512]⟩
abbrev S1x128x128 : Shape := ⟨3, ![1, 128, 128]⟩
abbrev S128x128 : Shape := ⟨2, ![128, 128]⟩
abbrev S128x1024 : Shape := ⟨2, ![128, 1024]⟩
abbrev S64x256 : Shape := ⟨2, ![64, 256]⟩
abbrev S64x128 : Shape := ⟨2, ![64, 128]⟩
abbrev S256x128 : Shape := ⟨2, ![256, 128]⟩
abbrev S1x8x128 : Shape := ⟨3, ![1, 8, 128]⟩
abbrev S8x128 : Shape := ⟨2, ![8, 128]⟩
abbrev S264x128 : Shape := ⟨2, ![264, 128]⟩
abbrev S256x512 : Shape := ⟨2, ![256, 512]⟩
abbrev S8x512 : Shape := ⟨2, ![8, 512]⟩
abbrev S1x8x512 : Shape := ⟨3, ![1, 8, 512]⟩
abbrev S512x256 : Shape := ⟨2, ![512, 256]⟩
abbrev S1x16x512 : Shape := ⟨3, ![1, 16, 512]⟩
abbrev S16x512 : Shape := ⟨2, ![16, 512]⟩
abbrev S16x128 : Shape := ⟨2, ![16, 128]⟩
abbrev S240x128 : Shape := ⟨2, ![240, 128]⟩
abbrev S1x256 : Shape := ⟨2, ![1, 256]⟩
abbrev S128x256 : Shape := ⟨2, ![128, 256]⟩
abbrev S512x128 : Shape := ⟨2, ![512, 128]⟩
abbrev S1x1x128x128 : Shape := ⟨4, ![1, 1, 128, 128]⟩
abbrev S512x1 : Shape := ⟨2, ![512, 1]⟩

abbrev nBuf : Space → Nat
  | .hbm => 204
  | .vmem => 24
  | .smem => 0
  | _ => 0

abbrev hbmTy0_0 (i : Nat) : BufTy := match i % 128 with
  | 0 => ⟨S8x2048x1024, .f32⟩
  | 1 => ⟨S1024x4616, .f32⟩
  | 2 => ⟨S4x1536, .f32⟩
  | 3 => ⟨S4, .f32⟩
  | 4 => ⟨S4, .f32⟩
  | 5 => ⟨S128, .f32⟩
  | 6 => ⟨S512x1024, .f32⟩
  | 7 => ⟨S4x128x128, .f32⟩
  | 8 => ⟨S4x128, .f32⟩
  | 9 => ⟨S512x1024, .f32⟩
  | 10 => ⟨S1024x1024, .f32⟩
  | 11 => ⟨S1024, .f32⟩
  | 12 => ⟨S1024, .f32⟩
  | 13 => ⟨S_, .f32⟩
  | 14 => ⟨S2x8x512, .f32⟩
  | 15 => ⟨S4x1, .f32⟩
  | 16 => ⟨S4x512, .f32⟩
  | 17 => ⟨S_, .i32⟩
  | 18 => ⟨S1, .i32⟩
  | 19 => ⟨S_, .i32⟩
  | 20 => ⟨S1, .i32⟩
  | 21 => ⟨S2, .i32⟩
  | 22 => ⟨S2x8x512, .f32⟩
  | 23 => ⟨S4x1, .f32⟩
  | 24 => ⟨S4x512, .f32⟩
  | 25 => ⟨S_, .i32⟩
  | 26 => ⟨S1, .i32⟩
  | 27 => ⟨S_, .i32⟩
  | 28 => ⟨S1, .i32⟩
  | 29 => ⟨S2, .i32⟩
  | 30 => ⟨S2x8x512, .f32⟩
  | 31 => ⟨S4616x1024, .f32⟩
  | 32 => ⟨S1x128, .f32⟩
  | 33 => ⟨S4x128, .f32⟩
  | 34 => ⟨S512, .f32⟩
  | 35 => ⟨S1x512, .f32⟩
  | 36 => ⟨S1x512, .f32⟩
  | 37 => ⟨S1x1024, .f32⟩
  | 38 => ⟨S1x1024, .f32⟩
  | 39 => ⟨S256x256, .i32⟩
  | 40 => ⟨S256x256, .i32⟩
  | 41 => ⟨S_, .i32⟩
  | 42 => ⟨S_, .i32⟩
  | 43 => ⟨S256x256, .i32⟩
  | 44 => ⟨S256x256, .i32⟩
  | 45 => ⟨S256x256, .i32⟩
  | 46 => ⟨S_, .i32⟩
  | 47 => ⟨S256x256, .i32⟩
  | 48 => ⟨S256x256, .i1⟩
  | 49 => ⟨S256x256, .i32⟩
  | 50 => ⟨S256x256, .i32⟩
  | 51 => ⟨S_, .i32⟩
  | 52 => ⟨S256x256, .i32⟩
  | 53 => ⟨S256x256, .i1⟩
  | 54 => ⟨S256x256, .i1⟩
  | 55 => ⟨S_, .i32⟩
  | 56 => ⟨S256x256, .i32⟩
  | 57 => ⟨S256x256, .i32⟩
  | 58 => ⟨S256x256, .i32⟩
  | 59 => ⟨S_, .i32⟩
  | 60 => ⟨S_, .i32⟩
  | 61 => ⟨S256x256, .i32⟩
  | 62 => ⟨S256x256, .i32⟩
  | 63 => ⟨S256x256, .i32⟩
  | 64 => ⟨S_, .i32⟩
  | 65 => ⟨S256x256, .i32⟩
  | 66 => ⟨S256x256, .i1⟩
  | 67 => ⟨S256x256, .i32⟩
  | 68 => ⟨S256x256, .i32⟩
  | 69 => ⟨S_, .i32⟩
  | 70 => ⟨S256x256, .i32⟩
  | 71 => ⟨S256x256, .i1⟩
  | 72 => ⟨S256x256, .i1⟩
  | 73 => ⟨S_, .i32⟩
  | 74 => ⟨S256x256, .i32⟩
  | 75 => ⟨S256x256, .i32⟩
  | 76 => ⟨S256x256, .i32⟩
  | 77 => ⟨S256x256, .i1⟩
  | 78 => ⟨S256x256, .i1⟩
  | 79 => ⟨S_, .i32⟩
  | 80 => ⟨S256x256, .i32⟩
  | 81 => ⟨S256x256, .i32⟩
  | 82 => ⟨S256x256, .i1⟩
  | 83 => ⟨S256x256, .i1⟩
  | 84 => ⟨S256x256, .i1⟩
  | 85 => ⟨S_, .i32⟩
  | 86 => ⟨S256x256, .i32⟩
  | 87 => ⟨S256x256, .i32⟩
  | 88 => ⟨S256x256, .i1⟩
  | 89 => ⟨S256x256, .i1⟩
  | 90 => ⟨S256x256, .i1⟩
  | 91 => ⟨S_, .i32⟩
  | 92 => ⟨S256x256, .i32⟩
  | 93 => ⟨S256x256, .i32⟩
  | 94 => ⟨S256x256, .i1⟩
  | 95 => ⟨S256x256, .i1⟩
  | 96 => ⟨S256x256, .i1⟩
  | 97 => ⟨S_, .i32⟩
  | 98 => ⟨S256x256, .i32⟩
  | 99 => ⟨S256x256, .i32⟩
  | 100 => ⟨S256x256, .i1⟩
  | 101 => ⟨S256x256, .i1⟩
  | 102 => ⟨S1x256x256, .i1⟩
  | 103 => ⟨S1x256x256, .i1⟩
  | 104 => ⟨S1x256x256, .i1⟩
  | 105 => ⟨S1x256x256, .i1⟩
  | 106 => ⟨S4x256x256, .i1⟩
  | 107 => ⟨S16x16, .i32⟩
  | 108 => ⟨S16x16, .i32⟩
  | 109 => ⟨S_, .i32⟩
  | 110 => ⟨S16x16, .i32⟩
  | 111 => ⟨S16x16, .i32⟩
  | 112 => ⟨S_, .i32⟩
  | 113 => ⟨S16x16, .i32⟩
  | 114 => ⟨S16x16, .i32⟩
  | 115 => ⟨S16x16, .i1⟩
  | 116 => ⟨S_, .i32⟩
  | 117 => ⟨S16x16, .i32⟩
  | 118 => ⟨S16x16, .i32⟩
  | 119 => ⟨S_, .i32⟩
  | 120 => ⟨S16x16, .i32⟩
  | 121 => ⟨S16x16, .i32⟩
  | 122 => ⟨S16x16, .i1⟩
  | 123 => ⟨S_, .i32⟩
  | 124 => ⟨S16x16, .i32⟩
  | 125 => ⟨S16x16, .i32⟩
  | 126 => ⟨S_, .i32⟩
  | 127 => ⟨S16x16, .i32⟩
  | _ => ⟨S8x2048x1024, .f32⟩

abbrev hbmTy0_1 (i : Nat) : BufTy := match i % 128 with
  | 0 => ⟨S16x16, .i32⟩
  | 1 => ⟨S16x16, .i1⟩
  | 2 => ⟨S_, .i32⟩
  | 3 => ⟨S16x16, .i32⟩
  | 4 => ⟨S16x16, .i32⟩
  | 5 => ⟨S_, .i32⟩
  | 6 => ⟨S16x16, .i32⟩
  | 7 => ⟨S16x16, .i32⟩
  | 8 => ⟨S16x16, .i1⟩
  | 9 => ⟨S1x16x16, .i1⟩
  | 10 => ⟨S1x16x16, .i1⟩
  | 11 => ⟨S1x16x16, .i1⟩
  | 12 => ⟨S1x16x16, .i1⟩
  | 13 => ⟨S4x16x16, .i1⟩
  | 14 => ⟨S_, .i32⟩
  | 15 => ⟨S_, .i32⟩
  | 16 => ⟨S256x256, .i32⟩
  | 17 => ⟨S256x256, .i32⟩
  | 18 => ⟨S256x256, .i32⟩
  | 19 => ⟨S_, .i32⟩
  | 20 => ⟨S256x256, .i32⟩
  | 21 => ⟨S256x256, .i1⟩
  | 22 => ⟨S256x256, .i32⟩
  | 23 => ⟨S256x256, .i32⟩
  | 24 => ⟨S_, .i32⟩
  | 25 => ⟨S256x256, .i32⟩
  | 26 => ⟨S256x256, .i1⟩
  | 27 => ⟨S256x256, .i1⟩
  | 28 => ⟨S_, .i32⟩
  | 29 => ⟨S256x256, .i32⟩
  | 30 => ⟨S256x256, .i32⟩
  | 31 => ⟨S256x256, .i32⟩
  | 32 => ⟨S_, .i32⟩
  | 33 => ⟨S_, .i32⟩
  | 34 => ⟨S256x256, .i32⟩
  | 35 => ⟨S256x256, .i32⟩
  | 36 => ⟨S256x256, .i32⟩
  | 37 => ⟨S_, .i32⟩
  | 38 => ⟨S256x256, .i32⟩
  | 39 => ⟨S256x256, .i1⟩
  | 40 => ⟨S256x256, .i32⟩
  | 41 => ⟨S256x256, .i32⟩
  | 42 => ⟨S_, .i32⟩
  | 43 => ⟨S256x256, .i32⟩
  | 44 => ⟨S256x256, .i1⟩
  | 45 => ⟨S256x256, .i1⟩
  | 46 => ⟨S_, .i32⟩
  | 47 => ⟨S256x256, .i32⟩
  | 48 => ⟨S256x256, .i32⟩
  | 49 => ⟨S256x256, .i32⟩
  | 50 => ⟨S256x256, .i1⟩
  | 51 => ⟨S_, .f32⟩
  | 52 => ⟨S_, .f32⟩
  | 53 => ⟨S256x256, .f32⟩
  | 54 => ⟨S256x256, .f32⟩
  | 55 => ⟨S256x256, .f32⟩
  | 56 => ⟨S256x256, .bf16⟩
  | 57 => ⟨S_, .f32⟩
  | 58 => ⟨S_, .f32⟩
  | 59 => ⟨S4x256x256, .f32⟩
  | 60 => ⟨S4x256x256, .f32⟩
  | 61 => ⟨S4x256x256, .f32⟩
  | 62 => ⟨S4x256x256, .bf16⟩
  | 63 => ⟨S_, .f32⟩
  | 64 => ⟨S_, .f32⟩
  | 65 => ⟨S4x16x16, .f32⟩
  | 66 => ⟨S4x16x16, .f32⟩
  | 67 => ⟨S4x16x16, .f32⟩
  | 68 => ⟨S4x16x16, .bf16⟩
  | 69 => ⟨S_, .f32⟩
  | 70 => ⟨S_, .f32⟩
  | 71 => ⟨S256x256, .f32⟩
  | 72 => ⟨S256x256, .f32⟩
  | 73 => ⟨S256x256, .f32⟩
  | 74 => ⟨S256x256, .bf16⟩
  | 75 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S2x256x1024, .f32⟩
  | .local _ .vmem, ⟨1, _⟩ => ⟨S2x256x1024, .f32⟩
  | .local _ .vmem, ⟨2, _⟩ => ⟨S4x1536, .f32⟩
  | .local _ .vmem, ⟨3, _⟩ => ⟨S2x8x512, .f32⟩
  | .local _ .vmem, ⟨4, _⟩ => ⟨S1x512, .f32⟩
  | .local _ .vmem, ⟨5, _⟩ => ⟨S4x128x128, .f32⟩
  | .local _ .vmem, ⟨6, _⟩ => ⟨S1x512, .f32⟩
  | .local _ .vmem, ⟨7, _⟩ => ⟨S1x1024, .f32⟩
  | .local _ .vmem, ⟨8, _⟩ => ⟨S1x1024, .f32⟩
  | .local _ .vmem, ⟨9, _⟩ => ⟨S256x256, .bf16⟩
  | .local _ .vmem, ⟨10, _⟩ => ⟨S4x256x256, .bf16⟩
  | .local _ .vmem, ⟨11, _⟩ => ⟨S4x16x16, .bf16⟩
  | .local _ .vmem, ⟨12, _⟩ => ⟨S256x256, .bf16⟩
  | .local _ .vmem, ⟨13, _⟩ => ⟨S2x256x1024, .f32⟩
  | .local _ .vmem, ⟨14, _⟩ => ⟨S2x256x1024, .f32⟩
  | .local _ .vmem, ⟨15, _⟩ => ⟨S2x4x128x128, .f32⟩
  | .local _ .vmem, ⟨16, _⟩ => ⟨S2x8x1536, .f32⟩
  | .local _ .vmem, ⟨17, _⟩ => ⟨S2x16x512, .f32⟩
  | .local _ .vmem, ⟨18, _⟩ => ⟨S9x1024x512, .bf16⟩
  | .local _ .vmem, ⟨19, _⟩ => ⟨S8x1024, .f32⟩
  | .local _ .vmem, ⟨20, _⟩ => ⟨S2x512x512, .bf16⟩
  | .local _ .vmem, ⟨21, _⟩ => ⟨S2x512x512, .bf16⟩
  | .local _ .vmem, ⟨22, _⟩ => ⟨S2x1024x512, .bf16⟩
  | .local _ .vmem, ⟨23, _⟩ => ⟨S2x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v23 : Ref sig .tc := ⟨.hbm, 58, rfl⟩
abbrev main_c_4 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_c : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_0 : Ref sig .tc := ⟨.hbm, 73, rfl⟩
abbrev main_call1_v12 : Ref sig .tc := ⟨.hbm, 74, rfl⟩
abbrev main_call1_v13 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_c_5 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_c_6 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_c_7 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_c_8 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_c_9 : Ref sig .tc := ⟨.hbm, 109, rfl⟩
abbrev main_v53 : Ref sig .tc := ⟨.hbm, 110, rfl⟩
abbrev main_v54 : Ref sig .tc := ⟨.hbm, 111, rfl⟩
abbrev main_c_10 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_c_11 : Ref sig .tc := ⟨.hbm, 116, rfl⟩
abbrev main_v58 : Ref sig .tc := ⟨.hbm, 117, rfl⟩
abbrev main_v59 : Ref sig .tc := ⟨.hbm, 118, rfl⟩
abbrev main_c_12 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_c_13 : Ref sig .tc := ⟨.hbm, 123, rfl⟩
abbrev main_v63 : Ref sig .tc := ⟨.hbm, 124, rfl⟩
abbrev main_v64 : Ref sig .tc := ⟨.hbm, 125, rfl⟩
abbrev main_c_14 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_c_15 : Ref sig .tc := ⟨.hbm, 130, rfl⟩
abbrev main_v68 : Ref sig .tc := ⟨.hbm, 131, rfl⟩
abbrev main_v69 : Ref sig .tc := ⟨.hbm, 132, rfl⟩
abbrev main_c_16 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_c_17 : Ref sig .tc := ⟨.hbm, 142, rfl⟩
abbrev main_call2_v0 : Ref sig .tc := ⟨.hbm, 143, rfl⟩
abbrev main_call2_v1 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_v5 : Ref sig .tc := ⟨.hbm, 148, rfl⟩
abbrev main_call2_v6 : Ref sig .tc := ⟨.hbm, 149, rfl⟩
abbrev main_call2_v7 : Ref sig .tc := ⟨.hbm, 150, rfl⟩
abbrev main_call2_v8 : Ref sig .tc := ⟨.hbm, 151, rfl⟩
abbrev main_call2_c : Ref sig .tc := ⟨.hbm, 152, rfl⟩
abbrev main_call2_v9 : Ref sig .tc := ⟨.hbm, 153, rfl⟩
abbrev main_call2_v10 : Ref sig .tc := ⟨.hbm, 154, rfl⟩
abbrev main_call2_v11 : Ref sig .tc := ⟨.hbm, 155, rfl⟩
abbrev main_call2_c_0 : Ref sig .tc := ⟨.hbm, 156, rfl⟩
abbrev main_call2_v12 : Ref sig .tc := ⟨.hbm, 157, rfl⟩
abbrev main_call2_v13 : Ref sig .tc := ⟨.hbm, 158, rfl⟩
abbrev main_v78 : Ref sig .tc := ⟨.hbm, 159, rfl⟩
abbrev main_c_18 : Ref sig .tc := ⟨.hbm, 160, rfl⟩
abbrev main_call3_v0 : Ref sig .tc := ⟨.hbm, 161, rfl⟩
abbrev main_call3_v1 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_call3_v5 : Ref sig .tc := ⟨.hbm, 166, rfl⟩
abbrev main_call3_v6 : Ref sig .tc := ⟨.hbm, 167, rfl⟩
abbrev main_call3_v7 : Ref sig .tc := ⟨.hbm, 168, rfl⟩
abbrev main_call3_v8 : Ref sig .tc := ⟨.hbm, 169, rfl⟩
abbrev main_call3_c : Ref sig .tc := ⟨.hbm, 170, rfl⟩
abbrev main_call3_v9 : Ref sig .tc := ⟨.hbm, 171, rfl⟩
abbrev main_call3_v10 : Ref sig .tc := ⟨.hbm, 172, rfl⟩
abbrev main_call3_v11 : Ref sig .tc := ⟨.hbm, 173, rfl⟩
abbrev main_call3_c_0 : Ref sig .tc := ⟨.hbm, 174, rfl⟩
abbrev main_call3_v12 : Ref sig .tc := ⟨.hbm, 175, rfl⟩
abbrev main_call3_v13 : Ref sig .tc := ⟨.hbm, 176, rfl⟩
abbrev main_v79 : Ref sig .tc := ⟨.hbm, 177, rfl⟩
abbrev main_v80 : Ref sig .tc := ⟨.hbm, 178, rfl⟩
abbrev main_cst_19 : Ref sig .tc := ⟨.hbm, 179, rfl⟩
abbrev main_cst_20 : Ref sig .tc := ⟨.hbm, 180, rfl⟩
abbrev main_call4_v0 : Ref sig .tc := ⟨.hbm, 181, rfl⟩
abbrev main_call4_v1 : Ref sig .tc := ⟨.hbm, 182, rfl⟩
abbrev main_v81 : Ref sig .tc := ⟨.hbm, 183, rfl⟩
abbrev main_v82 : Ref sig .tc := ⟨.hbm, 184, rfl⟩
abbrev main_cst_21 : Ref sig .tc := ⟨.hbm, 185, rfl⟩
abbrev main_cst_22 : Ref sig .tc := ⟨.hbm, 186, rfl⟩
abbrev main_call5_v0 : Ref sig .tc := ⟨.hbm, 187, rfl⟩
abbrev main_call5_v1 : Ref sig .tc := ⟨.hbm, 188, rfl⟩
abbrev main_v83 : Ref sig .tc := ⟨.hbm, 189, rfl⟩
abbrev main_v84 : Ref sig .tc := ⟨.hbm, 190, rfl⟩
abbrev main_cst_23 : Ref sig .tc := ⟨.hbm, 191, rfl⟩
abbrev main_cst_24 : Ref sig .tc := ⟨.hbm, 192, rfl⟩
abbrev main_call6_v0 : Ref sig .tc := ⟨.hbm, 193, rfl⟩
abbrev main_call6_v1 : Ref sig .tc := ⟨.hbm, 194, rfl⟩
abbrev main_v85 : Ref sig .tc := ⟨.hbm, 195, rfl⟩
abbrev main_v86 : Ref sig .tc := ⟨.hbm, 196, rfl⟩
abbrev main_cst_25 : Ref sig .tc := ⟨.hbm, 197, rfl⟩
abbrev main_cst_26 : Ref sig .tc := ⟨.hbm, 198, rfl⟩
abbrev main_call7_v0 : Ref sig .tc := ⟨.hbm, 199, rfl⟩
abbrev main_call7_v1 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x16x16 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S2x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel2.lean ====
abbrev S8x2048x1024 : Shape := ⟨3, ![8, 2048, 1024]⟩
abbrev S1024x2816 : Shape := ⟨2, ![1024, 2816]⟩
abbrev S2816x1024 : Shape := ⟨2, ![2816, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S2x2816x512 : Shape := ⟨3, ![2, 2816, 512]⟩
abbrev S2x1024x256 : Shape := ⟨3, ![2, 1024, 256]⟩
abbrev S2x256x1024 : Shape := ⟨3, ![2, 256, 1024]⟩
abbrev S3x2 : Shape := ⟨2, ![3, 2]⟩
abbrev S1x1 : Shape := ⟨2, ![1, 1]⟩
abbrev S_ : Shape := ⟨0, ![]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S256x512 : Shape := ⟨2, ![256, 512]⟩
abbrev S1x256x512 : Shape := ⟨3, ![1, 256, 512]⟩
abbrev S512x256 : Shape := ⟨2, ![512, 256]⟩
abbrev S512x512 : Shape := ⟨2, ![512, 512]⟩
abbrev S64x1024 : Shape := ⟨2, ![64, 1024]⟩
abbrev S64 : Shape := ⟨1, ![64]⟩
abbrev S64x1 : Shape := ⟨2, ![64, 1]⟩

abbrev nBuf : Space → Nat
  | .hbm => 10
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1024x2816, .bf16⟩
  | .local _ .vmem, ⟨10, _⟩ => ⟨S1024x2816, .bf16⟩
  | .local _ .vmem, ⟨11, _⟩ => ⟨S2x2816x512, .bf16⟩
  | .local _ .vmem, ⟨12, _⟩ => ⟨S2x1024x256, .f32⟩
  | .local _ .vmem, ⟨13, _⟩ => ⟨S2x1024x256, .f32⟩
  | .local _ .vmem, ⟨14, _⟩ => ⟨S2x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .slt arg0 c32_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c32_i32_3 : BitVec 32 := 32#32
  let v8 : BitVec 1 := Scalar.cmpi .eq arg0 c32_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8x2048x1024 : Shape := ⟨3, ![8, 2048, 1024]⟩
abbrev S1024x2816 : Shape := ⟨2, ![1024, 2816]⟩
abbrev S2816x1024 : Shape := ⟨2, ![2816, 1024]⟩
abbrev S1024 : Shape := ⟨1, ![1024]⟩
abbrev S16384x1024 : Shape := ⟨2, ![16384, 1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S16384x2816, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Proof.Ffn.Runs.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

/-! The launch of the FFN kernel as the pipeline library states it: buffers, copies, the carried scratch. -/

-- membership in a rectangle of production extents (`View.cover_of_tiled`): the elaborator's structural look
-- recurses once per coordinate of the long axes
set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 31 — decided over the grid. -/
theorem hcond0_1 : ∀ t : Fin cfg0.N, cond0_1 (grid0.coords t) ↔ (1 ≤ t.val % 33 ∧ t.val % 33 ≤ 31) :=
  (by decide +kernel : ∀ t : Fin grid0.N, cond0_1 (grid0.coords t) ↔ (1 ≤ t.val % 33 ∧ t.val % 33 ≤ 31))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_2, k0_cond3, e0]
    word_cmp
   : ∀ t : Fin grid0.N, cond0_2 (grid0.coords t) ↔ t.val % 33 = 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- At the points of case A the printed configuration (`Cfg.idle`) calls output 4 live: the case stores into it. -/
theorem liveAt0_4_A : ∀ t : Fin cfg0.N, cond0_0 (grid0.coords t) → ¬cond0_1 (grid0.coords t) → ¬cond0_2 (grid0.coords t) → cfg0.idle 4 (grid0.coords t) = false := by decide +kernel
/-- At the points of case B the printed configuration (`Cfg.idle`) calls output 4 live: the case stores into it. -/
theorem liveAt0_4_B : ∀ t : Fin cfg0.N, ¬cond0_0 (grid0.coords t) → cond0_1 (grid0.coords t) → ¬cond0_2 (grid0.coords t) → cfg0.idle 4 (grid0.coords t) = false := by decide +kernel
/-- At the points of case C the printed configuration (`Cfg.idle`) calls output 4 live: the case stores into it. -/
theorem liveAt0_4_C : ∀ t : Fin cfg0.N, ¬cond0_0 (grid0.coords t) → ¬cond0_1 (grid0.coords t) → cond0_2 (grid0.coords t) → cfg0.idle 4 (grid0.coords t) = false := by decide +kernel

/-! ## The kernel body on any staging memrefs: a subtype the run finds -/

/-- One staging buffer of output window 4, through which its contents are stated (`View.read_writes_of_cover`: the
    choice does not matter). -/
abbrev VO0_4 : View sig .tc .vmem S512x1024 .f32 := (Memref.whole cc0_stg4_0 : Memref sig .tc .vmem S512x1024 .f32).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S512x1024 .f32 := Memref.whole cc0_scratch0
abbrev scM0_1 : Memref sig .tc .vmem S1024x2816 .bf16 := Memref.whole cc0_scratch1
abbrev scM0_2 : Memref sig .tc .vmem S1024x2816 .bf16 := Memref.whole cc0_scratch2
abbrev scM0_3 : Memref sig .tc .vmem S2x2816x512 .bf16 := Memref.whole cc0_scratch3
abbrev scM0_4 : Memref sig .tc .vmem S2x1024x256 .f32 := Memref.whole cc0_scratch4
abbrev scM0_5 : Memref sig .tc .vmem S2x1024x256 .f32 := Memref.whole cc0_scratch5
abbrev scM0_6 : Memref sig .tc .vmem S2x256x1024 .f32 := Memref.whole cc0_scratch6
/-- The scratch `arg9` the kernel carries between points, as a view: what it holds is stated through it. -/
abbrev VS0_0 : View sig .tc .vmem S512x1024 .f32 := scM0_0.view
/-- The scratch `arg10` the kernel carries between points, as a view: what it holds is stated through it. -/
abbrev VS0_1 : View sig .tc .vmem S1024x2816 .bf16 := scM0_1.view
/-- The scratch `arg11` the kernel carries between points, as a view: what it holds is stated through it. -/
abbrev VS0_2 : View sig .tc .vmem S1024x2816 .bf16 := scM0_2.view
/-- The scratch `arg12` the kernel carries between points, as a view: what it holds is stated through it. -/
abbrev VS0_3 : View sig .tc .vmem S2x2816x512 .bf16 := scM0_3.view
/-- The operands left in HBM that the body copies into scratch itself, whole. -/
abbrev hbM0_0 : Memref sig .tc .hbm S1024x2816 .f32 := Memref.whole main_arg1
abbrev hbM0_1 : Memref sig .tc .hbm S1024x2816 .f32 := Memref.whole main_arg2
abbrev hbM0_2 : Memref sig .tc .hbm S2816x1024 .f32 := Memref.whole main_arg3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 6 → SemLoc sig := fun j => (![SemLoc.dma 8, SemLoc.dma 9, SemLoc.dma 10, SemLoc.dma 11, SemLoc.dma 12, SemLoc.dma 13] : Fin 6 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) := by
  rw [Pipeline.ownSems0_eq_of_list c osem0 [0, 1, 2, 3, 4, 5] (by decide) (by decide)]; rfl
/-- The HBM operands the body moves, as references: unscoped, no window's array (`Pipeline.restRefs`). -/
def H0 : Finset (Ref sig .tc) := {main_arg1, main_arg2, main_arg3}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1) ∗ hbPt0 c hbM0_1 (V m c main_arg2) ∗ hbPt0 c hbM0_2 (V m c main_arg3)) := by
  rw [BI.bigSep_eq_bigSepL_of_eq [main_arg1, main_arg2, main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_arg1) ∗ hbPt0 c hbM0_1 (V m c main_arg2) ∗ hbPt0 c hbM0_2 (V m c main_arg3))) := by
  rw [Pipeline.ΦD_eq, scopedRest0_eq, ownSems00_eq, hbmPts0_eq]; simp only [scM0_0, scM0_1, scM0_2, scM0_3, scM0_4, scM0_5, scM0_6, owns_whole]; try rfl

end Cert.Ffn

end
-- ==== Proof.Ffn.RunA.lean ====
module

public import proofs.«01_k».proof.Proof.Ffn.Runs

@[expose] public section

/-! The run of the FFN kernel body, case A. -/

-- membership in a rectangle of production extents (`View.cover_of_tiled`): the elaborator's structural look
-- recurses once per coordinate of the long axes
set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in set_option sl_exec.dmaWindow true in set_option sl_exec.dmaWindowSet true in
/-- What the body's stores leave in each output's staging memref, as pieces (last first) IN CASE A (`scf.if` 0 taken, `scf.if` 1 not taken, `scf.if` 2 not taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_Ax (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2)
    (fs4 : Buf (Elt F) (arg13.view.loc (c : Thread nD τ))) (fs5 : Buf (Elt F) (arg14.view.loc (c : Thread nD τ))) (fs6 : Buf (Elt F) (arg15.view.loc (c : Thread nD τ))) :
    Σ' (L4 : List (View.Piece (Elt F) S512x1024 .f32)), Σ' (LS0 : List (View.Piece (Elt F) S512x1024 .f32)), Σ' (LS1 : List (View.Piece (Elt F) S1024x2816 .bf16)), Σ' (LS2 : List (View.Piece (Elt F) S1024x2816 .bf16)), { LS3 : List (View.Piece (Elt F) S2x2816x512 .bf16) //
      ∀ (W : Waits sig Unit) (K : PUnit → sProp 𝕄),
        iprop(owns (c : Thread nD τ) arg1 fullShare x0 ∗ owns (c : Thread nD τ) arg2 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (arg13.view.loc (c : Thread nD τ) ↦[arg13.view.set]{fullShare} fs4) ∗ (arg14.view.loc (c : Thread nD τ) ↦[arg14.view.set]{fullShare} fs5) ∗ (arg15.view.loc (c : Thread nD τ) ↦[arg15.view.set]{fullShare} fs6) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_ln_post i arg1 harg1 arg2 harg2 (Memref.whole main_arg1) (Memref.isWhole_whole _) (Memref.whole main_arg2) (Memref.isWhole_whole _) (Memref.whole main_arg3) (Memref.isWhole_whole _) arg6 harg6 arg7 harg7 arg8 harg8 arg9 harg9 arg10 harg10 arg11 harg11 arg12 harg12 arg13 harg13 arg14 harg14 arg15 harg15 cc0_scratch7) K } := by
  refine ⟨?_, ?_, ?_, ?_, ?_, fun W K => ?run⟩
  case run =>
    simp only [cc0_ffn_ln_post_eq_skeleton]; unfold cc0_ffn_ln_post_skel
    simp only [k0_part38_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, HS4, HS5, HS6, Hq0, Hq1, Hq2, Hq3, Hq4, Hq5, Hh0, Hh1, Hh2, HW, Hk⟩
    obtain rfl := harg1.eq_unread hf0; obtain rfl := harg2.eq_unread hf1; obtain rfl := harg6.eq_unread hf2; obtain rfl := harg7.eq_unread hf3
    sl_exec_parts (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]; · iexists _; iexact HS0
    isplitl [HS1]; · iexists _; iexact HS1
    isplitl [HS2]; · iexists _; iexact HS2
    isplitl [HS3]; · iexists _; iexact HS3
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    iexists _; iexact HW

end Cert.Ffn

end
-- ==== Proof.Ffn.Stage.lean ====
module

public import Idealize.ShloMosaic.Lib.Pipeline.ValueKit

@[expose] public section

/-! A staging buffer of two slots, filled one slot at a time through the slot's own view: what a load of a slot reads. -/

namespace Cert.Ffn

open Idealize.ShloMosaic

variable {sig : RefSig} {κ : Kind} {sp : Space} {s s' : Shape} {e : EltTy} {Val : EltTy → Type}

/-- A slot loaded after it was filled holds what it was filled with. -/
theorem stage_hit (M : Memref sig κ sp s e) (r : Rect s) (hr : ∀ a, r.stride a = 1) (hq : r.shape.Squeezes s')
    (hc : s'.ShapeCasts r.shape) (f : M.view.ty.Contents Val) (p : s'.Idx → Val e) :
    M.view.readAt Val r.toLoadRect (((M.slice r hr).squeeze s' hq).view.write Val f p Finset.univ) = shapeCast r.shape p hc := by
  funext y
  have h := congrFun (View.read_write_univ (v := ((M.slice r hr).squeeze s' hq).view) (Val := Val) f p) (Shape.reshapeEquiv hc y)
  refine Eq.trans ?_ h
  show _ = M.view.read Val _ (r.emb (Shape.reshapeEquiv hq.numel_eq (Shape.reshapeEquiv hc y)))
  rw [Shape.reshapeEquiv_reshapeEquiv, Shape.reshapeEquiv_self]
  rfl

/-- A slot loaded after another slot was filled holds what it held before. -/
theorem stage_miss (M : Memref sig κ sp s e) (off off' size : Fin s.rank → ℕ) (inb : ∀ a, off a + size a ≤ s.size a)
    (inb' : ∀ a, off' a + size a ≤ s.size a) (hr : ∀ a, (Rect.unit off' size inb').stride a = 1)
    (hq : (Rect.unit off' size inb').shape.Squeezes s') (f : M.view.ty.Contents Val) (p : s'.Idx → Val e)
    (h : ∃ a, off a + size a ≤ off' a ∨ off' a + size a ≤ off a) :
    M.view.readAt Val (Rect.unit off size inb).toLoadRect
        (((M.slice (Rect.unit off' size inb') hr).squeeze s' hq).view.write Val f p Finset.univ)
      = M.view.readAt Val (Rect.unit off size inb).toLoadRect f := by
  funext y
  rw [View.readAt_apply, View.readAt_apply, View.read_apply, View.read_apply, View.write_of_not_mem]
  intro hm
  obtain ⟨z, -, hz⟩ := Finset.mem_map.mp hm
  have hz' := M.view.emb.injective (show M.view.emb ((Rect.unit off' size inb').emb (Shape.reshapeEquiv hq.numel_eq z))
    = M.view.emb ((Rect.unit off size inb).emb y) from hz)
  obtain ⟨a, ha⟩ := h
  have hv := congrArg Fin.val (congrFun hz' a)
  rw [Rect.emb_apply, Rect.emb_apply] at hv
  have h1 := (Shape.reshapeEquiv hq.numel_eq z a).isLt
  have h2 := (y a).isLt
  simp only [Rect.unit, Nat.mul_one] at hv h1 h2
  omega

end Cert.Ffn
-- ==== Proof.Ffn.Indep.lean ====
module

public import proofs.«01_k».proof.Proof.Ffn.RunA
public import proofs.«01_k».proof.Proof.Ffn.Stage

@[expose] public section

/-! At point 0 every weight chunk is loaded from the slot a copy has just filled: the loads, and all that is computed from
them, do not depend on what the staging buffers held before. `st_*` say which copy a load reads, `ind_*` the independence. -/

set_option maxRecDepth 16384

noncomputable section

namespace Cert.Ffn

open Cert.Kernel2Ideal Cert.Kernel2Ideal.Gen
open Idealize.ShloMosaic Idealize.ShloMosaic.TcCoe
open Idealize.SL Idealize.SL.Sem
open kernelRun0_Ax

variable {F : FTy → Type} [FloatOps F]

variable {c : Dev nD}
variable {arg1 : Memref sig .tc .vmem S512x1024 .f32} {harg1 : arg1.IsWhole}
variable {arg2 : Memref sig .tc .vmem S512x1024 .f32} {harg2 : arg2.IsWhole}
variable {arg6 : Memref sig .tc .vmem S1x1024 .f32} {harg6 : arg6.IsWhole}
variable {arg7 : Memref sig .tc .vmem S1x1024 .f32} {harg7 : arg7.IsWhole}
variable {arg9 : Memref sig .tc .vmem S512x1024 .f32}
variable {arg10 : Memref sig .tc .vmem S1024x2816 .bf16}
variable {arg11 : Memref sig .tc .vmem S1024x2816 .bf16}
variable {arg12 : Memref sig .tc .vmem S2x2816x512 .bf16} {harg12 : arg12.IsWhole}
variable {arg13 : Memref sig .tc .vmem S2x1024x256 .f32}
variable {arg14 : Memref sig .tc .vmem S2x1024x256 .f32}
variable {arg15 : Memref sig .tc .vmem S2x256x1024 .f32}
variable {x0 x1 : Vec F S512x1024 .f32} {x2 x3 : Vec F S1x1024 .f32}
variable {fh0 : HbBuf0 (F := F) c hbM0_0} {fh1 : HbBuf0 (F := F) c hbM0_1} {fh2 : HbBuf0 (F := F) c hbM0_2}
variable {fs4 gs4 : Buf (Elt F) (arg13.view.loc (c : Thread nD τ))} {fs5 gs5 : Buf (Elt F) (arg14.view.loc (c : Thread nD τ))}
  {fs6 gs6 : Buf (Elt F) (arg15.view.loc (c : Thread nD τ))}

theorem st_v64 : sl.v64 c arg13 fh0 fs4 = shapeCast S1x1024x256 (sl.dma2 c fh0) (by decide) := by
  unfold sl.v64
  refine (stage_miss _ _ _ _ _ _ _ _ _ _ ⟨(0 : Fin 3), Or.inl (by decide)⟩).trans ?_
  exact stage_hit _ _ _ _ _ _ _

theorem ind_v64 : sl.v64 c arg13 fh0 fs4 = sl.v64 c arg13 fh0 gs4 := st_v64.trans st_v64.symm

theorem ind_HS1_1 : sl.HS1_1 c arg13 fh0 fs4 = sl.HS1_1 c arg13 fh0 gs4 := by
  unfold sl.HS1_1
  rw [ind_v64 (fs4 := fs4) (gs4 := gs4)]

theorem ind_v88 : sl.v88 c arg10 arg13 fh0 fs4 = sl.v88 c arg10 arg13 fh0 gs4 := by
  unfold sl.v88
  rw [ind_HS1_1 (fs4 := fs4) (gs4 := gs4)]

theorem st_v70 : sl.v70 c arg14 fh1 fs5 = shapeCast S1x1024x256 (sl.dma2_1 c fh1) (by decide) := by
  unfold sl.v70
  refine (stage_miss _ _ _ _ _ _ _ _ _ _ ⟨(0 : Fin 3), Or.inl (by decide)⟩).trans ?_
  exact stage_hit _ _ _ _ _ _ _

theorem ind_v70 : sl.v70 c arg14 fh1 fs5 = sl.v70 c arg14 fh1 gs5 := st_v70.trans st_v70.symm

theorem ind_HS2_1 : sl.HS2_1 c arg14 fh1 fs5 = sl.HS2_1 c arg14 fh1 gs5 := by
  unfold sl.HS2_1
  rw [ind_v70 (fs5 := fs5) (gs5 := gs5)]

theorem ind_v90 : sl.v90 c arg11 arg14 fh1 fs5 = sl.v90 c arg11 arg14 fh1 gs5 := by
  unfold sl.v90
  rw [ind_HS2_1 (fs5 := fs5) (gs5 := gs5)]

theorem st_v76 : sl.v76 c arg15 fh2 fs6 = shapeCast S1x256x1024 (sl.dma2_2 c fh2) (by decide) := by
  unfold sl.v76
  refine (stage_miss _ _ _ _ _ _ _ _ _ _ ⟨(0 : Fin 3), Or.inl (by decide)⟩).trans ?_
  exact stage_hit _ _ _ _ _ _ _

theorem ind_v76 : sl.v76 c arg15 fh2 fs6 = sl.v76 c arg15 fh2 gs6 := st_v76.trans st_v76.symm

theorem ind_HS3_2 : sl.HS3_2 c arg15 fh2 fs6 = sl.HS3_2 c arg15 fh2 gs6 := by
  unfold sl.HS3_2
  rw [ind_v76 (fs6 := fs6) (gs6 := gs6)]

theorem ind_v99 : sl.v99 c arg12 arg15 fh2 fs6 = sl.v99 c arg12 arg15 fh2 gs6 := by
  unfold sl.v99
  rw [ind_HS3_2 (fs6 := fs6) (gs6 := gs6)]

theorem ind_v102 : sl.v102 c arg12 arg15 fh2 fs6 = sl.v102 c arg12 arg15 fh2 gs6 := by
  unfold sl.v102
  rw [ind_HS3_2 (fs6 := fs6) (gs6 := gs6)]

theorem ind_r_1 : sl.r_1 c arg1 harg1 arg10 arg11 arg12 arg13 arg14 arg15 x0 fh0 fh1 fh2 fs4 fs5 fs6 = sl.r_1 c arg1 harg1 arg10 arg11 arg12 arg13 arg14 arg15 x0 fh0 fh1 fh2 gs4 gs5 gs6 := by
  unfold sl.r_1
  rw [ind_v88 (fs4 := fs4) (gs4 := gs4), ind_v90 (fs5 := fs5) (gs5 := gs5), ind_v99 (fs6 := fs6) (gs6 := gs6), ind_v102 (fs6 := fs6) (gs6 := gs6)]

theorem st_v137 : sl.v137 c arg13 fh0 fs4 = shapeCast S1x1024x256 (sl.dma3 c fh0) (by decide) := by
  unfold sl.v137
  refine (stage_miss _ _ _ _ _ _ _ _ _ _ ⟨(0 : Fin 3), Or.inr (by decide)⟩).trans ?_
  exact stage_hit _ _ _ _ _ _ _

theorem ind_v137 : sl.v137 c arg13 fh0 fs4 = sl.v137 c arg13 fh0 gs4 := st_v137.trans st_v137.symm

theorem ind_r_2 : sl.r_2 c arg13 fh0 fs4 = sl.r_2 c arg13 fh0 gs4 := by
  unfold sl.r_2
  rw [ind_v137 (fs4 := fs4) (gs4 := gs4)]

theorem ind_HS1_2 : sl.HS1_2 c arg13 fh0 fs4 = sl.HS1_2 c arg13 fh0 gs4 := by
  unfold sl.HS1_2
  rw [ind_r_2 (fs4 := fs4) (gs4 := gs4), ind_HS1_1 (fs4 := fs4) (gs4 := gs4)]

theorem ind_v161 : sl.v161 c arg10 arg13 fh0 fs4 = sl.v161 c arg10 arg13 fh0 gs4 := by
  unfold sl.v161
  rw [ind_HS1_2 (fs4 := fs4) (gs4 := gs4)]

theorem st_v143 : sl.v143 c arg14 fh1 fs5 = shapeCast S1x1024x256 (sl.dma3_1 c fh1) (by decide) := by
  unfold sl.v143
  refine (stage_miss _ _ _ _ _ _ _ _ _ _ ⟨(0 : Fin 3), Or.inr (by decide)⟩).trans ?_
  exact stage_hit _ _ _ _ _ _ _

theorem ind_v143 : sl.v143 c arg14 fh1 fs5 = sl.v143 c arg14 fh1 gs5 := st_v143.trans st_v143.symm

theorem ind_HS2_2 : sl.HS2_2 c arg14 fh1 fs5 = sl.HS2_2 c arg14 fh1 gs5 := by
  unfold sl.HS2_2
  rw [ind_v143 (fs5 := fs5) (gs5 := gs5), ind_HS2_1 (fs5 := fs5) (gs5 := gs5)]

theorem ind_v163 : sl.v163 c arg11 arg14 fh1 fs5 = sl.v163 c arg11 arg14 fh1 gs5 := by
  unfold sl.v163
  rw [ind_HS2_2 (fs5 := fs5) (gs5 := gs5)]

theorem ind_r_3 : sl.r_3 c arg1 harg1 arg10 arg11 arg13 arg14 x0 fh0 fh1 fs4 fs5 = sl.r_3 c arg1 harg1 arg10 arg11 arg13 arg14 x0 fh0 fh1 gs4 gs5 := by
  unfold sl.r_3
  rw [ind_v161 (fs4 := fs4) (gs4 := gs4), ind_v163 (fs5 := fs5) (gs5 := gs5)]

theorem st_v149 : sl.v149 c arg15 fh2 fs6 = shapeCast S1x256x1024 (sl.dma3_2 c fh2) (by decide) := by
  unfold sl.v149
  refine (stage_miss _ _ _ _ _ _ _ _ _ _ ⟨(0 : Fin 3), Or.inr (by decide)⟩).trans ?_
  exact stage_hit _ _ _ _ _ _ _

theorem ind_v149 : sl.v149 c arg15 fh2 fs6 = sl.v149 c arg15 fh2 gs6 := st_v149.trans st_v149.symm

theorem ind_HS3_4 : sl.HS3_4 c arg15 fh2 fs6 = sl.HS3_4 c arg15 fh2 gs6 := by
  unfold sl.HS3_4
  rw [ind_v149 (fs6 := fs6) (gs6 := gs6), ind_HS3_2 (fs6 := fs6) (gs6 := gs6)]

theorem ind_v172 : sl.v172 c arg12 arg15 fh2 fs6 = sl.v172 c arg12 arg15 fh2 gs6 := by
  unfold sl.v172
  rw [ind_HS3_4 (fs6 := fs6) (gs6 := gs6)]

theorem ind_v175 : sl.v175 c arg12 arg15 fh2 fs6 = sl.v175 c arg12 arg15 fh2 gs6 := by
  unfold sl.v175
  rw [ind_HS3_4 (fs6 := fs6) (gs6 := gs6)]

theorem ind_r_4 : sl.r_4 c arg1 harg1 arg10 arg11 arg12 arg13 arg14 arg15 x0 fh0 fh1 fh2 fs4 fs5 fs6 = sl.r_4 c arg1 harg1 arg10 arg11 arg12 arg13 arg14 arg15 x0 fh0 fh1 fh2 gs4 gs5 gs6 := by
  unfold sl.r_4
  rw [ind_r_1 (fs4 := fs4) (gs4 := gs4) (fs5 := fs5) (gs5 := gs5) (fs6 := fs6) (gs6 := gs6), ind_r_3 (fs4 := fs4) (gs4 := gs4) (fs5 := fs5) (gs5 := gs5), ind_v172 (fs6 := fs6) (gs6 := gs6), ind_v175 (fs6 := fs6) (gs6 := gs6)]

theorem st_v210 : sl.v210 c arg13 fh0 fs4 = shapeCast S1x1024x256 (sl.dma18 c fh0) (by decide) := by
  unfold sl.v210
  refine (stage_miss _ _ _ _ _ _ _ _ _ _ ⟨(0 : Fin 3), Or.inl (by decide)⟩).trans ?_
  exact stage_hit _ _ _ _ _ _ _

theorem ind_v210 : sl.v210 c arg13 fh0 fs4 = sl.v210 c arg13 fh0 gs4 := st_v210.trans st_v210.symm

theorem ind_HS1_3 : sl.HS1_3 c arg13 fh0 fs4 = sl.HS1_3 c arg13 fh0 gs4 := by
  unfold sl.HS1_3
  rw [ind_v210 (fs4 := fs4) (gs4 := gs4), ind_HS1_2 (fs4 := fs4) (gs4 := gs4)]

theorem ind_v234 : sl.v234 c arg10 arg13 fh0 fs4 = sl.v234 c arg10 arg13 fh0 gs4 := by
  unfold sl.v234
  rw [ind_HS1_3 (fs4 := fs4) (gs4 := gs4)]

theorem st_v216 : sl.v216 c arg14 fh1 fs5 = shapeCast S1x1024x256 (sl.dma18_1 c fh1) (by decide) := by
  unfold sl.v216
  refine (stage_miss _ _ _ _ _ _ _ _ _ _ ⟨(0 : Fin 3), Or.inl (by decide)⟩).trans ?_
  exact stage_hit _ _ _ _ _ _ _

theorem ind_v216 : sl.v216 c arg14 fh1 fs5 = sl.v216 c arg14 fh1 gs5 := st_v216.trans st_v216.symm

theorem ind_HS2_3 : sl.HS2_3 c arg14 fh1 fs5 = sl.HS2_3 c arg14 fh1 gs5 := by
  unfold sl.HS2_3
  rw [ind_v216 (fs5 := fs5) (gs5 := gs5), ind_HS2_2 (fs5 := fs5) (gs5 := gs5)]

theorem ind_v236 : sl.v236 c arg11 arg14 fh1 fs5 = sl.v236 c arg11 arg14 fh1 gs5 := by
  unfold sl.v236
  rw [ind_HS2_3 (fs5 := fs5) (gs5 := gs5)]

theorem st_v222 : sl.v222 c arg15 fh2 fs6 = shapeCast S1x256x1024 (sl.dma18_2 c fh2) (by decide) := by
  unfold sl.v222
  refine (stage_miss _ _ _ _ _ _ _ _ _ _ ⟨(0 : Fin 3), Or.inl (by decide)⟩).trans ?_
  exact stage_hit _ _ _ _ _ _ _

theorem ind_v222 : sl.v222 c arg15 fh2 fs6 = sl.v222 c arg15 fh2 gs6 := st_v222.trans st_v222.symm

theorem ind_r_5 : sl.r_5 c arg15 fh2 fs6 = sl.r_5 c arg15 fh2 gs6 := by
  unfold sl.r_5
  rw [ind_v222 (fs6 := fs6) (gs6 := gs6)]

theorem ind_r_6 : sl.r_6 c arg15 fh2 fs6 = sl.r_6 c arg15 fh2 gs6 := by
  unfold sl.r_6
  rw [ind_v222 (fs6 := fs6) (gs6 := gs6)]

theorem ind_HS3_6 : sl.HS3_6 c arg15 fh2 fs6 = sl.HS3_6 c arg15 fh2 gs6 := by
  unfold sl.HS3_6
  rw [ind_r_5 (fs6 := fs6) (gs6 := gs6), ind_r_6 (fs6 := fs6) (gs6 := gs6), ind_HS3_4 (fs6 := fs6) (gs6 := gs6)]

theorem ind_v245 : sl.v245 c arg12 arg15 fh2 fs6 = sl.v245 c arg12 arg15 fh2 gs6 := by
  unfold sl.v245
  rw [ind_HS3_6 (fs6 := fs6) (gs6 := gs6)]

theorem ind_v248 : sl.v248 c arg12 arg15 fh2 fs6 = sl.v248 c arg12 arg15 fh2 gs6 := by
  unfold sl.v248
  rw [ind_HS3_6 (fs6 := fs6) (gs6 := gs6)]

theorem ind_r_9 : sl.r_9 c arg1 harg1 arg10 arg11 arg12 arg13 arg14 arg15 x0 fh0 fh1 fh2 fs4 fs5 fs6 = sl.r_9 c arg1 harg1 arg10 arg11 arg12 arg13 arg14 arg15 x0 fh0 fh1 fh2 gs4 gs5 gs6 := by
  unfold sl.r_9
  rw [ind_r_4 (fs4 := fs4) (gs4 := gs4) (fs5 := fs5) (gs5 := gs5) (fs6 := fs6) (gs6 := gs6), ind_v234 (fs4 := fs4) (gs4 := gs4), ind_v236 (fs5 := fs5) (gs5 := gs5), ind_v245 (fs6 := fs6) (gs6 := gs6), ind_v248 (fs6 := fs6) (gs6 := gs6)]

theorem ind_H4_1 : sl.H4_1 c arg1 harg1 arg2 harg2 arg6 harg6 arg7 harg7 arg9 arg10 arg11 arg12 arg13 arg14 arg15 x0 x1 x2 x3 fh0 fh1 fh2 fs4 fs5 fs6 = sl.H4_1 c arg1 harg1 arg2 harg2 arg6 harg6 arg7 harg7 arg9 arg10 arg11 arg12 arg13 arg14 arg15 x0 x1 x2 x3 fh0 fh1 fh2 gs4 gs5 gs6 := by
  unfold sl.H4_1
  rw [ind_r_9 (fs4 := fs4) (gs4 := gs4) (fs5 := fs5) (gs5 := gs5) (fs6 := fs6) (gs6 := gs6)]

theorem ind_r_7 : sl.r_7 c arg1 harg1 arg10 arg11 arg12 arg13 arg14 arg15 x0 fh0 fh1 fh2 fs4 fs5 fs6 = sl.r_7 c arg1 harg1 arg10 arg11 arg12 arg13 arg14 arg15 x0 fh0 fh1 fh2 gs4 gs5 gs6 := by
  unfold sl.r_7
  rw [ind_r_4 (fs4 := fs4) (gs4 := gs4) (fs5 := fs5) (gs5 := gs5) (fs6 := fs6) (gs6 := gs6), ind_v234 (fs4 := fs4) (gs4 := gs4), ind_v236 (fs5 := fs5) (gs5 := gs5), ind_v245 (fs6 := fs6) (gs6 := gs6), ind_v248 (fs6 := fs6) (gs6 := gs6)]

theorem st_v325 : sl.v325 c arg13 fh0 fs4 = shapeCast S1x1024x256 (sl.dma33 c fh0) (by decide) := by
  unfold sl.v325
  refine (stage_miss _ _ _ _ _ _ _ _ _ _ ⟨(0 : Fin 3), Or.inr (by decide)⟩).trans ?_
  exact stage_hit _ _ _ _ _ _ _

theorem ind_v325 : sl.v325 c arg13 fh0 fs4 = sl.v325 c arg13 fh0 gs4 := st_v325.trans st_v325.symm

theorem ind_HS1_4 : sl.HS1_4 c arg13 fh0 fs4 = sl.HS1_4 c arg13 fh0 gs4 := by
  unfold sl.HS1_4
  rw [ind_v325 (fs4 := fs4) (gs4 := gs4), ind_HS1_3 (fs4 := fs4) (gs4 := gs4)]

theorem ind_v349 : sl.v349 c arg10 arg13 fh0 fs4 = sl.v349 c arg10 arg13 fh0 gs4 := by
  unfold sl.v349
  rw [ind_HS1_4 (fs4 := fs4) (gs4 := gs4)]

theorem st_v331 : sl.v331 c arg14 fh1 fs5 = shapeCast S1x1024x256 (sl.dma33_1 c fh1) (by decide) := by
  unfold sl.v331
  refine (stage_miss _ _ _ _ _ _ _ _ _ _ ⟨(0 : Fin 3), Or.inr (by decide)⟩).trans ?_
  exact stage_hit _ _ _ _ _ _ _

theorem ind_v331 : sl.v331 c arg14 fh1 fs5 = sl.v331 c arg14 fh1 gs5 := st_v331.trans st_v331.symm

theorem ind_HS2_4 : sl.HS2_4 c arg14 fh1 fs5 = sl.HS2_4 c arg14 fh1 gs5 := by
  unfold sl.HS2_4
  rw [ind_v331 (fs5 := fs5) (gs5 := gs5), ind_HS2_3 (fs5 := fs5) (gs5 := gs5)]

theorem ind_v351 : sl.v351 c arg11 arg14 fh1 fs5 = sl.v351 c arg11 arg14 fh1 gs5 := by
  unfold sl.v351
  rw [ind_HS2_4 (fs5 := fs5) (gs5 := gs5)]

theorem st_v337 : sl.v337 c arg15 fh2 fs6 = shapeCast S1x256x1024 (sl.dma33_2 c fh2) (by decide) := by
  unfold sl.v337
  refine (stage_miss _ _ _ _ _ _ _ _ _ _ ⟨(0 : Fin 3), Or.inr (by decide)⟩).trans ?_
  exact stage_hit _ _ _ _ _ _ _

theorem ind_v337 : sl.v337 c arg15 fh2 fs6 = sl.v337 c arg15 fh2 gs6 := st_v337.trans st_v337.symm

theorem ind_HS3_8 : sl.HS3_8 c arg15 fh2 fs6 = sl.HS3_8 c arg15 fh2 gs6 := by
  unfold sl.HS3_8
  rw [ind_v337 (fs6 := fs6) (gs6 := gs6), ind_HS3_6 (fs6 := fs6) (gs6 := gs6)]

theorem ind_v360 : sl.v360 c arg12 arg15 fh2 fs6 = sl.v360 c arg12 arg15 fh2 gs6 := by
  unfold sl.v360
  rw [ind_HS3_8 (fs6 := fs6) (gs6 := gs6)]

theorem ind_v363 : sl.v363 c arg12 arg15 fh2 fs6 = sl.v363 c arg12 arg15 fh2 gs6 := by
  unfold sl.v363
  rw [ind_HS3_8 (fs6 := fs6) (gs6 := gs6)]

theorem ind_r_11 : sl.r_11 c arg1 harg1 arg2 harg2 arg9 arg10 arg11 arg12 arg13 arg14 arg15 x0 x1 fh0 fh1 fh2 fs4 fs5 fs6 = sl.r_11 c arg1 harg1 arg2 harg2 arg9 arg10 arg11 arg12 arg13 arg14 arg15 x0 x1 fh0 fh1 fh2 gs4 gs5 gs6 := by
  unfold sl.r_11
  rw [ind_r_7 (fs4 := fs4) (gs4 := gs4) (fs5 := fs5) (gs5 := gs5) (fs6 := fs6) (gs6 := gs6), ind_v349 (fs4 := fs4) (gs4 := gs4), ind_v351 (fs5 := fs5) (gs5 := gs5), ind_v360 (fs6 := fs6) (gs6 := gs6), ind_v363 (fs6 := fs6) (gs6 := gs6)]

theorem ind_H4_2 : sl.H4_2 c arg1 harg1 arg2 harg2 arg6 harg6 arg7 harg7 arg9 arg10 arg11 arg12 arg13 arg14 arg15 x0 x1 x2 x3 fh0 fh1 fh2 fs4 fs5 fs6 = sl.H4_2 c arg1 harg1 arg2 harg2 arg6 harg6 arg7 harg7 arg9 arg10 arg11 arg12 arg13 arg14 arg15 x0 x1 x2 x3 fh0 fh1 fh2 gs4 gs5 gs6 := by
  unfold sl.H4_2
  rw [ind_r_11 (fs4 := fs4) (gs4 := gs4) (fs5 := fs5) (gs5 := gs5) (fs6 := fs6) (gs6 := gs6), ind_H4_1 (fs4 := fs4) (gs4 := gs4) (fs5 := fs5) (gs5 := gs5) (fs6 := fs6) (gs6 := gs6)]

theorem ind_r_10 : sl.r_10 c arg1 harg1 arg10 arg11 arg12 arg13 arg14 arg15 x0 fh0 fh1 fh2 fs4 fs5 fs6 = sl.r_10 c arg1 harg1 arg10 arg11 arg12 arg13 arg14 arg15 x0 fh0 fh1 fh2 gs4 gs5 gs6 := by
  unfold sl.r_10
  rw [ind_r_7 (fs4 := fs4) (gs4 := gs4) (fs5 := fs5) (gs5 := gs5) (fs6 := fs6) (gs6 := gs6), ind_v349 (fs4 := fs4) (gs4 := gs4), ind_v351 (fs5 := fs5) (gs5 := gs5), ind_v360 (fs6 := fs6) (gs6 := gs6), ind_v363 (fs6 := fs6) (gs6 := gs6)]

theorem st_v440 : sl.v440 c arg13 fh0 fs4 = shapeCast S1x1024x256 (sl.dma54 c fh0) (by decide) := by
  unfold sl.v440
  refine (stage_miss _ _ _ _ _ _ _ _ _ _ ⟨(0 : Fin 3), Or.inl (by decide)⟩).trans ?_
  exact stage_hit _ _ _ _ _ _ _

theorem ind_v440 : sl.v440 c arg13 fh0 fs4 = sl.v440 c arg13 fh0 gs4 := st_v440.trans st_v440.symm

theorem ind_r_13 : sl.r_13 c arg13 fh0 fs4 = sl.r_13 c arg13 fh0 gs4 := by
  unfold sl.r_13
  rw [ind_v440 (fs4 := fs4) (gs4 := gs4)]

theorem ind_HS1_5 : sl.HS1_5 c arg13 fh0 fs4 = sl.HS1_5 c arg13 fh0 gs4 := by
  unfold sl.HS1_5
  rw [ind_r_13 (fs4 := fs4) (gs4 := gs4), ind_HS1_4 (fs4 := fs4) (gs4 := gs4)]

theorem ind_v464 : sl.v464 c arg10 arg13 fh0 fs4 = sl.v464 c arg10 arg13 fh0 gs4 := by
  unfold sl.v464
  rw [ind_HS1_5 (fs4 := fs4) (gs4 := gs4)]

theorem st_v446 : sl.v446 c arg14 fh1 fs5 = shapeCast S1x1024x256 (sl.dma54_1 c fh1) (by decide) := by
  unfold sl.v446
  refine (stage_miss _ _ _ _ _ _ _ _ _ _ ⟨(0 : Fin 3), Or.inl (by decide)⟩).trans ?_
  exact stage_hit _ _ _ _ _ _ _

theorem ind_v446 : sl.v446 c arg14 fh1 fs5 = sl.v446 c arg14 fh1 gs5 := st_v446.trans st_v446.symm

theorem ind_HS2_5 : sl.HS2_5 c arg14 fh1 fs5 = sl.HS2_5 c arg14 fh1 gs5 := by
  unfold sl.HS2_5
  rw [ind_v446 (fs5 := fs5) (gs5 := gs5), ind_HS2_4 (fs5 := fs5) (gs5 := gs5)]

theorem ind_v466 : sl.v466 c arg11 arg14 fh1 fs5 = sl.v466 c arg11 arg14 fh1 gs5 := by
  unfold sl.v466
  rw [ind_HS2_5 (fs5 := fs5) (gs5 := gs5)]

theorem ind_r_14 : sl.r_14 c arg1 harg1 arg10 arg11 arg13 arg14 x0 fh0 fh1 fs4 fs5 = sl.r_14 c arg1 harg1 arg10 arg11 arg13 arg14 x0 fh0 fh1 gs4 gs5 := by
  unfold sl.r_14
  rw [ind_v464 (fs4 := fs4) (gs4 := gs4), ind_v466 (fs5 := fs5) (gs5 := gs5)]

theorem st_v452 : sl.v452 c arg15 fh2 fs6 = shapeCast S1x256x1024 (sl.dma54_2 c fh2) (by decide) := by
  unfold sl.v452
  refine (stage_miss _ _ _ _ _ _ _ _ _ _ ⟨(0 : Fin 3), Or.inl (by decide)⟩).trans ?_
  exact stage_hit _ _ _ _ _ _ _

theorem ind_v452 : sl.v452 c arg15 fh2 fs6 = sl.v452 c arg15 fh2 gs6 := st_v452.trans st_v452.symm

theorem ind_HS3_10 : sl.HS3_10 c arg15 fh2 fs6 = sl.HS3_10 c arg15 fh2 gs6 := by
  unfold sl.HS3_10
  rw [ind_v452 (fs6 := fs6) (gs6 := gs6), ind_HS3_8 (fs6 := fs6) (gs6 := gs6)]

theorem ind_v475 : sl.v475 c arg12 arg15 fh2 fs6 = sl.v475 c arg12 arg15 fh2 gs6 := by
  unfold sl.v475
  rw [ind_HS3_10 (fs6 := fs6) (gs6 := gs6)]

theorem ind_v478 : sl.v478 c arg12 arg15 fh2 fs6 = sl.v478 c arg12 arg15 fh2 gs6 := by
  unfold sl.v478
  rw [ind_HS3_10 (fs6 := fs6) (gs6 := gs6)]

theorem ind_r_18 : sl.r_18 c arg1 harg1 arg2 harg2 arg9 arg10 arg11 arg12 arg13 arg14 arg15 x0 x1 fh0 fh1 fh2 fs4 fs5 fs6 = sl.r_18 c arg1 harg1 arg2 harg2 arg9 arg10 arg11 arg12 arg13 arg14 arg15 x0 x1 fh0 fh1 fh2 gs4 gs5 gs6 := by
  unfold sl.r_18
  rw [ind_r_10 (fs4 := fs4) (gs4 := gs4) (fs5 := fs5) (gs5 := gs5) (fs6 := fs6) (gs6 := gs6), ind_r_14 (fs4 := fs4) (gs4 := gs4) (fs5 := fs5) (gs5 := gs5), ind_v475 (fs6 := fs6) (gs6 := gs6), ind_v478 (fs6 := fs6) (gs6 := gs6)]

theorem ind_r_19 : sl.r_19 c arg1 harg1 arg2 harg2 arg9 arg10 arg11 arg12 arg13 arg14 arg15 x0 x1 fh0 fh1 fh2 fs4 fs5 fs6 = sl.r_19 c arg1 harg1 arg2 harg2 arg9 arg10 arg11 arg12 arg13 arg14 arg15 x0 x1 fh0 fh1 fh2 gs4 gs5 gs6 := by
  unfold sl.r_19
  rw [ind_r_10 (fs4 := fs4) (gs4 := gs4) (fs5 := fs5) (gs5 := gs5) (fs6 := fs6) (gs6 := gs6), ind_r_14 (fs4 := fs4) (gs4 := gs4) (fs5 := fs5) (gs5 := gs5), ind_v475 (fs6 := fs6) (gs6 := gs6), ind_v478 (fs6 := fs6) (gs6 := gs6)]

theorem ind_H4_3 : sl.H4_3 c arg1 harg1 arg2 harg2 arg6 harg6 arg7 harg7 arg9 arg10 arg11 arg12 arg13 arg14 arg15 x0 x1 x2 x3 fh0 fh1 fh2 fs4 fs5 fs6 = sl.H4_3 c arg1 harg1 arg2 harg2 arg6 harg6 arg7 harg7 arg9 arg10 arg11 arg12 arg13 arg14 arg15 x0 x1 x2 x3 fh0 fh1 fh2 gs4 gs5 gs6 := by
  unfold sl.H4_3
  rw [ind_r_18 (fs4 := fs4) (gs4 := gs4) (fs5 := fs5) (gs5 := gs5) (fs6 := fs6) (gs6 := gs6), ind_r_19 (fs4 := fs4) (gs4 := gs4) (fs5 := fs5) (gs5 := gs5) (fs6 := fs6) (gs6 := gs6), ind_H4_2 (fs4 := fs4) (gs4 := gs4) (fs5 := fs5) (gs5 := gs5) (fs6 := fs6) (gs6 := gs6)]

theorem ind_r_15 : sl.r_15 c arg1 harg1 arg10 arg11 arg12 arg13 arg14 arg15 x0 fh0 fh1 fh2 fs4 fs5 fs6 = sl.r_15 c arg1 harg1 arg10 arg11 arg12 arg13 arg14 arg15 x0 fh0 fh1 fh2 gs4 gs5 gs6 := by
  unfold sl.r_15
  rw [ind_r_10 (fs4 := fs4) (gs4 := gs4) (fs5 := fs5) (gs5 := gs5) (fs6 := fs6) (gs6 := gs6), ind_r_14 (fs4 := fs4) (gs4 := gs4) (fs5 := fs5) (gs5 := gs5), ind_v475 (fs6 := fs6) (gs6 := gs6), ind_v478 (fs6 := fs6) (gs6 := gs6)]

theorem st_v555 : sl.v555 c arg13 fh0 fs4 = shapeCast S1x1024x256 (sl.dma75 c fh0) (by decide) := by
  unfold sl.v555
  refine (stage_miss _ _ _ _ _ _ _ _ _ _ ⟨(0 : Fin 3), Or.inr (by decide)⟩).trans ?_
  exact stage_hit _ _ _ _ _ _ _

theorem ind_v555 : sl.v555 c arg13 fh0 fs4 = sl.v555 c arg13 fh0 gs4 := st_v555.trans st_v555.symm

theorem ind_HS1_6 : sl.HS1_6 c arg13 fh0 fs4 = sl.HS1_6 c arg13 fh0 gs4 := by
  unfold sl.HS1_6
  rw [ind_v555 (fs4 := fs4) (gs4 := gs4), ind_HS1_5 (fs4 := fs4) (gs4 := gs4)]

theorem ind_v579 : sl.v579 c arg10 arg13 fh0 fs4 = sl.v579 c arg10 arg13 fh0 gs4 := by
  unfold sl.v579
  rw [ind_HS1_6 (fs4 := fs4) (gs4 := gs4)]

theorem st_v561 : sl.v561 c arg14 fh1 fs5 = shapeCast S1x1024x256 (sl.dma75_1 c fh1) (by decide) := by
  unfold sl.v561
  refine (stage_miss _ _ _ _ _ _ _ _ _ _ ⟨(0 : Fin 3), Or.inr (by decide)⟩).trans ?_
  exact stage_hit _ _ _ _ _ _ _

theorem ind_v561 : sl.v561 c arg14 fh1 fs5 = sl.v561 c arg14 fh1 gs5 := st_v561.trans st_v561.symm

theorem ind_HS2_6 : sl.HS2_6 c arg14 fh1 fs5 = sl.HS2_6 c arg14 fh1 gs5 := by
  unfold sl.HS2_6
  rw [ind_v561 (fs5 := fs5) (gs5 := gs5), ind_HS2_5 (fs5 := fs5) (gs5 := gs5)]

theorem ind_v581 : sl.v581 c arg11 arg14 fh1 fs5 = sl.v581 c arg11 arg14 fh1 gs5 := by
  unfold sl.v581
  rw [ind_HS2_6 (fs5 := fs5) (gs5 := gs5)]

theorem st_v567 : sl.v567 c arg15 fh2 fs6 = shapeCast S1x256x1024 (sl.dma75_2 c fh2) (by decide) := by
  unfold sl.v567
  refine (stage_miss _ _ _ _ _ _ _ _ _ _ ⟨(0 : Fin 3), Or.inr (by decide)⟩).trans ?_
  exact stage_hit _ _ _ _ _ _ _

theorem ind_v567 : sl.v567 c arg15 fh2 fs6 = sl.v567 c arg15 fh2 gs6 := st_v567.trans st_v567.symm

theorem ind_HS3_12 : sl.HS3_12 c arg15 fh2 fs6 = sl.HS3_12 c arg15 fh2 gs6 := by
  unfold sl.HS3_12
  rw [ind_v567 (fs6 := fs6) (gs6 := gs6), ind_HS3_10 (fs6 := fs6) (gs6 := gs6)]

theorem ind_v590 : sl.v590 c arg12 arg15 fh2 fs6 = sl.v590 c arg12 arg15 fh2 gs6 := by
  unfold sl.v590
  rw [ind_HS3_12 (fs6 := fs6) (gs6 := gs6)]

theorem ind_v593 : sl.v593 c arg12 arg15 fh2 fs6 = sl.v593 c arg12 arg15 fh2 gs6 := by
  unfold sl.v593
  rw [ind_HS3_12 (fs6 := fs6) (gs6 := gs6)]

theorem ind_r_21 : sl.r_21 c arg1 harg1 arg10 arg11 arg12 arg13 arg14 arg15 x0 fh0 fh1 fh2 fs4 fs5 fs6 = sl.r_21 c arg1 harg1 arg10 arg11 arg12 arg13 arg14 arg15 x0 fh0 fh1 fh2 gs4 gs5 gs6 := by
  unfold sl.r_21
  rw [ind_r_15 (fs4 := fs4) (gs4 := gs4) (fs5 := fs5) (gs5 := gs5) (fs6 := fs6) (gs6 := gs6), ind_v579 (fs4 := fs4) (gs4 := gs4), ind_v581 (fs5 := fs5) (gs5 := gs5), ind_v590 (fs6 := fs6) (gs6 := gs6), ind_v593 (fs6 := fs6) (gs6 := gs6)]

theorem ind_r_23 : sl.r_23 c arg1 harg1 arg10 arg11 arg12 arg13 arg14 arg15 x0 fh0 fh1 fh2 fs4 fs5 fs6 = sl.r_23 c arg1 harg1 arg10 arg11 arg12 arg13 arg14 arg15 x0 fh0 fh1 fh2 gs4 gs5 gs6 := by
  unfold sl.r_23
  rw [ind_r_15 (fs4 := fs4) (gs4 := gs4) (fs5 := fs5) (gs5 := gs5) (fs6 := fs6) (gs6 := gs6), ind_v579 (fs4 := fs4) (gs4 := gs4), ind_v581 (fs5 := fs5) (gs5 := gs5), ind_v590 (fs6 := fs6) (gs6 := gs6), ind_v593 (fs6 := fs6) (gs6 := gs6)]

theorem ind_H4_4 : sl.H4_4 c arg1 harg1 arg2 harg2 arg6 harg6 arg7 harg7 arg9 arg10 arg11 arg12 arg13 arg14 arg15 x0 x1 x2 x3 fh0 fh1 fh2 fs4 fs5 fs6 = sl.H4_4 c arg1 harg1 arg2 harg2 arg6 harg6 arg7 harg7 arg9 arg10 arg11 arg12 arg13 arg14 arg15 x0 x1 x2 x3 fh0 fh1 fh2 gs4 gs5 gs6 := by
  unfold sl.H4_4
  rw [ind_r_21 (fs4 := fs4) (gs4 := gs4) (fs5 := fs5) (gs5 := gs5) (fs6 := fs6) (gs6 := gs6), ind_r_23 (fs4 := fs4) (gs4 := gs4) (fs5 := fs5) (gs5 := gs5) (fs6 := fs6) (gs6 := gs6), ind_H4_3 (fs4 := fs4) (gs4 := gs4) (fs5 := fs5) (gs5 := gs5) (fs6 := fs6) (gs6 := gs6)]

theorem ind_r_20 : sl.r_20 c arg1 harg1 arg10 arg11 arg12 arg13 arg14 arg15 x0 fh0 fh1 fh2 fs4 fs5 fs6 = sl.r_20 c arg1 harg1 arg10 arg11 arg12 arg13 arg14 arg15 x0 fh0 fh1 fh2 gs4 gs5 gs6 := by
  unfold sl.r_20
  rw [ind_r_15 (fs4 := fs4) (gs4 := gs4) (fs5 := fs5) (gs5 := gs5) (fs6 := fs6) (gs6 := gs6), ind_v579 (fs4 := fs4) (gs4 := gs4), ind_v581 (fs5 := fs5) (gs5 := gs5), ind_v590 (fs6 := fs6) (gs6 := gs6), ind_v593 (fs6 := fs6) (gs6 := gs6)]

theorem st_v670 : sl.v670 c arg13 fh0 fs4 = shapeCast S1x1024x256 (sl.dma96 c fh0) (by decide) := by
  unfold sl.v670
  refine (stage_miss _ _ _ _ _ _ _ _ _ _ ⟨(0 : Fin 3), Or.inl (by decide)⟩).trans ?_
  exact stage_hit _ _ _ _ _ _ _

theorem ind_v670 : sl.v670 c arg13 fh0 fs4 = sl.v670 c arg13 fh0 gs4 := st_v670.trans st_v670.symm

theorem ind_HS1_7 : sl.HS1_7 c arg13 fh0 fs4 = sl.HS1_7 c arg13 fh0 gs4 := by
  unfold sl.HS1_7
  rw [ind_v670 (fs4 := fs4) (gs4 := gs4), ind_HS1_6 (fs4 := fs4) (gs4 := gs4)]

theorem ind_v694 : sl.v694 c arg10 arg13 fh0 fs4 = sl.v694 c arg10 arg13 fh0 gs4 := by
  unfold sl.v694
  rw [ind_HS1_7 (fs4 := fs4) (gs4 := gs4)]

theorem st_v676 : sl.v676 c arg14 fh1 fs5 = shapeCast S1x1024x256 (sl.dma96_1 c fh1) (by decide) := by
  unfold sl.v676
  refine (stage_miss _ _ _ _ _ _ _ _ _ _ ⟨(0 : Fin 3), Or.inl (by decide)⟩).trans ?_
  exact stage_hit _ _ _ _ _ _ _

theorem ind_v676 : sl.v676 c arg14 fh1 fs5 = sl.v676 c arg14 fh1 gs5 := st_v676.trans st_v676.symm

theorem ind_HS2_7 : sl.HS2_7 c arg14 fh1 fs5 = sl.HS2_7 c arg14 fh1 gs5 := by
  unfold sl.HS2_7
  rw [ind_v676 (fs5 := fs5) (gs5 := gs5), ind_HS2_6 (fs5 := fs5) (gs5 := gs5)]

theorem ind_v696 : sl.v696 c arg11 arg14 fh1 fs5 = sl.v696 c arg11 arg14 fh1 gs5 := by
  unfold sl.v696
  rw [ind_HS2_7 (fs5 := fs5) (gs5 := gs5)]

theorem st_v682 : sl.v682 c arg15 fh2 fs6 = shapeCast S1x256x1024 (sl.dma96_2 c fh2) (by decide) := by
  unfold sl.v682
  refine (stage_miss _ _ _ _ _ _ _ _ _ _ ⟨(0 : Fin 3), Or.inl (by decide)⟩).trans ?_
  exact stage_hit _ _ _ _ _ _ _

theorem ind_v682 : sl.v682 c arg15 fh2 fs6 = sl.v682 c arg15 fh2 gs6 := st_v682.trans st_v682.symm

theorem ind_r_24 : sl.r_24 c arg15 fh2 fs6 = sl.r_24 c arg15 fh2 gs6 := by
  unfold sl.r_24
  rw [ind_v682 (fs6 := fs6) (gs6 := gs6)]

theorem ind_HS3_13 : sl.HS3_13 c arg15 fh2 fs6 = sl.HS3_13 c arg15 fh2 gs6 := by
  unfold sl.HS3_13
  rw [ind_v682 (fs6 := fs6) (gs6 := gs6), ind_HS3_12 (fs6 := fs6) (gs6 := gs6)]

theorem ind_HS3_14 : sl.HS3_14 c arg15 fh2 fs6 = sl.HS3_14 c arg15 fh2 gs6 := by
  unfold sl.HS3_14
  rw [ind_r_24 (fs6 := fs6) (gs6 := gs6), ind_HS3_13 (fs6 := fs6) (gs6 := gs6)]

theorem ind_v705 : sl.v705 c arg12 arg15 fh2 fs6 = sl.v705 c arg12 arg15 fh2 gs6 := by
  unfold sl.v705
  rw [ind_HS3_14 (fs6 := fs6) (gs6 := gs6)]

theorem ind_v708 : sl.v708 c arg12 arg15 fh2 fs6 = sl.v708 c arg12 arg15 fh2 gs6 := by
  unfold sl.v708
  rw [ind_HS3_14 (fs6 := fs6) (gs6 := gs6)]

theorem ind_r_26 : sl.r_26 c arg1 harg1 arg2 harg2 arg9 arg10 arg11 arg12 arg13 arg14 arg15 x0 x1 fh0 fh1 fh2 fs4 fs5 fs6 = sl.r_26 c arg1 harg1 arg2 harg2 arg9 arg10 arg11 arg12 arg13 arg14 arg15 x0 x1 fh0 fh1 fh2 gs4 gs5 gs6 := by
  unfold sl.r_26
  rw [ind_r_20 (fs4 := fs4) (gs4 := gs4) (fs5 := fs5) (gs5 := gs5) (fs6 := fs6) (gs6 := gs6), ind_v694 (fs4 := fs4) (gs4 := gs4), ind_v696 (fs5 := fs5) (gs5 := gs5), ind_v705 (fs6 := fs6) (gs6 := gs6), ind_v708 (fs6 := fs6) (gs6 := gs6)]

theorem ind_H4_5 : sl.H4_5 c arg1 harg1 arg2 harg2 arg6 harg6 arg7 harg7 arg9 arg10 arg11 arg12 arg13 arg14 arg15 x0 x1 x2 x3 fh0 fh1 fh2 fs4 fs5 fs6 = sl.H4_5 c arg1 harg1 arg2 harg2 arg6 harg6 arg7 harg7 arg9 arg10 arg11 arg12 arg13 arg14 arg15 x0 x1 x2 x3 fh0 fh1 fh2 gs4 gs5 gs6 := by
  unfold sl.H4_5
  rw [ind_r_26 (fs4 := fs4) (gs4 := gs4) (fs5 := fs5) (gs5 := gs5) (fs6 := fs6) (gs6 := gs6), ind_H4_4 (fs4 := fs4) (gs4 := gs4) (fs5 := fs5) (gs5 := gs5) (fs6 := fs6) (gs6 := gs6)]

theorem ind_r_25 : sl.r_25 c arg1 harg1 arg10 arg11 arg12 arg13 arg14 arg15 x0 fh0 fh1 fh2 fs4 fs5 fs6 = sl.r_25 c arg1 harg1 arg10 arg11 arg12 arg13 arg14 arg15 x0 fh0 fh1 fh2 gs4 gs5 gs6 := by
  unfold sl.r_25
  rw [ind_r_20 (fs4 := fs4) (gs4 := gs4) (fs5 := fs5) (gs5 := gs5) (fs6 := fs6) (gs6 := gs6), ind_v694 (fs4 := fs4) (gs4 := gs4), ind_v696 (fs5 := fs5) (gs5 := gs5), ind_v705 (fs6 := fs6) (gs6 := gs6), ind_v708 (fs6 := fs6) (gs6 := gs6)]

theorem st_v785 : sl.v785 c arg13 fh0 fs4 = shapeCast S1x1024x256 (sl.dma117 c fh0) (by decide) := by
  unfold sl.v785
  refine (stage_miss _ _ _ _ _ _ _ _ _ _ ⟨(0 : Fin 3), Or.inr (by decide)⟩).trans ?_
  exact stage_hit _ _ _ _ _ _ _

theorem ind_v785 : sl.v785 c arg13 fh0 fs4 = sl.v785 c arg13 fh0 gs4 := st_v785.trans st_v785.symm

theorem ind_v786 : sl.v786 c arg13 fh0 fs4 = sl.v786 c arg13 fh0 gs4 := by
  unfold sl.v786
  rw [ind_v785 (fs4 := fs4) (gs4 := gs4)]

theorem ind_HS1_8 : sl.HS1_8 c arg13 fh0 fs4 = sl.HS1_8 c arg13 fh0 gs4 := by
  unfold sl.HS1_8
  rw [ind_v786 (fs4 := fs4) (gs4 := gs4), ind_HS1_7 (fs4 := fs4) (gs4 := gs4)]

theorem ind_v809 : sl.v809 c arg10 arg13 fh0 fs4 = sl.v809 c arg10 arg13 fh0 gs4 := by
  unfold sl.v809
  rw [ind_HS1_8 (fs4 := fs4) (gs4 := gs4)]

theorem st_v791 : sl.v791 c arg14 fh1 fs5 = shapeCast S1x1024x256 (sl.dma117_1 c fh1) (by decide) := by
  unfold sl.v791
  refine (stage_miss _ _ _ _ _ _ _ _ _ _ ⟨(0 : Fin 3), Or.inr (by decide)⟩).trans ?_
  exact stage_hit _ _ _ _ _ _ _

theorem ind_v791 : sl.v791 c arg14 fh1 fs5 = sl.v791 c arg14 fh1 gs5 := st_v791.trans st_v791.symm

theorem ind_HS2_8 : sl.HS2_8 c arg14 fh1 fs5 = sl.HS2_8 c arg14 fh1 gs5 := by
  unfold sl.HS2_8
  rw [ind_v791 (fs5 := fs5) (gs5 := gs5), ind_HS2_7 (fs5 := fs5) (gs5 := gs5)]

theorem ind_v811 : sl.v811 c arg11 arg14 fh1 fs5 = sl.v811 c arg11 arg14 fh1 gs5 := by
  unfold sl.v811
  rw [ind_HS2_8 (fs5 := fs5) (gs5 := gs5)]

theorem ind_r_27 : sl.r_27 c arg1 harg1 arg10 arg11 arg13 arg14 x0 fh0 fh1 fs4 fs5 = sl.r_27 c arg1 harg1 arg10 arg11 arg13 arg14 x0 fh0 fh1 gs4 gs5 := by
  unfold sl.r_27
  rw [ind_v809 (fs4 := fs4) (gs4 := gs4), ind_v811 (fs5 := fs5) (gs5 := gs5)]

theorem st_v797 : sl.v797 c arg15 fh2 fs6 = shapeCast S1x256x1024 (sl.dma117_2 c fh2) (by decide) := by
  unfold sl.v797
  refine (stage_miss _ _ _ _ _ _ _ _ _ _ ⟨(0 : Fin 3), Or.inr (by decide)⟩).trans ?_
  exact stage_hit _ _ _ _ _ _ _

theorem ind_v797 : sl.v797 c arg15 fh2 fs6 = sl.v797 c arg15 fh2 gs6 := st_v797.trans st_v797.symm

theorem ind_HS3_16 : sl.HS3_16 c arg15 fh2 fs6 = sl.HS3_16 c arg15 fh2 gs6 := by
  unfold sl.HS3_16
  rw [ind_v797 (fs6 := fs6) (gs6 := gs6), ind_HS3_14 (fs6 := fs6) (gs6 := gs6)]

theorem ind_v820 : sl.v820 c arg12 arg15 fh2 fs6 = sl.v820 c arg12 arg15 fh2 gs6 := by
  unfold sl.v820
  rw [ind_HS3_16 (fs6 := fs6) (gs6 := gs6)]

theorem ind_v823 : sl.v823 c arg12 arg15 fh2 fs6 = sl.v823 c arg12 arg15 fh2 gs6 := by
  unfold sl.v823
  rw [ind_HS3_16 (fs6 := fs6) (gs6 := gs6)]

theorem ind_r_31 : sl.r_31 c arg1 harg1 arg2 harg2 arg9 arg10 arg11 arg12 arg13 arg14 arg15 x0 x1 fh0 fh1 fh2 fs4 fs5 fs6 = sl.r_31 c arg1 harg1 arg2 harg2 arg9 arg10 arg11 arg12 arg13 arg14 arg15 x0 x1 fh0 fh1 fh2 gs4 gs5 gs6 := by
  unfold sl.r_31
  rw [ind_r_25 (fs4 := fs4) (gs4 := gs4) (fs5 := fs5) (gs5 := gs5) (fs6 := fs6) (gs6 := gs6), ind_r_27 (fs4 := fs4) (gs4 := gs4) (fs5 := fs5) (gs5 := gs5), ind_v820 (fs6 := fs6) (gs6 := gs6), ind_v823 (fs6 := fs6) (gs6 := gs6)]

theorem ind_r_32 : sl.r_32 c arg1 harg1 arg2 harg2 arg9 arg10 arg11 arg12 arg13 arg14 arg15 x0 x1 fh0 fh1 fh2 fs4 fs5 fs6 = sl.r_32 c arg1 harg1 arg2 harg2 arg9 arg10 arg11 arg12 arg13 arg14 arg15 x0 x1 fh0 fh1 fh2 gs4 gs5 gs6 := by
  unfold sl.r_32
  rw [ind_r_25 (fs4 := fs4) (gs4 := gs4) (fs5 := fs5) (gs5 := gs5) (fs6 := fs6) (gs6 := gs6), ind_r_27 (fs4 := fs4) (gs4 := gs4) (fs5 := fs5) (gs5 := gs5), ind_v820 (fs6 := fs6) (gs6 := gs6), ind_v823 (fs6 := fs6) (gs6 := gs6)]

theorem ind_H4_6 : sl.H4_6 c arg1 harg1 arg2 harg2 arg6 harg6 arg7 harg7 arg9 arg10 arg11 arg12 arg13 arg14 arg15 x0 x1 x2 x3 fh0 fh1 fh2 fs4 fs5 fs6 = sl.H4_6 c arg1 harg1 arg2 harg2 arg6 harg6 arg7 harg7 arg9 arg10 arg11 arg12 arg13 arg14 arg15 x0 x1 x2 x3 fh0 fh1 fh2 gs4 gs5 gs6 := by
  unfold sl.H4_6
  rw [ind_r_31 (fs4 := fs4) (gs4 := gs4) (fs5 := fs5) (gs5 := gs5) (fs6 := fs6) (gs6 := gs6), ind_r_32 (fs4 := fs4) (gs4 := gs4) (fs5 := fs5) (gs5 := gs5) (fs6 := fs6) (gs6 := gs6), ind_H4_5 (fs4 := fs4) (gs4 := gs4) (fs5 := fs5) (gs5 := gs5) (fs6 := fs6) (gs6 := gs6)]

theorem ind_r_28 : sl.r_28 c arg1 harg1 arg10 arg11 arg12 arg13 arg14 arg15 x0 fh0 fh1 fh2 fs4 fs5 fs6 = sl.r_28 c arg1 harg1 arg10 arg11 arg12 arg13 arg14 arg15 x0 fh0 fh1 fh2 gs4 gs5 gs6 := by
  unfold sl.r_28
  rw [ind_r_25 (fs4 := fs4) (gs4 := gs4) (fs5 := fs5) (gs5 := gs5) (fs6 := fs6) (gs6 := gs6), ind_r_27 (fs4 := fs4) (gs4 := gs4) (fs5 := fs5) (gs5 := gs5), ind_v820 (fs6 := fs6) (gs6 := gs6), ind_v823 (fs6 := fs6) (gs6 := gs6)]

theorem st_v900 : sl.v900 c arg13 fh0 fs4 = shapeCast S1x1024x256 (sl.dma138 c fh0) (by decide) := by
  unfold sl.v900
  refine (stage_miss _ _ _ _ _ _ _ _ _ _ ⟨(0 : Fin 3), Or.inl (by decide)⟩).trans ?_
  exact stage_hit _ _ _ _ _ _ _

theorem ind_v900 : sl.v900 c arg13 fh0 fs4 = sl.v900 c arg13 fh0 gs4 := st_v900.trans st_v900.symm

theorem ind_HS1_9 : sl.HS1_9 c arg13 fh0 fs4 = sl.HS1_9 c arg13 fh0 gs4 := by
  unfold sl.HS1_9
  rw [ind_v900 (fs4 := fs4) (gs4 := gs4), ind_HS1_8 (fs4 := fs4) (gs4 := gs4)]

theorem ind_v924 : sl.v924 c arg10 arg13 fh0 fs4 = sl.v924 c arg10 arg13 fh0 gs4 := by
  unfold sl.v924
  rw [ind_HS1_9 (fs4 := fs4) (gs4 := gs4)]

theorem st_v906 : sl.v906 c arg14 fh1 fs5 = shapeCast S1x1024x256 (sl.dma138_1 c fh1) (by decide) := by
  unfold sl.v906
  refine (stage_miss _ _ _ _ _ _ _ _ _ _ ⟨(0 : Fin 3), Or.inl (by decide)⟩).trans ?_
  exact stage_hit _ _ _ _ _ _ _

theorem ind_v906 : sl.v906 c arg14 fh1 fs5 = sl.v906 c arg14 fh1 gs5 := st_v906.trans st_v906.symm

theorem ind_HS2_9 : sl.HS2_9 c arg14 fh1 fs5 = sl.HS2_9 c arg14 fh1 gs5 := by
  unfold sl.HS2_9
  rw [ind_v906 (fs5 := fs5) (gs5 := gs5), ind_HS2_8 (fs5 := fs5) (gs5 := gs5)]

theorem ind_v926 : sl.v926 c arg11 arg14 fh1 fs5 = sl.v926 c arg11 arg14 fh1 gs5 := by
  unfold sl.v926
  rw [ind_HS2_9 (fs5 := fs5) (gs5 := gs5)]

theorem st_v912 : sl.v912 c arg15 fh2 fs6 = shapeCast S1x256x1024 (sl.dma138_2 c fh2) (by decide) := by
  unfold sl.v912
  refine (stage_miss _ _ _ _ _ _ _ _ _ _ ⟨(0 : Fin 3), Or.inl (by decide)⟩).trans ?_
  exact stage_hit _ _ _ _ _ _ _

theorem ind_v912 : sl.v912 c arg15 fh2 fs6 = sl.v912 c arg15 fh2 gs6 := st_v912.trans st_v912.symm

theorem ind_HS3_18 : sl.HS3_18 c arg15 fh2 fs6 = sl.HS3_18 c arg15 fh2 gs6 := by
  unfold sl.HS3_18
  rw [ind_v912 (fs6 := fs6) (gs6 := gs6), ind_HS3_16 (fs6 := fs6) (gs6 := gs6)]

theorem ind_v935 : sl.v935 c arg12 arg15 fh2 fs6 = sl.v935 c arg12 arg15 fh2 gs6 := by
  unfold sl.v935
  rw [ind_HS3_18 (fs6 := fs6) (gs6 := gs6)]

theorem ind_v938 : sl.v938 c arg12 arg15 fh2 fs6 = sl.v938 c arg12 arg15 fh2 gs6 := by
  unfold sl.v938
  rw [ind_HS3_18 (fs6 := fs6) (gs6 := gs6)]

theorem ind_r_34 : sl.r_34 c arg1 harg1 arg10 arg11 arg12 arg13 arg14 arg15 x0 fh0 fh1 fh2 fs4 fs5 fs6 = sl.r_34 c arg1 harg1 arg10 arg11 arg12 arg13 arg14 arg15 x0 fh0 fh1 fh2 gs4 gs5 gs6 := by
  unfold sl.r_34
  rw [ind_r_28 (fs4 := fs4) (gs4 := gs4) (fs5 := fs5) (gs5 := gs5) (fs6 := fs6) (gs6 := gs6), ind_v924 (fs4 := fs4) (gs4 := gs4), ind_v926 (fs5 := fs5) (gs5 := gs5), ind_v935 (fs6 := fs6) (gs6 := gs6), ind_v938 (fs6 := fs6) (gs6 := gs6)]

theorem ind_H4_7 : sl.H4_7 c arg1 harg1 arg2 harg2 arg6 harg6 arg7 harg7 arg9 arg10 arg11 arg12 arg13 arg14 arg15 x0 x1 x2 x3 fh0 fh1 fh2 fs4 fs5 fs6 = sl.H4_7 c arg1 harg1 arg2 harg2 arg6 harg6 arg7 harg7 arg9 arg10 arg11 arg12 arg13 arg14 arg15 x0 x1 x2 x3 fh0 fh1 fh2 gs4 gs5 gs6 := by
  unfold sl.H4_7
  rw [ind_r_34 (fs4 := fs4) (gs4 := gs4) (fs5 := fs5) (gs5 := gs5) (fs6 := fs6) (gs6 := gs6), ind_H4_6 (fs4 := fs4) (gs4 := gs4) (fs5 := fs5) (gs5 := gs5) (fs6 := fs6) (gs6 := gs6)]

theorem ind_r_33 : sl.r_33 c arg1 harg1 arg10 arg11 arg12 arg13 arg14 arg15 x0 fh0 fh1 fh2 fs4 fs5 fs6 = sl.r_33 c arg1 harg1 arg10 arg11 arg12 arg13 arg14 arg15 x0 fh0 fh1 fh2 gs4 gs5 gs6 := by
  unfold sl.r_33
  rw [ind_r_28 (fs4 := fs4) (gs4 := gs4) (fs5 := fs5) (gs5 := gs5) (fs6 := fs6) (gs6 := gs6), ind_v924 (fs4 := fs4) (gs4 := gs4), ind_v926 (fs5 := fs5) (gs5 := gs5), ind_v935 (fs6 := fs6) (gs6 := gs6), ind_v938 (fs6 := fs6) (gs6 := gs6)]

theorem st_v1015 : sl.v1015 c arg13 fh0 fs4 = shapeCast S1x1024x256 (sl.dma159 c fh0) (by decide) := by
  unfold sl.v1015
  refine (stage_miss _ _ _ _ _ _ _ _ _ _ ⟨(0 : Fin 3), Or.inr (by decide)⟩).trans ?_
  exact stage_hit _ _ _ _ _ _ _

theorem ind_v1015 : sl.v1015 c arg13 fh0 fs4 = sl.v1015 c arg13 fh0 gs4 := st_v1015.trans st_v1015.symm

theorem ind_HS1_10 : sl.HS1_10 c arg13 fh0 fs4 = sl.HS1_10 c arg13 fh0 gs4 := by
  unfold sl.HS1_10
  rw [ind_v1015 (fs4 := fs4) (gs4 := gs4), ind_HS1_9 (fs4 := fs4) (gs4 := gs4)]

theorem ind_v1039 : sl.v1039 c arg10 arg13 fh0 fs4 = sl.v1039 c arg10 arg13 fh0 gs4 := by
  unfold sl.v1039
  rw [ind_HS1_10 (fs4 := fs4) (gs4 := gs4)]

theorem st_v1021 : sl.v1021 c arg14 fh1 fs5 = shapeCast S1x1024x256 (sl.dma159_1 c fh1) (by decide) := by
  unfold sl.v1021
  refine (stage_miss _ _ _ _ _ _ _ _ _ _ ⟨(0 : Fin 3), Or.inr (by decide)⟩).trans ?_
  exact stage_hit _ _ _ _ _ _ _

theorem ind_v1021 : sl.v1021 c arg14 fh1 fs5 = sl.v1021 c arg14 fh1 gs5 := st_v1021.trans st_v1021.symm

theorem ind_HS2_10 : sl.HS2_10 c arg14 fh1 fs5 = sl.HS2_10 c arg14 fh1 gs5 := by
  unfold sl.HS2_10
  rw [ind_v1021 (fs5 := fs5) (gs5 := gs5), ind_HS2_9 (fs5 := fs5) (gs5 := gs5)]

theorem ind_v1041 : sl.v1041 c arg11 arg14 fh1 fs5 = sl.v1041 c arg11 arg14 fh1 gs5 := by
  unfold sl.v1041
  rw [ind_HS2_10 (fs5 := fs5) (gs5 := gs5)]

theorem st_v1027 : sl.v1027 c arg15 fh2 fs6 = shapeCast S1x256x1024 (sl.dma159_2 c fh2) (by decide) := by
  unfold sl.v1027
  refine (stage_miss _ _ _ _ _ _ _ _ _ _ ⟨(0 : Fin 3), Or.inr (by decide)⟩).trans ?_
  exact stage_hit _ _ _ _ _ _ _

theorem ind_v1027 : sl.v1027 c arg15 fh2 fs6 = sl.v1027 c arg15 fh2 gs6 := st_v1027.trans st_v1027.symm

theorem ind_r_35 : sl.r_35 c arg15 fh2 fs6 = sl.r_35 c arg15 fh2 gs6 := by
  unfold sl.r_35
  rw [ind_v1027 (fs6 := fs6) (gs6 := gs6)]

theorem ind_HS3_19 : sl.HS3_19 c arg15 fh2 fs6 = sl.HS3_19 c arg15 fh2 gs6 := by
  unfold sl.HS3_19
  rw [ind_v1027 (fs6 := fs6) (gs6 := gs6), ind_HS3_18 (fs6 := fs6) (gs6 := gs6)]

theorem ind_HS3_20 : sl.HS3_20 c arg15 fh2 fs6 = sl.HS3_20 c arg15 fh2 gs6 := by
  unfold sl.HS3_20
  rw [ind_r_35 (fs6 := fs6) (gs6 := gs6), ind_HS3_19 (fs6 := fs6) (gs6 := gs6)]

theorem ind_v1050 : sl.v1050 c arg12 arg15 fh2 fs6 = sl.v1050 c arg12 arg15 fh2 gs6 := by
  unfold sl.v1050
  rw [ind_HS3_20 (fs6 := fs6) (gs6 := gs6)]

theorem ind_v1053 : sl.v1053 c arg12 arg15 fh2 fs6 = sl.v1053 c arg12 arg15 fh2 gs6 := by
  unfold sl.v1053
  rw [ind_HS3_20 (fs6 := fs6) (gs6 := gs6)]

theorem ind_r_37 : sl.r_37 c arg1 harg1 arg2 harg2 arg10 arg11 arg12 arg13 arg14 arg15 x0 x1 fh0 fh1 fh2 fs4 fs5 fs6 = sl.r_37 c arg1 harg1 arg2 harg2 arg10 arg11 arg12 arg13 arg14 arg15 x0 x1 fh0 fh1 fh2 gs4 gs5 gs6 := by
  unfold sl.r_37
  rw [ind_r_33 (fs4 := fs4) (gs4 := gs4) (fs5 := fs5) (gs5 := gs5) (fs6 := fs6) (gs6 := gs6), ind_v1039 (fs4 := fs4) (gs4 := gs4), ind_v1041 (fs5 := fs5) (gs5 := gs5), ind_v1050 (fs6 := fs6) (gs6 := gs6), ind_v1053 (fs6 := fs6) (gs6 := gs6)]

theorem ind_H4_8 : sl.H4_8 c arg1 harg1 arg2 harg2 arg6 harg6 arg7 harg7 arg9 arg10 arg11 arg12 arg13 arg14 arg15 x0 x1 x2 x3 fh0 fh1 fh2 fs4 fs5 fs6 = sl.H4_8 c arg1 harg1 arg2 harg2 arg6 harg6 arg7 harg7 arg9 arg10 arg11 arg12 arg13 arg14 arg15 x0 x1 x2 x3 fh0 fh1 fh2 gs4 gs5 gs6 := by
  unfold sl.H4_8
  rw [ind_r_37 (fs4 := fs4) (gs4 := gs4) (fs5 := fs5) (gs5 := gs5) (fs6 := fs6) (gs6 := gs6), ind_H4_7 (fs4 := fs4) (gs4 := gs4) (fs5 := fs5) (gs5 := gs5) (fs6 := fs6) (gs6 := gs6)]

theorem st_v1115 : sl.v1115 c arg13 fh0 fs4 = shapeCast S1x1024x256 (sl.dma180 c fh0) (by decide) := by
  unfold sl.v1115
  exact stage_hit _ _ _ _ _ _ _

theorem ind_v1115 : sl.v1115 c arg13 fh0 fs4 = sl.v1115 c arg13 fh0 gs4 := st_v1115.trans st_v1115.symm

theorem ind_HS1_11 : sl.HS1_11 c arg13 fh0 fs4 = sl.HS1_11 c arg13 fh0 gs4 := by
  unfold sl.HS1_11
  rw [ind_v1115 (fs4 := fs4) (gs4 := gs4), ind_HS1_10 (fs4 := fs4) (gs4 := gs4)]

theorem st_v1121 : sl.v1121 c arg14 fh1 fs5 = shapeCast S1x1024x256 (sl.dma180_1 c fh1) (by decide) := by
  unfold sl.v1121
  exact stage_hit _ _ _ _ _ _ _

theorem ind_v1121 : sl.v1121 c arg14 fh1 fs5 = sl.v1121 c arg14 fh1 gs5 := st_v1121.trans st_v1121.symm

theorem ind_HS2_11 : sl.HS2_11 c arg14 fh1 fs5 = sl.HS2_11 c arg14 fh1 gs5 := by
  unfold sl.HS2_11
  rw [ind_v1121 (fs5 := fs5) (gs5 := gs5), ind_HS2_10 (fs5 := fs5) (gs5 := gs5)]

theorem st_v1127 : sl.v1127 c arg15 fh2 fs6 = shapeCast S1x256x1024 (sl.dma180_2 c fh2) (by decide) := by
  unfold sl.v1127
  exact stage_hit _ _ _ _ _ _ _

theorem ind_v1127 : sl.v1127 c arg15 fh2 fs6 = sl.v1127 c arg15 fh2 gs6 := st_v1127.trans st_v1127.symm

theorem ind_r_38 : sl.r_38 c arg15 fh2 fs6 = sl.r_38 c arg15 fh2 gs6 := by
  unfold sl.r_38
  rw [ind_v1127 (fs6 := fs6) (gs6 := gs6)]

theorem ind_HS3_22 : sl.HS3_22 c arg15 fh2 fs6 = sl.HS3_22 c arg15 fh2 gs6 := by
  unfold sl.HS3_22
  rw [ind_r_38 (fs6 := fs6) (gs6 := gs6), ind_v1127 (fs6 := fs6) (gs6 := gs6), ind_HS3_20 (fs6 := fs6) (gs6 := gs6)]

theorem ind_r_36 : sl.r_36 c arg1 harg1 arg10 arg11 arg12 arg13 arg14 arg15 x0 fh0 fh1 fh2 fs4 fs5 fs6 = sl.r_36 c arg1 harg1 arg10 arg11 arg12 arg13 arg14 arg15 x0 fh0 fh1 fh2 gs4 gs5 gs6 := by
  unfold sl.r_36
  rw [ind_r_33 (fs4 := fs4) (gs4 := gs4) (fs5 := fs5) (gs5 := gs5) (fs6 := fs6) (gs6 := gs6), ind_v1039 (fs4 := fs4) (gs4 := gs4), ind_v1041 (fs5 := fs5) (gs5 := gs5), ind_v1050 (fs6 := fs6) (gs6 := gs6), ind_v1053 (fs6 := fs6) (gs6 := gs6)]

theorem ind_v1139 : sl.v1139 c arg10 arg13 fh0 fs4 = sl.v1139 c arg10 arg13 fh0 gs4 := by
  unfold sl.v1139
  rw [ind_HS1_11 (fs4 := fs4) (gs4 := gs4)]

theorem ind_v1141 : sl.v1141 c arg11 arg14 fh1 fs5 = sl.v1141 c arg11 arg14 fh1 gs5 := by
  unfold sl.v1141
  rw [ind_HS2_11 (fs5 := fs5) (gs5 := gs5)]

theorem ind_r_39 : sl.r_39 c arg1 harg1 arg10 arg11 arg13 arg14 x0 fh0 fh1 fs4 fs5 = sl.r_39 c arg1 harg1 arg10 arg11 arg13 arg14 x0 fh0 fh1 gs4 gs5 := by
  unfold sl.r_39
  rw [ind_v1139 (fs4 := fs4) (gs4 := gs4), ind_v1141 (fs5 := fs5) (gs5 := gs5)]

theorem ind_v1150 : sl.v1150 c arg12 arg15 fh2 fs6 = sl.v1150 c arg12 arg15 fh2 gs6 := by
  unfold sl.v1150
  rw [ind_HS3_22 (fs6 := fs6) (gs6 := gs6)]

theorem ind_v1153 : sl.v1153 c arg12 arg15 fh2 fs6 = sl.v1153 c arg12 arg15 fh2 gs6 := by
  unfold sl.v1153
  rw [ind_HS3_22 (fs6 := fs6) (gs6 := gs6)]

end Cert.Ffn

end
-- ==== Proof.Ffn.Spec.lean ====
module

public import Idealize.ShloMosaic.Lib.Pointwise
public import Idealize.ShloMosaic.Lib.IdealHost

@[expose] public section

/-! The mathematics of the feed-forward layer on extended reals: one row of the layer as a function of that row of the
input and of the weights, and the identity between the two spellings of the activation. -/

noncomputable section

namespace Cert.Ffn.Spec

open Idealize.ShloMosaic

/-- The constant one half. -/
abbrev half : EReal := Ideal.ofBits .f32 0x3F000000#32
/-- The residual factor. -/
abbrev alpha : EReal := Ideal.ofBits .f32 0x3F9837F0#32
/-- The number of columns, 1024. -/
abbrev width : EReal := Ideal.ofBits .f32 0x44800000#32
/-- The constant added to the variance. -/
abbrev eps : EReal := Ideal.ofBits .f32 0x3727C5AC#32

/-- The activation as the kernel writes it: `y + y tanh y` at `y = x / 2`. -/
def silu (x : EReal) : EReal := half * x + half * x * Ideal.tanh (half * x)

/-- The activation as the reference writes it: `x / (1 + exp (-x))`, as a product. -/
def siluRef (x : EReal) : EReal := x * Ideal.div 1 (1 + Ideal.exp (-x))

/-- The hidden unit `k` of one row `x`, with the activation `σ`. -/
def hidden (σ : EReal → EReal) (x : Fin 1024 → EReal) (wg wu : Fin 1024 → Fin 2816 → EReal) (k : Fin 2816) : EReal :=
  σ (∑ j : Fin 1024, x j * wg j k) * ∑ j : Fin 1024, x j * wu j k

/-- The feed-forward layer's output `d` of one row `x`. -/
def ffn (σ : EReal → EReal) (x : Fin 1024 → EReal) (wg wu : Fin 1024 → Fin 2816 → EReal) (wd : Fin 2816 → Fin 1024 → EReal)
    (d : Fin 1024) : EReal := ∑ k : Fin 2816, hidden σ x wg wu k * wd k d

/-- The part of `ffn` from the 256 hidden units of chunk `c`. -/
def chunk (σ : EReal → EReal) (x : Fin 1024 → EReal) (wg wu : Fin 1024 → Fin 2816 → EReal) (wd : Fin 2816 → Fin 1024 → EReal)
    (c : Fin 11) (d : Fin 1024) : EReal :=
  ∑ k : Fin 256, hidden σ x wg wu ⟨c * 256 + k, by omega⟩ * wd ⟨c * 256 + k, by omega⟩ d

/-- The mean of a row. -/
def mean (y : Fin 1024 → EReal) : EReal := Ideal.div (∑ j : Fin 1024, y j) width

/-- Layer normalisation of a row with gain `g` and offset `b`. -/
def layerNorm (y g b : Fin 1024 → EReal) (d : Fin 1024) : EReal :=
  (y d - mean y) * Ideal.rsqrt (mean (fun j => (y j - mean y) * (y j - mean y)) + eps) * g d + b d

/-- One row of the whole layer: residual, half the feed-forward output, layer normalisation. -/
def layer (σ : EReal → EReal) (x : Fin 1024 → EReal) (wg wu : Fin 1024 → Fin 2816 → EReal) (wd : Fin 2816 → Fin 1024 → EReal)
    (g b : Fin 1024 → EReal) (d : Fin 1024) : EReal :=
  layerNorm (fun j => alpha * x j + half * ffn σ x wg wu wd j) g b d

/-- The sum over the hidden units is the sum of its eleven chunks. -/
theorem ffn_eq_chunks (σ : EReal → EReal) (x : Fin 1024 → EReal) (wg wu : Fin 1024 → Fin 2816 → EReal) (wd : Fin 2816 → Fin 1024 → EReal)
    (d : Fin 1024) : ffn σ x wg wu wd d = ∑ c : Fin 11, chunk σ x wg wu wd c d := by
  unfold ffn chunk
  exact Fin.sum_univ_tiles 11 256 rfl (fun k : Fin 2816 => hidden σ x wg wu k * wd k d)

theorem half_eq : half = (((1 : ℝ) / 2 : ℝ) : EReal) := by
  simp [half, Ideal.ofBits, Ideal.ieee, -EReal.coe_mul]; norm_num

/-- The two spellings of the activation agree at a real number. -/
theorem silu_coe (x : ℝ) : silu (x : EReal) = siluRef (x : EReal) := by
  unfold silu siluRef
  rw [half_eq, ← EReal.coe_neg, Ideal.exp_coe, ← EReal.coe_mul, Ideal.tanh_coe]
  rw [show (1 : EReal) = ((1 : ℝ) : EReal) by norm_cast, ← EReal.coe_add]
  have hp : (0 : ℝ) < Real.exp (-x) := Real.exp_pos _
  rw [Ideal.div_coe (by positivity)]
  norm_cast
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by rw [← Real.exp_add]; simp
  rw [Real.tanh_eq_sinh_div_cosh, Real.sinh_eq, Real.cosh_eq, h1]
  have ha : 0 < Real.exp (1 / 2 * x) := Real.exp_pos _
  have hb : 0 < Real.exp (-(1 / 2 * x)) := Real.exp_pos _
  generalize Real.exp (1 / 2 * x) = a at *
  generalize Real.exp (-(1 / 2 * x)) = b at *
  have hne : 1 + b * b ≠ 0 := by positivity
  have hne' : a + b ≠ 0 := by positivity
  field_simp
  linear_combination 2 * x * b * h2

/-- A sum of products of real numbers is a real number. -/
theorem sum_mul_coe {n : ℕ} (f g : Fin n → EReal) (hf : ∀ k, ∃ r : ℝ, f k = r) (hg : ∀ k, ∃ r : ℝ, g k = r) :
    ∃ r : ℝ, ∑ k, f k * g k = (r : EReal) := by
  choose a ha using hf
  choose b hb using hg
  refine ⟨∑ k, a k * b k, ?_⟩
  simp only [ha, hb, ← EReal.coe_mul]
  exact (map_sum (⟨⟨Real.toEReal, EReal.coe_zero⟩, EReal.coe_add⟩ : ℝ →+ EReal) (fun k => a k * b k) Finset.univ).symm

/-- Where the gate's products are real numbers, the layer is the same with either spelling of the activation. -/
theorem layer_silu (x : Fin 1024 → EReal) (wg wu : Fin 1024 → Fin 2816 → EReal) (wd : Fin 2816 → Fin 1024 → EReal)
    (g b : Fin 1024 → EReal) (d : Fin 1024) (hx : ∀ j, ∃ r : ℝ, x j = r) (hw : ∀ j k, ∃ r : ℝ, wg j k = r) :
    layer silu x wg wu wd g b d = layer siluRef x wg wu wd g b d := by
  have h : ∀ k, hidden silu x wg wu k = hidden siluRef x wg wu k := fun k => by
    obtain ⟨r, hr⟩ := sum_mul_coe x (fun j => wg j k) hx (fun j => hw j k)
    unfold hidden
    rw [hr, silu_coe]
  have h' : ffn silu x wg wu wd = ffn siluRef x wg wu wd := by
    funext e; unfold ffn; simp only [h]
  unfold layer
  rw [h']

end Cert.Ffn.Spec

end
-- ==== Proof.Ffn.Pay.lean ====
module

public import proofs.«01_k».proof.Proof.Ffn.Spec
public import proofs.«01_k».proof.Proof.Gen.Kernel2Ideal.Skeleton

@[expose] public section

/-! The feed-forward kernel's arithmetic at an index: the activations of one chunk of hidden units, the step that adds one
chunk to the accumulator, and the normalisation of one piece of rows. -/

set_option maxRecDepth 16384

noncomputable section

namespace Cert.Ffn

open Idealize.ShloMosaic Idealize.ShloMosaic.TcCoe Idealize.SL.Sem
open Cert.Kernel2Ideal Cert.Kernel2Ideal.Gen

/-- The activations of one chunk of 256 hidden units, for 512 rows. -/
def actOf (x : FVec Ideal S512x1024 .bf16) (wg wu : FVec Ideal S1024x256 .bf16) : FVec Ideal S512x256 .f32 :=
  let gate := matmul dot_S512x1024_S1024x256_S512x256_1_0_0_1_n_n none x wg (constant S512x256 .f32 0x00000000#32)
  let up := matmul dot_S512x1024_S1024x256_S512x256_1_0_0_1_n_n none x wu (constant S512x256 .f32 0x00000000#32)
  let y := mulf (broadcast S512x256 (Scalar.ofBits .f32 0x3F000000#32)) gate
  mulf (addf y (mulf y (tanh y))) up

/-- One chunk's contribution to the output, for 512 rows: the two halves of the columns side by side. -/
def downOf (a : FVec Ideal S512x256 .bf16) (w0 w1 : FVec Ideal S1x256x512 .bf16) : FVec Ideal S512x1024 .f32 :=
  concatenate S512x1024 1
    [⟨S512x512, matmul dot_S512x256_S256x512_S512x512_1_0_0_1_n_n none a (shapeCast S256x512 w0 shapeCasts_S1x256x512_S256x512) (constant S512x512 .f32 0x00000000#32)⟩,
     ⟨S512x512, matmul dot_S512x256_S256x512_S512x512_1_0_0_1_n_n none a (shapeCast S256x512 w1 shapeCasts_S1x256x512_S256x512) (constant S512x512 .f32 0x00000000#32)⟩]
    concatenates_S512x512_S512x512_S512x1024_d1

/-- The accumulator after one more chunk. -/
def stepOf (acc : FVec Ideal S512x1024 .f32) (x : FVec Ideal S512x1024 .bf16) (wg wu : FVec Ideal S1024x256 .bf16)
    (w0 w1 : FVec Ideal S1x256x512 .bf16) : FVec Ideal S512x1024 .f32 :=
  addf acc (downOf (truncf .bf16 (actOf x wg wu) bitsLt_bf16_f32) w0 w1)

/-- The row means of a piece of 64 rows, as a column. -/
def meanOf (y : FVec Ideal S64x1024 .f32) : FVec Ideal S64x1 .f32 :=
  divf (shapeCast S64x1 (multiReduction .add [1] S64 y 0x00000000#32 reduces_S64x1024_S64 (.inl rfl) rfl) shapeCasts_S64_S64x1)
    (broadcast S64x1 (Scalar.ofBits .f32 0x44800000#32))

/-- Layer normalisation of a piece of 64 rows. -/
def normOf (y : FVec Ideal S64x1024 .f32) (g b : FVec Ideal S1x1024 .f32) : FVec Ideal S64x1024 .f32 :=
  let yc := subf y (broadcastTo S64x1024 (meanOf y) broadcasts_S64x1_S64x1024)
  let r := rsqrt (addf (meanOf (mulf yc yc)) (broadcast S64x1 (Scalar.ofBits .f32 0x3727C5AC#32)))
  addf (mulf (mulf yc (broadcastTo S64x1024 r broadcasts_S64x1_S64x1024))
      (broadcastTo S64x1024 (shapeCast S1x1024 g shapeCasts_S1x1024_S1x1024) broadcasts_S1x1024_S64x1024))
    (broadcastTo S64x1024 (shapeCast S1x1024 b shapeCasts_S1x1024_S1x1024) broadcasts_S1x1024_S64x1024)

/-- The residual sum of a piece of 64 rows. -/
def mixOf (x a : FVec Ideal S64x1024 .f32) : FVec Ideal S64x1024 .f32 :=
  addf (mulf (broadcast S64x1024 (Scalar.ofBits .f32 0x3F9837F0#32)) x) (mulf (broadcast S64x1024 (Scalar.ofBits .f32 0x3F000000#32)) a)

theorem actOf_at (x : FVec Ideal S512x1024 .bf16) (wg wu : FVec Ideal S1024x256 .bf16) (r : Fin 512) (k : Fin 256) :
    actOf x wg wu (ix2 r k)
    = Spec.silu (∑ j : Fin 1024, x (ix2 r j) * wg (ix2 j k)) * ∑ j : Fin 1024, x (ix2 r j) * wu (ix2 j k) := by
  pointwise [actOf, Spec.silu]

theorem downOf_lo (a : FVec Ideal S512x256 .bf16) (w0 w1 : FVec Ideal S1x256x512 .bf16) (r : Fin 512) (d : Fin 1024) (h : d.val < 512) :
    downOf a w0 w1 (ix2 r d) = ∑ k : Fin 256, a (ix2 r k) * w0 (ix3 0 k ⟨d, h⟩) := by
  pointwise [downOf]
  rw [dif_pos h]

theorem downOf_hi (a : FVec Ideal S512x256 .bf16) (w0 w1 : FVec Ideal S1x256x512 .bf16) (r : Fin 512) (d : Fin 1024) (h : ¬ d.val < 512) :
    downOf a w0 w1 (ix2 r d) = ∑ k : Fin 256, a (ix2 r k) * w1 (ix3 0 k ⟨d - 512, by omega⟩) := by
  pointwise [downOf]
  rw [dif_neg h]

/-- One step adds the chunk `c` of the layer's sum, when the loaded weights are chunk `c` of the weights. -/
theorem stepOf_at (acc : FVec Ideal S512x1024 .f32) (x : FVec Ideal S512x1024 .bf16) (wg wu : FVec Ideal S1024x256 .bf16)
    (w0 w1 : FVec Ideal S1x256x512 .bf16) (G U : Fin 1024 → Fin 2816 → EReal) (D : Fin 2816 → Fin 1024 → EReal) (c : Fin 11)
    (hg : ∀ (j : Fin 1024) (k : Fin 256), wg (ix2 j k) = G j ⟨c * 256 + k, by omega⟩)
    (hu : ∀ (j : Fin 1024) (k : Fin 256), wu (ix2 j k) = U j ⟨c * 256 + k, by omega⟩)
    (h0 : ∀ (k : Fin 256) (d : Fin 512), w0 (ix3 0 k d) = D ⟨c * 256 + k, by omega⟩ ⟨d, by omega⟩)
    (h1 : ∀ (k : Fin 256) (d : Fin 512), w1 (ix3 0 k d) = D ⟨c * 256 + k, by omega⟩ ⟨512 + d, by omega⟩)
    (r : Fin 512) (d : Fin 1024) :
    stepOf acc x wg wu w0 w1 (ix2 r d) = acc (ix2 r d) + Spec.chunk Spec.silu (fun j => x (ix2 r j)) G U D c d := by
  have e : stepOf acc x wg wu w0 w1 (ix2 r d)
      = acc (ix2 r d) + downOf (truncf .bf16 (actOf x wg wu) bitsLt_bf16_f32) w0 w1 (ix2 r d) := by
    pointwise [stepOf]
  rw [e]
  refine congrArg _ ?_
  by_cases h : d.val < 512
  · rw [downOf_lo _ _ _ _ _ h]
    refine Finset.sum_congr rfl fun k _ => ?_
    rw [h0 k ⟨d, h⟩]
    pointwise [actOf_at, hg, hu, Spec.hidden]
  · rw [downOf_hi _ _ _ _ _ h]
    refine Finset.sum_congr rfl fun k _ => ?_
    rw [h1 k ⟨d - 512, by omega⟩]
    have hd : (⟨512 + (d.val - 512), by omega⟩ : Fin 1024) = d := Fin.ext (by simp; omega)
    rw [hd]
    pointwise [actOf_at, hg, hu, Spec.hidden]

theorem normOf_at (y : FVec Ideal S64x1024 .f32) (g b : FVec Ideal S1x1024 .f32) (r : Fin 64) (d : Fin 1024) :
    normOf y g b (ix2 r d) = Spec.layerNorm (fun j => y (ix2 r j)) (fun e => g (ix2 0 e)) (fun e => b (ix2 0 e)) d := by
  pointwise [normOf, meanOf, Spec.layerNorm, Spec.mean]

theorem mixOf_at (x a : FVec Ideal S64x1024 .f32) (r : Fin 64) (d : Fin 1024) :
    mixOf x a (ix2 r d) = Spec.alpha * x (ix2 r d) + Spec.half * a (ix2 r d) := by
  pointwise [mixOf]

end Cert.Ffn

end
-- ==== Proof.Ffn.Weights.lean ====
module
public import proofs.«01_k».proof.Proof.Ffn.Indep
public import proofs.«01_k».proof.Proof.Ffn.Pay
public import Idealize.ShloMosaic.Lib.Pipeline.ValueKit
public import Idealize.ShloMosaic.Lib.Pipeline.ReadBack
@[expose] public section

/-! At point 0 the weights are copied to the scratch chunk by chunk: what the pieces stored there are (`pc*`), and what each
later load of a chunk reads (`ld_*`). -/

set_option maxRecDepth 16384
noncomputable section
namespace Cert.Ffn
open Cert.Kernel2Ideal Cert.Kernel2Ideal.Gen
open Idealize.ShloMosaic Idealize.ShloMosaic.TcCoe
open Idealize.SL Idealize.SL.Sem
open kernelRun0_Ax

/-- A chunk of columns is stored as it was copied. -/
theorem colPiece (d : S1024x256.Idx → Ideal .f32) (h : S1024x256.ShapeCasts S1x1024x256) (x : S1024x256.Idx) :
    shapeCast S1024x256 (truncf .bf16 (shapeCast S1024x256 (shapeCast S1x1024x256 d h) shapeCasts_S1x1024x256_S1024x256 : FVec Ideal S1024x256 .f32) bitsLt_bf16_f32) shapeCasts_S1024x256_S1024x256 x = d x := by
  rw [shapeCast_shapeCast, shapeCast_self]
  rfl

/-- The left half of a chunk of rows is stored as it was copied; -/
theorem rowPiece_lo (d : S256x1024.Idx → Ideal .f32) (h : S256x1024.ShapeCasts S1x256x1024) (x : S1x256x512.Idx) :
    shapeCast S1x256x512 (truncf .bf16 (extractStridedSlice S256x512 ![0, 0] (shapeCast S256x1024 (shapeCast S1x256x1024 d h) shapeCasts_S1x256x1024_S256x1024 : FVec Ideal S256x1024 .f32) slices_S256x1024_o0_0_S256x512) bitsLt_bf16_f32) shapeCasts_S256x512_S1x256x512 x = d (ix2 (x 1) ⟨(x 2).val, by have : (x 2).val < 512 := (x 2).isLt; omega⟩) := by
  rw [shapeCast_shapeCast]
  idx_vars x
  pointwise

/-- the right half too. -/
theorem rowPiece_hi (d : S256x1024.Idx → Ideal .f32) (h : S256x1024.ShapeCasts S1x256x1024) (x : S1x256x512.Idx) :
    shapeCast S1x256x512 (truncf .bf16 (extractStridedSlice S256x512 ![0, 512] (shapeCast S256x1024 (shapeCast S1x256x1024 d h) shapeCasts_S1x256x1024_S256x1024 : FVec Ideal S256x1024 .f32) slices_S256x1024_o0_512_S256x512) bitsLt_bf16_f32) shapeCasts_S256x512_S1x256x512 x = d (ix2 (x 1) ⟨512 + (x 2).val, by have : (x 2).val < 512 := (x 2).isLt; omega⟩) := by
  rw [shapeCast_shapeCast]
  idx_vars x
  pointwise

variable {c : Dev nD}
variable {arg10 arg11 : Memref sig .tc .vmem S1024x2816 .bf16}
variable {arg12 : Memref sig .tc .vmem S2x2816x512 .bf16}
variable {arg13 : Memref sig .tc .vmem S2x1024x256 .f32}
variable {arg14 : Memref sig .tc .vmem S2x1024x256 .f32}
variable {arg15 : Memref sig .tc .vmem S2x256x1024 .f32}
variable {fh0 : HbBuf0 (F := Ideal) c hbM0_0} {fh1 : HbBuf0 (F := Ideal) c hbM0_1} {fh2 : HbBuf0 (F := Ideal) c hbM0_2}
variable {fs4 : Buf (Elt Ideal) (arg13.view.loc (c : Thread nD τ))} {fs5 : Buf (Elt Ideal) (arg14.view.loc (c : Thread nD τ))}
  {fs6 : Buf (Elt Ideal) (arg15.view.loc (c : Thread nD τ))}

/-- The weights `w_gate`, `w_up` as the scratch holds them; -/
def colOf (fh0 : S1024x2816.Idx → EReal) : S1024x2816.Idx → Elt Ideal .bf16 := fh0
/-- `w_down`, its two halves of columns one after the other. -/
def rowOfW (fh2 : S2816x1024.Idx → EReal) : S2x2816x512.Idx → Elt Ideal .bf16 :=
  fun y => fh2 (ix2 (y 1) ⟨512 * (y 0).val + (y 2).val, by have h0 := (y 0).isLt; have h2 := (y 2).isLt; simp at h0 h2; omega⟩)

theorem mem_emb {S : Shape} (r : Rect S) (x : r.shape.Idx) : r.emb x ∈ r.set := by
  rw [← Rect.map_emb_univ]
  exact Finset.mem_map_of_mem _ (Finset.mem_univ _)

theorem pc1_1 : View.PiecesOf (colOf fh0) (sl.HS1_1 c arg13 fh0 fs4) := by
  unfold sl.HS1_1
  refine ⟨fun x => ?_, trivial⟩
  · rw [st_v64]
    exact colPiece (sl.dma2 c fh0) _ x

theorem pc1_2 : View.PiecesOf (colOf fh0) (sl.HS1_2 c arg13 fh0 fs4) := by
  unfold sl.HS1_2
  refine ⟨fun x => ?_, pc1_1⟩
  · unfold sl.r_2
    rw [st_v137]
    exact colPiece (sl.dma3 c fh0) _ x

theorem pc1_3 : View.PiecesOf (colOf fh0) (sl.HS1_3 c arg13 fh0 fs4) := by
  unfold sl.HS1_3
  refine ⟨fun x => ?_, pc1_2⟩
  · rw [st_v210]
    exact colPiece (sl.dma18 c fh0) _ x

theorem pc1_4 : View.PiecesOf (colOf fh0) (sl.HS1_4 c arg13 fh0 fs4) := by
  unfold sl.HS1_4
  refine ⟨fun x => ?_, pc1_3⟩
  · rw [st_v325]
    exact colPiece (sl.dma33 c fh0) _ x

theorem pc1_5 : View.PiecesOf (colOf fh0) (sl.HS1_5 c arg13 fh0 fs4) := by
  unfold sl.HS1_5
  refine ⟨fun x => ?_, pc1_4⟩
  · unfold sl.r_13
    rw [st_v440]
    exact colPiece (sl.dma54 c fh0) _ x

theorem pc1_6 : View.PiecesOf (colOf fh0) (sl.HS1_6 c arg13 fh0 fs4) := by
  unfold sl.HS1_6
  refine ⟨fun x => ?_, pc1_5⟩
  · rw [st_v555]
    exact colPiece (sl.dma75 c fh0) _ x

theorem pc1_7 : View.PiecesOf (colOf fh0) (sl.HS1_7 c arg13 fh0 fs4) := by
  unfold sl.HS1_7
  refine ⟨fun x => ?_, pc1_6⟩
  · rw [st_v670]
    exact colPiece (sl.dma96 c fh0) _ x

theorem pc1_8 : View.PiecesOf (colOf fh0) (sl.HS1_8 c arg13 fh0 fs4) := by
  unfold sl.HS1_8
  refine ⟨fun x => ?_, pc1_7⟩
  · unfold sl.v786
    rw [st_v785]
    exact colPiece (sl.dma117 c fh0) _ x

theorem pc1_9 : View.PiecesOf (colOf fh0) (sl.HS1_9 c arg13 fh0 fs4) := by
  unfold sl.HS1_9
  refine ⟨fun x => ?_, pc1_8⟩
  · rw [st_v900]
    exact colPiece (sl.dma138 c fh0) _ x

theorem pc1_10 : View.PiecesOf (colOf fh0) (sl.HS1_10 c arg13 fh0 fs4) := by
  unfold sl.HS1_10
  refine ⟨fun x => ?_, pc1_9⟩
  · rw [st_v1015]
    exact colPiece (sl.dma159 c fh0) _ x

theorem pc1_11 : View.PiecesOf (colOf fh0) (sl.HS1_11 c arg13 fh0 fs4) := by
  unfold sl.HS1_11
  refine ⟨fun x => ?_, pc1_10⟩
  · rw [st_v1115]
    exact colPiece (sl.dma180 c fh0) _ x

theorem pc2_1 : View.PiecesOf (colOf fh1) (sl.HS2_1 c arg14 fh1 fs5) := by
  unfold sl.HS2_1
  refine ⟨fun x => ?_, trivial⟩
  · rw [st_v70]
    exact colPiece (sl.dma2_1 c fh1) _ x

theorem pc2_2 : View.PiecesOf (colOf fh1) (sl.HS2_2 c arg14 fh1 fs5) := by
  unfold sl.HS2_2
  refine ⟨fun x => ?_, pc2_1⟩
  · rw [st_v143]
    exact colPiece (sl.dma3_1 c fh1) _ x

theorem pc2_3 : View.PiecesOf (colOf fh1) (sl.HS2_3 c arg14 fh1 fs5) := by
  unfold sl.HS2_3
  refine ⟨fun x => ?_, pc2_2⟩
  · rw [st_v216]
    exact colPiece (sl.dma18_1 c fh1) _ x

theorem pc2_4 : View.PiecesOf (colOf fh1) (sl.HS2_4 c arg14 fh1 fs5) := by
  unfold sl.HS2_4
  refine ⟨fun x => ?_, pc2_3⟩
  · rw [st_v331]
    exact colPiece (sl.dma33_1 c fh1) _ x

theorem pc2_5 : View.PiecesOf (colOf fh1) (sl.HS2_5 c arg14 fh1 fs5) := by
  unfold sl.HS2_5
  refine ⟨fun x => ?_, pc2_4⟩
  · rw [st_v446]
    exact colPiece (sl.dma54_1 c fh1) _ x

theorem pc2_6 : View.PiecesOf (colOf fh1) (sl.HS2_6 c arg14 fh1 fs5) := by
  unfold sl.HS2_6
  refine ⟨fun x => ?_, pc2_5⟩
  · rw [st_v561]
    exact colPiece (sl.dma75_1 c fh1) _ x

theorem pc2_7 : View.PiecesOf (colOf fh1) (sl.HS2_7 c arg14 fh1 fs5) := by
  unfold sl.HS2_7
  refine ⟨fun x => ?_, pc2_6⟩
  · rw [st_v676]
    exact colPiece (sl.dma96_1 c fh1) _ x

theorem pc2_8 : View.PiecesOf (colOf fh1) (sl.HS2_8 c arg14 fh1 fs5) := by
  unfold sl.HS2_8
  refine ⟨fun x => ?_, pc2_7⟩
  · rw [st_v791]
    exact colPiece (sl.dma117_1 c fh1) _ x

theorem pc2_9 : View.PiecesOf (colOf fh1) (sl.HS2_9 c arg14 fh1 fs5) := by
  unfold sl.HS2_9
  refine ⟨fun x => ?_, pc2_8⟩
  · rw [st_v906]
    exact colPiece (sl.dma138_1 c fh1) _ x

theorem pc2_10 : View.PiecesOf (colOf fh1) (sl.HS2_10 c arg14 fh1 fs5) := by
  unfold sl.HS2_10
  refine ⟨fun x => ?_, pc2_9⟩
  · rw [st_v1021]
    exact colPiece (sl.dma159_1 c fh1) _ x

theorem pc2_11 : View.PiecesOf (colOf fh1) (sl.HS2_11 c arg14 fh1 fs5) := by
  unfold sl.HS2_11
  refine ⟨fun x => ?_, pc2_10⟩
  · rw [st_v1121]
    exact colPiece (sl.dma180_1 c fh1) _ x

theorem pc3_2 : View.PiecesOf (rowOfW fh2) (sl.HS3_2 c arg15 fh2 fs6) := by
  unfold sl.HS3_2
  refine ⟨fun x => ?_, fun x => ?_, trivial⟩
  · rw [st_v76]
    refine (rowPiece_hi (sl.dma2_2 c fh2) _ x).trans (congrArg fh2 (Shape.idx_ext₂ rfl ?_))
    have h0 : (x 0).val < 1 := (x 0).isLt
    show 0 + 1 * (512 + (x 2).val) = 512 * (1 + 1 * (x 0).val) + (0 + 1 * (x 2).val)
    omega
  · rw [st_v76]
    refine (rowPiece_lo (sl.dma2_2 c fh2) _ x).trans (congrArg fh2 (Shape.idx_ext₂ rfl ?_))
    have h0 : (x 0).val < 1 := (x 0).isLt
    show 0 + 1 * (x 2).val = 512 * (0 + 1 * (x 0).val) + (0 + 1 * (x 2).val)
    omega

theorem pc3_4 : View.PiecesOf (rowOfW fh2) (sl.HS3_4 c arg15 fh2 fs6) := by
  unfold sl.HS3_4
  refine ⟨fun x => ?_, fun x => ?_, pc3_2⟩
  · rw [st_v149]
    refine (rowPiece_hi (sl.dma3_2 c fh2) _ x).trans (congrArg fh2 (Shape.idx_ext₂ rfl ?_))
    have h0 : (x 0).val < 1 := (x 0).isLt
    show 0 + 1 * (512 + (x 2).val) = 512 * (1 + 1 * (x 0).val) + (0 + 1 * (x 2).val)
    omega
  · rw [st_v149]
    refine (rowPiece_lo (sl.dma3_2 c fh2) _ x).trans (congrArg fh2 (Shape.idx_ext₂ rfl ?_))
    have h0 : (x 0).val < 1 := (x 0).isLt
    show 0 + 1 * (x 2).val = 512 * (0 + 1 * (x 0).val) + (0 + 1 * (x 2).val)
    omega

theorem pc3_6 : View.PiecesOf (rowOfW fh2) (sl.HS3_6 c arg15 fh2 fs6) := by
  unfold sl.HS3_6
  refine ⟨fun x => ?_, fun x => ?_, pc3_4⟩
  · unfold sl.r_5
    rw [st_v222]
    refine (rowPiece_hi (sl.dma18_2 c fh2) _ x).trans (congrArg fh2 (Shape.idx_ext₂ rfl ?_))
    have h0 : (x 0).val < 1 := (x 0).isLt
    show 0 + 1 * (512 + (x 2).val) = 512 * (1 + 1 * (x 0).val) + (0 + 1 * (x 2).val)
    omega
  · unfold sl.r_6
    rw [st_v222]
    refine (rowPiece_lo (sl.dma18_2 c fh2) _ x).trans (congrArg fh2 (Shape.idx_ext₂ rfl ?_))
    have h0 : (x 0).val < 1 := (x 0).isLt
    show 0 + 1 * (x 2).val = 512 * (0 + 1 * (x 0).val) + (0 + 1 * (x 2).val)
    omega

theorem pc3_8 : View.PiecesOf (rowOfW fh2) (sl.HS3_8 c arg15 fh2 fs6) := by
  unfold sl.HS3_8
  refine ⟨fun x => ?_, fun x => ?_, pc3_6⟩
  · rw [st_v337]
    refine (rowPiece_hi (sl.dma33_2 c fh2) _ x).trans (congrArg fh2 (Shape.idx_ext₂ rfl ?_))
    have h0 : (x 0).val < 1 := (x 0).isLt
    show 0 + 1 * (512 + (x 2).val) = 512 * (1 + 1 * (x 0).val) + (0 + 1 * (x 2).val)
    omega
  · rw [st_v337]
    refine (rowPiece_lo (sl.dma33_2 c fh2) _ x).trans (congrArg fh2 (Shape.idx_ext₂ rfl ?_))
    have h0 : (x 0).val < 1 := (x 0).isLt
    show 0 + 1 * (x 2).val = 512 * (0 + 1 * (x 0).val) + (0 + 1 * (x 2).val)
    omega

theorem pc3_10 : View.PiecesOf (rowOfW fh2) (sl.HS3_10 c arg15 fh2 fs6) := by
  unfold sl.HS3_10
  refine ⟨fun x => ?_, fun x => ?_, pc3_8⟩
  · rw [st_v452]
    refine (rowPiece_hi (sl.dma54_2 c fh2) _ x).trans (congrArg fh2 (Shape.idx_ext₂ rfl ?_))
    have h0 : (x 0).val < 1 := (x 0).isLt
    show 0 + 1 * (512 + (x 2).val) = 512 * (1 + 1 * (x 0).val) + (0 + 1 * (x 2).val)
    omega
  · rw [st_v452]
    refine (rowPiece_lo (sl.dma54_2 c fh2) _ x).trans (congrArg fh2 (Shape.idx_ext₂ rfl ?_))
    have h0 : (x 0).val < 1 := (x 0).isLt
    show 0 + 1 * (x 2).val = 512 * (0 + 1 * (x 0).val) + (0 + 1 * (x 2).val)
    omega

theorem pc3_12 : View.PiecesOf (rowOfW fh2) (sl.HS3_12 c arg15 fh2 fs6) := by
  unfold sl.HS3_12
  refine ⟨fun x => ?_, fun x => ?_, pc3_10⟩
  · rw [st_v567]
    refine (rowPiece_hi (sl.dma75_2 c fh2) _ x).trans (congrArg fh2 (Shape.idx_ext₂ rfl ?_))
    have h0 : (x 0).val < 1 := (x 0).isLt
    show 0 + 1 * (512 + (x 2).val) = 512 * (1 + 1 * (x 0).val) + (0 + 1 * (x 2).val)
    omega
  · rw [st_v567]
    refine (rowPiece_lo (sl.dma75_2 c fh2) _ x).trans (congrArg fh2 (Shape.idx_ext₂ rfl ?_))
    have h0 : (x 0).val < 1 := (x 0).isLt
    show 0 + 1 * (x 2).val = 512 * (0 + 1 * (x 0).val) + (0 + 1 * (x 2).val)
    omega

theorem pc3_13 : View.PiecesOf (rowOfW fh2) (sl.HS3_13 c arg15 fh2 fs6) := by
  unfold sl.HS3_13
  refine ⟨fun x => ?_, pc3_12⟩
  · rw [st_v682]
    refine (rowPiece_lo (sl.dma96_2 c fh2) _ x).trans (congrArg fh2 (Shape.idx_ext₂ rfl ?_))
    have h0 : (x 0).val < 1 := (x 0).isLt
    show 0 + 1 * (x 2).val = 512 * (0 + 1 * (x 0).val) + (0 + 1 * (x 2).val)
    omega

theorem pc3_14 : View.PiecesOf (rowOfW fh2) (sl.HS3_14 c arg15 fh2 fs6) := by
  unfold sl.HS3_14
  refine ⟨fun x => ?_, pc3_13⟩
  · unfold sl.r_24
    rw [st_v682]
    refine (rowPiece_hi (sl.dma96_2 c fh2) _ x).trans (congrArg fh2 (Shape.idx_ext₂ rfl ?_))
    have h0 : (x 0).val < 1 := (x 0).isLt
    show 0 + 1 * (512 + (x 2).val) = 512 * (1 + 1 * (x 0).val) + (0 + 1 * (x 2).val)
    omega

theorem pc3_16 : View.PiecesOf (rowOfW fh2) (sl.HS3_16 c arg15 fh2 fs6) := by
  unfold sl.HS3_16
  refine ⟨fun x => ?_, fun x => ?_, pc3_14⟩
  · rw [st_v797]
    refine (rowPiece_hi (sl.dma117_2 c fh2) _ x).trans (congrArg fh2 (Shape.idx_ext₂ rfl ?_))
    have h0 : (x 0).val < 1 := (x 0).isLt
    show 0 + 1 * (512 + (x 2).val) = 512 * (1 + 1 * (x 0).val) + (0 + 1 * (x 2).val)
    omega
  · rw [st_v797]
    refine (rowPiece_lo (sl.dma117_2 c fh2) _ x).trans (congrArg fh2 (Shape.idx_ext₂ rfl ?_))
    have h0 : (x 0).val < 1 := (x 0).isLt
    show 0 + 1 * (x 2).val = 512 * (0 + 1 * (x 0).val) + (0 + 1 * (x 2).val)
    omega

theorem pc3_18 : View.PiecesOf (rowOfW fh2) (sl.HS3_18 c arg15 fh2 fs6) := by
  unfold sl.HS3_18
  refine ⟨fun x => ?_, fun x => ?_, pc3_16⟩
  · rw [st_v912]
    refine (rowPiece_hi (sl.dma138_2 c fh2) _ x).trans (congrArg fh2 (Shape.idx_ext₂ rfl ?_))
    have h0 : (x 0).val < 1 := (x 0).isLt
    show 0 + 1 * (512 + (x 2).val) = 512 * (1 + 1 * (x 0).val) + (0 + 1 * (x 2).val)
    omega
  · rw [st_v912]
    refine (rowPiece_lo (sl.dma138_2 c fh2) _ x).trans (congrArg fh2 (Shape.idx_ext₂ rfl ?_))
    have h0 : (x 0).val < 1 := (x 0).isLt
    show 0 + 1 * (x 2).val = 512 * (0 + 1 * (x 0).val) + (0 + 1 * (x 2).val)
    omega

theorem pc3_19 : View.PiecesOf (rowOfW fh2) (sl.HS3_19 c arg15 fh2 fs6) := by
  unfold sl.HS3_19
  refine ⟨fun x => ?_, pc3_18⟩
  · rw [st_v1027]
    refine (rowPiece_lo (sl.dma159_2 c fh2) _ x).trans (congrArg fh2 (Shape.idx_ext₂ rfl ?_))
    have h0 : (x 0).val < 1 := (x 0).isLt
    show 0 + 1 * (x 2).val = 512 * (0 + 1 * (x 0).val) + (0 + 1 * (x 2).val)
    omega

theorem pc3_20 : View.PiecesOf (rowOfW fh2) (sl.HS3_20 c arg15 fh2 fs6) := by
  unfold sl.HS3_20
  refine ⟨fun x => ?_, pc3_19⟩
  · unfold sl.r_35
    rw [st_v1027]
    refine (rowPiece_hi (sl.dma159_2 c fh2) _ x).trans (congrArg fh2 (Shape.idx_ext₂ rfl ?_))
    have h0 : (x 0).val < 1 := (x 0).isLt
    show 0 + 1 * (512 + (x 2).val) = 512 * (1 + 1 * (x 0).val) + (0 + 1 * (x 2).val)
    omega

theorem pc3_22 : View.PiecesOf (rowOfW fh2) (sl.HS3_22 c arg15 fh2 fs6) := by
  unfold sl.HS3_22
  refine ⟨fun x => ?_, fun x => ?_, pc3_20⟩
  · unfold sl.r_38
    rw [st_v1127]
    refine (rowPiece_hi (sl.dma180_2 c fh2) _ x).trans (congrArg fh2 (Shape.idx_ext₂ rfl ?_))
    have h0 : (x 0).val < 1 := (x 0).isLt
    show 0 + 1 * (512 + (x 2).val) = 512 * (1 + 1 * (x 0).val) + (0 + 1 * (x 2).val)
    omega
  · rw [st_v1127]
    refine (rowPiece_lo (sl.dma180_2 c fh2) _ x).trans (congrArg fh2 (Shape.idx_ext₂ rfl ?_))
    have h0 : (x 0).val < 1 := (x 0).isLt
    show 0 + 1 * (x 2).val = 512 * (0 + 1 * (x 0).val) + (0 + 1 * (x 2).val)
    omega

theorem ld_v102 (k : Fin 256) (d : Fin 512) : sl.v102 c arg12 arg15 fh2 fs6 (ix3 0 k d) = fh2 (ix2 ⟨((0 : Fin 11) : ℕ) * 256 + k.val, by simp; omega⟩ ⟨512 + d.val, by omega⟩) := by
  unfold sl.v102
  rw [View.readCov_eq_canon']
  refine (View.canon_apply_of_pieces (rowOfW fh2) _ (View.PiecesOf.mem pc3_2) _ ⟨_, List.mem_cons_self, mem_emb _ _⟩).trans ?_
  refine congrArg fh2 (Shape.idx_ext₂ ?_ ?_)
  · show 0 + 1 * k.val = 0 * 256 + k.val
    omega
  · show 512 * (1 + 1 * 0) + (0 + 1 * d.val) = 512 + d.val
    omega

theorem ld_v1039 (j : Fin 1024) (k : Fin 256) : sl.v1039 c arg10 arg13 fh0 fs4 (ix2 j k) = fh0 (ix2 j ⟨((9 : Fin 11) : ℕ) * 256 + k.val, by simp; omega⟩) := by
  unfold sl.v1039
  rw [View.readCov_eq_canon']
  refine (View.canon_apply_of_pieces (colOf fh0) _ (View.PiecesOf.mem pc1_10) _ ⟨_, List.mem_cons_self, mem_emb _ _⟩).trans ?_
  refine congrArg fh0 (Shape.idx_ext₂ ?_ ?_)
  · show 0 + 1 * j.val = j.val
    omega
  · show 2304 + 1 * k.val = 9 * 256 + k.val
    omega

theorem ld_v1041 (j : Fin 1024) (k : Fin 256) : sl.v1041 c arg11 arg14 fh1 fs5 (ix2 j k) = fh1 (ix2 j ⟨((9 : Fin 11) : ℕ) * 256 + k.val, by simp; omega⟩) := by
  unfold sl.v1041
  rw [View.readCov_eq_canon']
  refine (View.canon_apply_of_pieces (colOf fh1) _ (View.PiecesOf.mem pc2_10) _ ⟨_, List.mem_cons_self, mem_emb _ _⟩).trans ?_
  refine congrArg fh1 (Shape.idx_ext₂ ?_ ?_)
  · show 0 + 1 * j.val = j.val
    omega
  · show 2304 + 1 * k.val = 9 * 256 + k.val
    omega

theorem ld_v1050 (k : Fin 256) (d : Fin 512) : sl.v1050 c arg12 arg15 fh2 fs6 (ix3 0 k d) = fh2 (ix2 ⟨((9 : Fin 11) : ℕ) * 256 + k.val, by simp; omega⟩ ⟨d.val, by omega⟩) := by
  unfold sl.v1050
  rw [View.readCov_eq_canon']
  refine (View.canon_apply_of_pieces (rowOfW fh2) _ (View.PiecesOf.mem pc3_20) _ ⟨_, List.mem_cons_of_mem _ List.mem_cons_self, mem_emb _ _⟩).trans ?_
  refine congrArg fh2 (Shape.idx_ext₂ ?_ ?_)
  · show 2304 + 1 * k.val = 9 * 256 + k.val
    omega
  · show 512 * (0 + 1 * 0) + (0 + 1 * d.val) = d.val
    omega

theorem ld_v1053 (k : Fin 256) (d : Fin 512) : sl.v1053 c arg12 arg15 fh2 fs6 (ix3 0 k d) = fh2 (ix2 ⟨((9 : Fin 11) : ℕ) * 256 + k.val, by simp; omega⟩ ⟨512 + d.val, by omega⟩) := by
  unfold sl.v1053
  rw [View.readCov_eq_canon']
  refine (View.canon_apply_of_pieces (rowOfW fh2) _ (View.PiecesOf.mem pc3_20) _ ⟨_, List.mem_cons_self, mem_emb _ _⟩).trans ?_
  refine congrArg fh2 (Shape.idx_ext₂ ?_ ?_)
  · show 2304 + 1 * k.val = 9 * 256 + k.val
    omega
  · show 512 * (1 + 1 * 0) + (0 + 1 * d.val) = 512 + d.val
    omega

theorem ld_v1139 (j : Fin 1024) (k : Fin 256) : sl.v1139 c arg10 arg13 fh0 fs4 (ix2 j k) = fh0 (ix2 j ⟨((10 : Fin 11) : ℕ) * 256 + k.val, by simp; omega⟩) := by
  unfold sl.v1139
  rw [View.readCov_eq_canon']
  refine (View.canon_apply_of_pieces (colOf fh0) _ (View.PiecesOf.mem pc1_11) _ ⟨_, List.mem_cons_self, mem_emb _ _⟩).trans ?_
  refine congrArg fh0 (Shape.idx_ext₂ ?_ ?_)
  · show 0 + 1 * j.val = j.val
    omega
  · show 2560 + 1 * k.val = 10 * 256 + k.val
    omega

theorem ld_v1141 (j : Fin 1024) (k : Fin 256) : sl.v1141 c arg11 arg14 fh1 fs5 (ix2 j k) = fh1 (ix2 j ⟨((10 : Fin 11) : ℕ) * 256 + k.val, by simp; omega⟩) := by
  unfold sl.v1141
  rw [View.readCov_eq_canon']
  refine (View.canon_apply_of_pieces (colOf fh1) _ (View.PiecesOf.mem pc2_11) _ ⟨_, List.mem_cons_self, mem_emb _ _⟩).trans ?_
  refine congrArg fh1 (Shape.idx_ext₂ ?_ ?_)
  · show 0 + 1 * j.val = j.val
    omega
  · show 2560 + 1 * k.val = 10 * 256 + k.val
    omega

theorem ld_v1150 (k : Fin 256) (d : Fin 512) : sl.v1150 c arg12 arg15 fh2 fs6 (ix3 0 k d) = fh2 (ix2 ⟨((10 : Fin 11) : ℕ) * 256 + k.val, by simp; omega⟩ ⟨d.val, by omega⟩) := by
  unfold sl.v1150
  rw [View.readCov_eq_canon']
  refine (View.canon_apply_of_pieces (rowOfW fh2) _ (View.PiecesOf.mem pc3_22) _ ⟨_, List.mem_cons_of_mem _ List.mem_cons_self, mem_emb _ _⟩).trans ?_
  refine congrArg fh2 (Shape.idx_ext₂ ?_ ?_)
  · show 2560 + 1 * k.val = 10 * 256 + k.val
    omega
  · show 512 * (0 + 1 * 0) + (0 + 1 * d.val) = d.val
    omega

theorem ld_v1153 (k : Fin 256) (d : Fin 512) : sl.v1153 c arg12 arg15 fh2 fs6 (ix3 0 k d) = fh2 (ix2 ⟨((10 : Fin 11) : ℕ) * 256 + k.val, by simp; omega⟩ ⟨512 + d.val, by omega⟩) := by
  unfold sl.v1153
  rw [View.readCov_eq_canon']
  refine (View.canon_apply_of_pieces (rowOfW fh2) _ (View.PiecesOf.mem pc3_22) _ ⟨_, List.mem_cons_self, mem_emb _ _⟩).trans ?_
  refine congrArg fh2 (Shape.idx_ext₂ ?_ ?_)
  · show 2560 + 1 * k.val = 10 * 256 + k.val
    omega
  · show 512 * (1 + 1 * 0) + (0 + 1 * d.val) = 512 + d.val
    omega

theorem ld_v161 (j : Fin 1024) (k : Fin 256) : sl.v161 c arg10 arg13 fh0 fs4 (ix2 j k) = fh0 (ix2 j ⟨((1 : Fin 11) : ℕ) * 256 + k.val, by simp; omega⟩) := by
  unfold sl.v161
  rw [View.readCov_eq_canon']
  refine (View.canon_apply_of_pieces (colOf fh0) _ (View.PiecesOf.mem pc1_2) _ ⟨_, List.mem_cons_self, mem_emb _ _⟩).trans ?_
  refine congrArg fh0 (Shape.idx_ext₂ ?_ ?_)
  · show 0 + 1 * j.val = j.val
    omega
  · show 256 + 1 * k.val = 1 * 256 + k.val
    omega

theorem ld_v163 (j : Fin 1024) (k : Fin 256) : sl.v163 c arg11 arg14 fh1 fs5 (ix2 j k) = fh1 (ix2 j ⟨((1 : Fin 11) : ℕ) * 256 + k.val, by simp; omega⟩) := by
  unfold sl.v163
  rw [View.readCov_eq_canon']
  refine (View.canon_apply_of_pieces (colOf fh1) _ (View.PiecesOf.mem pc2_2) _ ⟨_, List.mem_cons_self, mem_emb _ _⟩).trans ?_
  refine congrArg fh1 (Shape.idx_ext₂ ?_ ?_)
  · show 0 + 1 * j.val = j.val
    omega
  · show 256 + 1 * k.val = 1 * 256 + k.val
    omega

theorem ld_v172 (k : Fin 256) (d : Fin 512) : sl.v172 c arg12 arg15 fh2 fs6 (ix3 0 k d) = fh2 (ix2 ⟨((1 : Fin 11) : ℕ) * 256 + k.val, by simp; omega⟩ ⟨d.val, by omega⟩) := by
  unfold sl.v172
  rw [View.readCov_eq_canon']
  refine (View.canon_apply_of_pieces (rowOfW fh2) _ (View.PiecesOf.mem pc3_4) _ ⟨_, List.mem_cons_of_mem _ List.mem_cons_self, mem_emb _ _⟩).trans ?_
  refine congrArg fh2 (Shape.idx_ext₂ ?_ ?_)
  · show 256 + 1 * k.val = 1 * 256 + k.val
    omega
  · show 512 * (0 + 1 * 0) + (0 + 1 * d.val) = d.val
    omega

theorem ld_v175 (k : Fin 256) (d : Fin 512) : sl.v175 c arg12 arg15 fh2 fs6 (ix3 0 k d) = fh2 (ix2 ⟨((1 : Fin 11) : ℕ) * 256 + k.val, by simp; omega⟩ ⟨512 + d.val, by omega⟩) := by
  unfold sl.v175
  rw [View.readCov_eq_canon']
  refine (View.canon_apply_of_pieces (rowOfW fh2) _ (View.PiecesOf.mem pc3_4) _ ⟨_, List.mem_cons_self, mem_emb _ _⟩).trans ?_
  refine congrArg fh2 (Shape.idx_ext₂ ?_ ?_)
  · show 256 + 1 * k.val = 1 * 256 + k.val
    omega
  · show 512 * (1 + 1 * 0) + (0 + 1 * d.val) = 512 + d.val
    omega

theorem ld_v234 (j : Fin 1024) (k : Fin 256) : sl.v234 c arg10 arg13 fh0 fs4 (ix2 j k) = fh0 (ix2 j ⟨((2 : Fin 11) : ℕ) * 256 + k.val, by simp; omega⟩) := by
  unfold sl.v234
  rw [View.readCov_eq_canon']
  refine (View.canon_apply_of_pieces (colOf fh0) _ (View.PiecesOf.mem pc1_3) _ ⟨_, List.mem_cons_self, mem_emb _ _⟩).trans ?_
  refine congrArg fh0 (Shape.idx_ext₂ ?_ ?_)
  · show 0 + 1 * j.val = j.val
    omega
  · show 512 + 1 * k.val = 2 * 256 + k.val
    omega

theorem ld_v236 (j : Fin 1024) (k : Fin 256) : sl.v236 c arg11 arg14 fh1 fs5 (ix2 j k) = fh1 (ix2 j ⟨((2 : Fin 11) : ℕ) * 256 + k.val, by simp; omega⟩) := by
  unfold sl.v236
  rw [View.readCov_eq_canon']
  refine (View.canon_apply_of_pieces (colOf fh1) _ (View.PiecesOf.mem pc2_3) _ ⟨_, List.mem_cons_self, mem_emb _ _⟩).trans ?_
  refine congrArg fh1 (Shape.idx_ext₂ ?_ ?_)
  · show 0 + 1 * j.val = j.val
    omega
  · show 512 + 1 * k.val = 2 * 256 + k.val
    omega

theorem ld_v245 (k : Fin 256) (d : Fin 512) : sl.v245 c arg12 arg15 fh2 fs6 (ix3 0 k d) = fh2 (ix2 ⟨((2 : Fin 11) : ℕ) * 256 + k.val, by simp; omega⟩ ⟨d.val, by omega⟩) := by
  unfold sl.v245
  rw [View.readCov_eq_canon']
  refine (View.canon_apply_of_pieces (rowOfW fh2) _ (View.PiecesOf.mem pc3_6) _ ⟨_, List.mem_cons_of_mem _ List.mem_cons_self, mem_emb _ _⟩).trans ?_
  refine congrArg fh2 (Shape.idx_ext₂ ?_ ?_)
  · show 512 + 1 * k.val = 2 * 256 + k.val
    omega
  · show 512 * (0 + 1 * 0) + (0 + 1 * d.val) = d.val
    omega

theorem ld_v248 (k : Fin 256) (d : Fin 512) : sl.v248 c arg12 arg15 fh2 fs6 (ix3 0 k d) = fh2 (ix2 ⟨((2 : Fin 11) : ℕ) * 256 + k.val, by simp; omega⟩ ⟨512 + d.val, by omega⟩) := by
  unfold sl.v248
  rw [View.readCov_eq_canon']
  refine (View.canon_apply_of_pieces (rowOfW fh2) _ (View.PiecesOf.mem pc3_6) _ ⟨_, List.mem_cons_self, mem_emb _ _⟩).trans ?_
  refine congrArg fh2 (Shape.idx_ext₂ ?_ ?_)
  · show 512 + 1 * k.val = 2 * 256 + k.val
    omega
  · show 512 * (1 + 1 * 0) + (0 + 1 * d.val) = 512 + d.val
    omega

theorem ld_v349 (j : Fin 1024) (k : Fin 256) : sl.v349 c arg10 arg13 fh0 fs4 (ix2 j k) = fh0 (ix2 j ⟨((3 : Fin 11) : ℕ) * 256 + k.val, by simp; omega⟩) := by
  unfold sl.v349
  rw [View.readCov_eq_canon']
  refine (View.canon_apply_of_pieces (colOf fh0) _ (View.PiecesOf.mem pc1_4) _ ⟨_, List.mem_cons_self, mem_emb _ _⟩).trans ?_
  refine congrArg fh0 (Shape.idx_ext₂ ?_ ?_)
  · show 0 + 1 * j.val = j.val
    omega
  · show 768 + 1 * k.val = 3 * 256 + k.val
    omega

theorem ld_v351 (j : Fin 1024) (k : Fin 256) : sl.v351 c arg11 arg14 fh1 fs5 (ix2 j k) = fh1 (ix2 j ⟨((3 : Fin 11) : ℕ) * 256 + k.val, by simp; omega⟩) := by
  unfold sl.v351
  rw [View.readCov_eq_canon']
  refine (View.canon_apply_of_pieces (colOf fh1) _ (View.PiecesOf.mem pc2_4) _ ⟨_, List.mem_cons_self, mem_emb _ _⟩).trans ?_
  refine congrArg fh1 (Shape.idx_ext₂ ?_ ?_)
  · show 0 + 1 * j.val = j.val
    omega
  · show 768 + 1 * k.val = 3 * 256 + k.val
    omega

theorem ld_v360 (k : Fin 256) (d : Fin 512) : sl.v360 c arg12 arg15 fh2 fs6 (ix3 0 k d) = fh2 (ix2 ⟨((3 : Fin 11) : ℕ) * 256 + k.val, by simp; omega⟩ ⟨d.val, by omega⟩) := by
  unfold sl.v360
  rw [View.readCov_eq_canon']
  refine (View.canon_apply_of_pieces (rowOfW fh2) _ (View.PiecesOf.mem pc3_8) _ ⟨_, List.mem_cons_of_mem _ List.mem_cons_self, mem_emb _ _⟩).trans ?_
  refine congrArg fh2 (Shape.idx_ext₂ ?_ ?_)
  · show 768 + 1 * k.val = 3 * 256 + k.val
    omega
  · show 512 * (0 + 1 * 0) + (0 + 1 * d.val) = d.val
    omega

theorem ld_v363 (k : Fin 256) (d : Fin 512) : sl.v363 c arg12 arg15 fh2 fs6 (ix3 0 k d) = fh2 (ix2 ⟨((3 : Fin 11) : ℕ) * 256 + k.val, by simp; omega⟩ ⟨512 + d.val, by omega⟩) := by
  unfold sl.v363
  rw [View.readCov_eq_canon']
  refine (View.canon_apply_of_pieces (rowOfW fh2) _ (View.PiecesOf.mem pc3_8) _ ⟨_, List.mem_cons_self, mem_emb _ _⟩).trans ?_
  refine congrArg fh2 (Shape.idx_ext₂ ?_ ?_)
  · show 768 + 1 * k.val = 3 * 256 + k.val
    omega
  · show 512 * (1 + 1 * 0) + (0 + 1 * d.val) = 512 + d.val
    omega

theorem ld_v464 (j : Fin 1024) (k : Fin 256) : sl.v464 c arg10 arg13 fh0 fs4 (ix2 j k) = fh0 (ix2 j ⟨((4 : Fin 11) : ℕ) * 256 + k.val, by simp; omega⟩) := by
  unfold sl.v464
  rw [View.readCov_eq_canon']
  refine (View.canon_apply_of_pieces (colOf fh0) _ (View.PiecesOf.mem pc1_5) _ ⟨_, List.mem_cons_self, mem_emb _ _⟩).trans ?_
  refine congrArg fh0 (Shape.idx_ext₂ ?_ ?_)
  · show 0 + 1 * j.val = j.val
    omega
  · show 1024 + 1 * k.val = 4 * 256 + k.val
    omega

theorem ld_v466 (j : Fin 1024) (k : Fin 256) : sl.v466 c arg11 arg14 fh1 fs5 (ix2 j k) = fh1 (ix2 j ⟨((4 : Fin 11) : ℕ) * 256 + k.val, by simp; omega⟩) := by
  unfold sl.v466
  rw [View.readCov_eq_canon']
  refine (View.canon_apply_of_pieces (colOf fh1) _ (View.PiecesOf.mem pc2_5) _ ⟨_, List.mem_cons_self, mem_emb _ _⟩).trans ?_
  refine congrArg fh1 (Shape.idx_ext₂ ?_ ?_)
  · show 0 + 1 * j.val = j.val
    omega
  · show 1024 + 1 * k.val = 4 * 256 + k.val
    omega

theorem ld_v475 (k : Fin 256) (d : Fin 512) : sl.v475 c arg12 arg15 fh2 fs6 (ix3 0 k d) = fh2 (ix2 ⟨((4 : Fin 11) : ℕ) * 256 + k.val, by simp; omega⟩ ⟨d.val, by omega⟩) := by
  unfold sl.v475
  rw [View.readCov_eq_canon']
  refine (View.canon_apply_of_pieces (rowOfW fh2) _ (View.PiecesOf.mem pc3_10) _ ⟨_, List.mem_cons_of_mem _ List.mem_cons_self, mem_emb _ _⟩).trans ?_
  refine congrArg fh2 (Shape.idx_ext₂ ?_ ?_)
  · show 1024 + 1 * k.val = 4 * 256 + k.val
    omega
  · show 512 * (0 + 1 * 0) + (0 + 1 * d.val) = d.val
    omega

theorem ld_v478 (k : Fin 256) (d : Fin 512) : sl.v478 c arg12 arg15 fh2 fs6 (ix3 0 k d) = fh2 (ix2 ⟨((4 : Fin 11) : ℕ) * 256 + k.val, by simp; omega⟩ ⟨512 + d.val, by omega⟩) := by
  unfold sl.v478
  rw [View.readCov_eq_canon']
  refine (View.canon_apply_of_pieces (rowOfW fh2) _ (View.PiecesOf.mem pc3_10) _ ⟨_, List.mem_cons_self, mem_emb _ _⟩).trans ?_
  refine congrArg fh2 (Shape.idx_ext₂ ?_ ?_)
  · show 1024 + 1 * k.val = 4 * 256 + k.val
    omega
  · show 512 * (1 + 1 * 0) + (0 + 1 * d.val) = 512 + d.val
    omega

theorem ld_v579 (j : Fin 1024) (k : Fin 256) : sl.v579 c arg10 arg13 fh0 fs4 (ix2 j k) = fh0 (ix2 j ⟨((5 : Fin 11) : ℕ) * 256 + k.val, by simp; omega⟩) := by
  unfold sl.v579
  rw [View.readCov_eq_canon']
  refine (View.canon_apply_of_pieces (colOf fh0) _ (View.PiecesOf.mem pc1_6) _ ⟨_, List.mem_cons_self, mem_emb _ _⟩).trans ?_
  refine congrArg fh0 (Shape.idx_ext₂ ?_ ?_)
  · show 0 + 1 * j.val = j.val
    omega
  · show 1280 + 1 * k.val = 5 * 256 + k.val
    omega

theorem ld_v581 (j : Fin 1024) (k : Fin 256) : sl.v581 c arg11 arg14 fh1 fs5 (ix2 j k) = fh1 (ix2 j ⟨((5 : Fin 11) : ℕ) * 256 + k.val, by simp; omega⟩) := by
  unfold sl.v581
  rw [View.readCov_eq_canon']
  refine (View.canon_apply_of_pieces (colOf fh1) _ (View.PiecesOf.mem pc2_6) _ ⟨_, List.mem_cons_self, mem_emb _ _⟩).trans ?_
  refine congrArg fh1 (Shape.idx_ext₂ ?_ ?_)
  · show 0 + 1 * j.val = j.val
    omega
  · show 1280 + 1 * k.val = 5 * 256 + k.val
    omega

theorem ld_v590 (k : Fin 256) (d : Fin 512) : sl.v590 c arg12 arg15 fh2 fs6 (ix3 0 k d) = fh2 (ix2 ⟨((5 : Fin 11) : ℕ) * 256 + k.val, by simp; omega⟩ ⟨d.val, by omega⟩) := by
  unfold sl.v590
  rw [View.readCov_eq_canon']
  refine (View.canon_apply_of_pieces (rowOfW fh2) _ (View.PiecesOf.mem pc3_12) _ ⟨_, List.mem_cons_of_mem _ List.mem_cons_self, mem_emb _ _⟩).trans ?_
  refine congrArg fh2 (Shape.idx_ext₂ ?_ ?_)
  · show 1280 + 1 * k.val = 5 * 256 + k.val
    omega
  · show 512 * (0 + 1 * 0) + (0 + 1 * d.val) = d.val
    omega

theorem ld_v593 (k : Fin 256) (d : Fin 512) : sl.v593 c arg12 arg15 fh2 fs6 (ix3 0 k d) = fh2 (ix2 ⟨((5 : Fin 11) : ℕ) * 256 + k.val, by simp; omega⟩ ⟨512 + d.val, by omega⟩) := by
  unfold sl.v593
  rw [View.readCov_eq_canon']
  refine (View.canon_apply_of_pieces (rowOfW fh2) _ (View.PiecesOf.mem pc3_12) _ ⟨_, List.mem_cons_self, mem_emb _ _⟩).trans ?_
  refine congrArg fh2 (Shape.idx_ext₂ ?_ ?_)
  · show 1280 + 1 * k.val = 5 * 256 + k.val
    omega
  · show 512 * (1 + 1 * 0) + (0 + 1 * d.val) = 512 + d.val
    omega

theorem ld_v694 (j : Fin 1024) (k : Fin 256) : sl.v694 c arg10 arg13 fh0 fs4 (ix2 j k) = fh0 (ix2 j ⟨((6 : Fin 11) : ℕ) * 256 + k.val, by simp; omega⟩) := by
  unfold sl.v694
  rw [View.readCov_eq_canon']
  refine (View.canon_apply_of_pieces (colOf fh0) _ (View.PiecesOf.mem pc1_7) _ ⟨_, List.mem_cons_self, mem_emb _ _⟩).trans ?_
  refine congrArg fh0 (Shape.idx_ext₂ ?_ ?_)
  · show 0 + 1 * j.val = j.val
    omega
  · show 1536 + 1 * k.val = 6 * 256 + k.val
    omega

theorem ld_v696 (j : Fin 1024) (k : Fin 256) : sl.v696 c arg11 arg14 fh1 fs5 (ix2 j k) = fh1 (ix2 j ⟨((6 : Fin 11) : ℕ) * 256 + k.val, by simp; omega⟩) := by
  unfold sl.v696
  rw [View.readCov_eq_canon']
  refine (View.canon_apply_of_pieces (colOf fh1) _ (View.PiecesOf.mem pc2_7) _ ⟨_, List.mem_cons_self, mem_emb _ _⟩).trans ?_
  refine congrArg fh1 (Shape.idx_ext₂ ?_ ?_)
  · show 0 + 1 * j.val = j.val
    omega
  · show 1536 + 1 * k.val = 6 * 256 + k.val
    omega

theorem ld_v705 (k : Fin 256) (d : Fin 512) : sl.v705 c arg12 arg15 fh2 fs6 (ix3 0 k d) = fh2 (ix2 ⟨((6 : Fin 11) : ℕ) * 256 + k.val, by simp; omega⟩ ⟨d.val, by omega⟩) := by
  unfold sl.v705
  rw [View.readCov_eq_canon']
  refine (View.canon_apply_of_pieces (rowOfW fh2) _ (View.PiecesOf.mem pc3_14) _ ⟨_, List.mem_cons_of_mem _ List.mem_cons_self, mem_emb _ _⟩).trans ?_
  refine congrArg fh2 (Shape.idx_ext₂ ?_ ?_)
  · show 1536 + 1 * k.val = 6 * 256 + k.val
    omega
  · show 512 * (0 + 1 * 0) + (0 + 1 * d.val) = d.val
    omega

theorem ld_v708 (k : Fin 256) (d : Fin 512) : sl.v708 c arg12 arg15 fh2 fs6 (ix3 0 k d) = fh2 (ix2 ⟨((6 : Fin 11) : ℕ) * 256 + k.val, by simp; omega⟩ ⟨512 + d.val, by omega⟩) := by
  unfold sl.v708
  rw [View.readCov_eq_canon']
  refine (View.canon_apply_of_pieces (rowOfW fh2) _ (View.PiecesOf.mem pc3_14) _ ⟨_, List.mem_cons_self, mem_emb _ _⟩).trans ?_
  refine congrArg fh2 (Shape.idx_ext₂ ?_ ?_)
  · show 1536 + 1 * k.val = 6 * 256 + k.val
    omega
  · show 512 * (1 + 1 * 0) + (0 + 1 * d.val) = 512 + d.val
    omega

theorem ld_v809 (j : Fin 1024) (k : Fin 256) : sl.v809 c arg10 arg13 fh0 fs4 (ix2 j k) = fh0 (ix2 j ⟨((7 : Fin 11) : ℕ) * 256 + k.val, by simp; omega⟩) := by
  unfold sl.v809
  rw [View.readCov_eq_canon']
  refine (View.canon_apply_of_pieces (colOf fh0) _ (View.PiecesOf.mem pc1_8) _ ⟨_, List.mem_cons_self, mem_emb _ _⟩).trans ?_
  refine congrArg fh0 (Shape.idx_ext₂ ?_ ?_)
  · show 0 + 1 * j.val = j.val
    omega
  · show 1792 + 1 * k.val = 7 * 256 + k.val
    omega

theorem ld_v811 (j : Fin 1024) (k : Fin 256) : sl.v811 c arg11 arg14 fh1 fs5 (ix2 j k) = fh1 (ix2 j ⟨((7 : Fin 11) : ℕ) * 256 + k.val, by simp; omega⟩) := by
  unfold sl.v811
  rw [View.readCov_eq_canon']
  refine (View.canon_apply_of_pieces (colOf fh1) _ (View.PiecesOf.mem pc2_8) _ ⟨_, List.mem_cons_self, mem_emb _ _⟩).trans ?_
  refine congrArg fh1 (Shape.idx_ext₂ ?_ ?_)
  · show 0 + 1 * j.val = j.val
    omega
  · show 1792 + 1 * k.val = 7 * 256 + k.val
    omega

theorem ld_v820 (k : Fin 256) (d : Fin 512) : sl.v820 c arg12 arg15 fh2 fs6 (ix3 0 k d) = fh2 (ix2 ⟨((7 : Fin 11) : ℕ) * 256 + k.val, by simp; omega⟩ ⟨d.val, by omega⟩) := by
  unfold sl.v820
  rw [View.readCov_eq_canon']
  refine (View.canon_apply_of_pieces (rowOfW fh2) _ (View.PiecesOf.mem pc3_16) _ ⟨_, List.mem_cons_of_mem _ List.mem_cons_self, mem_emb _ _⟩).trans ?_
  refine congrArg fh2 (Shape.idx_ext₂ ?_ ?_)
  · show 1792 + 1 * k.val = 7 * 256 + k.val
    omega
  · show 512 * (0 + 1 * 0) + (0 + 1 * d.val) = d.val
    omega

theorem ld_v823 (k : Fin 256) (d : Fin 512) : sl.v823 c arg12 arg15 fh2 fs6 (ix3 0 k d) = fh2 (ix2 ⟨((7 : Fin 11) : ℕ) * 256 + k.val, by simp; omega⟩ ⟨512 + d.val, by omega⟩) := by
  unfold sl.v823
  rw [View.readCov_eq_canon']
  refine (View.canon_apply_of_pieces (rowOfW fh2) _ (View.PiecesOf.mem pc3_16) _ ⟨_, List.mem_cons_self, mem_emb _ _⟩).trans ?_
  refine congrArg fh2 (Shape.idx_ext₂ ?_ ?_)
  · show 1792 + 1 * k.val = 7 * 256 + k.val
    omega
  · show 512 * (1 + 1 * 0) + (0 + 1 * d.val) = 512 + d.val
    omega

theorem ld_v88 (j : Fin 1024) (k : Fin 256) : sl.v88 c arg10 arg13 fh0 fs4 (ix2 j k) = fh0 (ix2 j ⟨((0 : Fin 11) : ℕ) * 256 + k.val, by simp; omega⟩) := by
  unfold sl.v88
  rw [View.readCov_eq_canon']
  refine (View.canon_apply_of_pieces (colOf fh0) _ (View.PiecesOf.mem pc1_1) _ ⟨_, List.mem_cons_self, mem_emb _ _⟩).trans ?_
  refine congrArg fh0 (Shape.idx_ext₂ ?_ ?_)
  · show 0 + 1 * j.val = j.val
    omega
  · show 0 + 1 * k.val = 0 * 256 + k.val
    omega

theorem ld_v90 (j : Fin 1024) (k : Fin 256) : sl.v90 c arg11 arg14 fh1 fs5 (ix2 j k) = fh1 (ix2 j ⟨((0 : Fin 11) : ℕ) * 256 + k.val, by simp; omega⟩) := by
  unfold sl.v90
  rw [View.readCov_eq_canon']
  refine (View.canon_apply_of_pieces (colOf fh1) _ (View.PiecesOf.mem pc2_1) _ ⟨_, List.mem_cons_self, mem_emb _ _⟩).trans ?_
  refine congrArg fh1 (Shape.idx_ext₂ ?_ ?_)
  · show 0 + 1 * j.val = j.val
    omega
  · show 0 + 1 * k.val = 0 * 256 + k.val
    omega

theorem ld_v924 (j : Fin 1024) (k : Fin 256) : sl.v924 c arg10 arg13 fh0 fs4 (ix2 j k) = fh0 (ix2 j ⟨((8 : Fin 11) : ℕ) * 256 + k.val, by simp; omega⟩) := by
  unfold sl.v924
  rw [View.readCov_eq_canon']
  refine (View.canon_apply_of_pieces (colOf fh0) _ (View.PiecesOf.mem pc1_9) _ ⟨_, List.mem_cons_self, mem_emb _ _⟩).trans ?_
  refine congrArg fh0 (Shape.idx_ext₂ ?_ ?_)
  · show 0 + 1 * j.val = j.val
    omega
  · show 2048 + 1 * k.val = 8 * 256 + k.val
    omega

theorem ld_v926 (j : Fin 1024) (k : Fin 256) : sl.v926 c arg11 arg14 fh1 fs5 (ix2 j k) = fh1 (ix2 j ⟨((8 : Fin 11) : ℕ) * 256 + k.val, by simp; omega⟩) := by
  unfold sl.v926
  rw [View.readCov_eq_canon']
  refine (View.canon_apply_of_pieces (colOf fh1) _ (View.PiecesOf.mem pc2_9) _ ⟨_, List.mem_cons_self, mem_emb _ _⟩).trans ?_
  refine congrArg fh1 (Shape.idx_ext₂ ?_ ?_)
  · show 0 + 1 * j.val = j.val
    omega
  · show 2048 + 1 * k.val = 8 * 256 + k.val
    omega

theorem ld_v935 (k : Fin 256) (d : Fin 512) : sl.v935 c arg12 arg15 fh2 fs6 (ix3 0 k d) = fh2 (ix2 ⟨((8 : Fin 11) : ℕ) * 256 + k.val, by simp; omega⟩ ⟨d.val, by omega⟩) := by
  unfold sl.v935
  rw [View.readCov_eq_canon']
  refine (View.canon_apply_of_pieces (rowOfW fh2) _ (View.PiecesOf.mem pc3_18) _ ⟨_, List.mem_cons_of_mem _ List.mem_cons_self, mem_emb _ _⟩).trans ?_
  refine congrArg fh2 (Shape.idx_ext₂ ?_ ?_)
  · show 2048 + 1 * k.val = 8 * 256 + k.val
    omega
  · show 512 * (0 + 1 * 0) + (0 + 1 * d.val) = d.val
    omega

theorem ld_v938 (k : Fin 256) (d : Fin 512) : sl.v938 c arg12 arg15 fh2 fs6 (ix3 0 k d) = fh2 (ix2 ⟨((8 : Fin 11) : ℕ) * 256 + k.val, by simp; omega⟩ ⟨512 + d.val, by omega⟩) := by
  unfold sl.v938
  rw [View.readCov_eq_canon']
  refine (View.canon_apply_of_pieces (rowOfW fh2) _ (View.PiecesOf.mem pc3_18) _ ⟨_, List.mem_cons_self, mem_emb _ _⟩).trans ?_
  refine congrArg fh2 (Shape.idx_ext₂ ?_ ?_)
  · show 2048 + 1 * k.val = 8 * 256 + k.val
    omega
  · show 512 * (1 + 1 * 0) + (0 + 1 * d.val) = 512 + d.val
    omega

theorem ld_v99 (k : Fin 256) (d : Fin 512) : sl.v99 c arg12 arg15 fh2 fs6 (ix3 0 k d) = fh2 (ix2 ⟨((0 : Fin 11) : ℕ) * 256 + k.val, by simp; omega⟩ ⟨d.val, by omega⟩) := by
  unfold sl.v99
  rw [View.readCov_eq_canon']
  refine (View.canon_apply_of_pieces (rowOfW fh2) _ (View.PiecesOf.mem pc3_2) _ ⟨_, List.mem_cons_of_mem _ List.mem_cons_self, mem_emb _ _⟩).trans ?_
  refine congrArg fh2 (Shape.idx_ext₂ ?_ ?_)
  · show 0 + 1 * k.val = 0 * 256 + k.val
    omega
  · show 512 * (0 + 1 * 0) + (0 + 1 * d.val) = d.val
    omega

end Cert.Ffn

end
-- ==== Proof.Ffn.Load.lean ====
module

public import proofs.«01_k».proof.Proof.Ffn.Weights

@[expose] public section

/-! What the loads of the later grid points read of whole buffers, and one stored piece of 64 output rows. -/

set_option maxRecDepth 16384

noncomputable section

namespace Cert.Ffn

open Cert.Kernel2Ideal Cert.Kernel2Ideal.Gen
open Idealize.ShloMosaic Idealize.ShloMosaic.TcCoe
open Idealize.SL Idealize.SL.Sem

/-- A load of a rectangle of a whole buffer reads the contents there. -/
theorem read_ld {S : Shape} {e : EltTy} {sp : Space} (M : Memref sig .tc sp S e) (h : M.IsWhole) (X : S.Idx → Elt Ideal e) (r : Rect S) (x : r.shape.Idx) :
    View.readAt (Elt Ideal) M.view r.toLoadRect (h.unread X) x = X (r.emb x) := by
  rw [View.readAt_eq_ld, h.read_unread]
  rfl

theorem ldCol (M : Memref sig .tc .vmem S1024x2816 .bf16) (h : M.IsWhole) (X : Vec Ideal S1024x2816 .bf16) (g : S1024x2816.Idx → EReal)
    (hX : X = colOf g) (o : ℕ) (inb : ∀ a, (![0, o] : Fin 2 → ℕ) a + S1024x256.size a ≤ S1024x2816.size a) (c : Fin 11) (ho : o = c.val * 256)
    (j : Fin 1024) (k : Fin 256) :
    View.readAt (Elt Ideal) M.view (Rect.unit (s := S1024x2816) ![0, o] S1024x256.size inb).toLoadRect (h.unread X) (ix2 j k)
    = g (ix2 j ⟨c.val * 256 + k.val, by omega⟩) := by
  refine (read_ld M h X _ _).trans ?_
  rw [hX]
  subst ho
  refine congrArg g (Shape.idx_ext₂ ?_ ?_)
  · show 0 + 1 * j.val = j.val
    omega
  · show c.val * 256 + 1 * k.val = c.val * 256 + k.val
    omega

theorem ldLo (M : Memref sig .tc .vmem S2x2816x512 .bf16) (h : M.IsWhole) (X : Vec Ideal S2x2816x512 .bf16) (w : S2816x1024.Idx → EReal)
    (hX : X = rowOfW w) (o : ℕ) (inb : ∀ a, (![0, o, 0] : Fin 3 → ℕ) a + S1x256x512.size a ≤ S2x2816x512.size a) (c : Fin 11) (ho : o = c.val * 256)
    (k : Fin 256) (d : Fin 512) :
    View.readAt (Elt Ideal) M.view (Rect.unit (s := S2x2816x512) ![0, o, 0] S1x256x512.size inb).toLoadRect (h.unread X) (ix3 0 k d)
    = w (ix2 ⟨c.val * 256 + k.val, by omega⟩ ⟨d.val, by omega⟩) := by
  refine (read_ld M h X _ _).trans ?_
  rw [hX]
  subst ho
  refine congrArg w (Shape.idx_ext₂ ?_ ?_)
  · show c.val * 256 + 1 * k.val = c.val * 256 + k.val
    omega
  · show 512 * (0 + 1 * 0) + (0 + 1 * d.val) = d.val
    omega

theorem ldHi (M : Memref sig .tc .vmem S2x2816x512 .bf16) (h : M.IsWhole) (X : Vec Ideal S2x2816x512 .bf16) (w : S2816x1024.Idx → EReal)
    (hX : X = rowOfW w) (o : ℕ) (inb : ∀ a, (![1, o, 0] : Fin 3 → ℕ) a + S1x256x512.size a ≤ S2x2816x512.size a) (c : Fin 11) (ho : o = c.val * 256)
    (k : Fin 256) (d : Fin 512) :
    View.readAt (Elt Ideal) M.view (Rect.unit (s := S2x2816x512) ![1, o, 0] S1x256x512.size inb).toLoadRect (h.unread X) (ix3 0 k d)
    = w (ix2 ⟨c.val * 256 + k.val, by omega⟩ ⟨512 + d.val, by omega⟩) := by
  refine (read_ld M h X _ _).trans ?_
  rw [hX]
  subst ho
  refine congrArg w (Shape.idx_ext₂ ?_ ?_)
  · show c.val * 256 + 1 * k.val = c.val * 256 + k.val
    omega
  · show 512 * (1 + 1 * 0) + (0 + 1 * d.val) = 512 + d.val
    omega

theorem ldRows (M : Memref sig .tc .vmem S512x1024 .f32) (h : M.IsWhole) (X : Vec Ideal S512x1024 .f32) (o : ℕ)
    (inb : ∀ a, (![o, 0] : Fin 2 → ℕ) a + S64x1024.size a ≤ S512x1024.size a) (ho : o + 64 ≤ 512) (r : Fin 64) (j : Fin 1024) :
    View.readAt (Elt Ideal) M.view (Rect.unit (s := S512x1024) ![o, 0] S64x1024.size inb).toLoadRect (h.unread X) (ix2 r j)
    = X (ix2 ⟨o + r.val, by omega⟩ j) := by
  refine (read_ld M h X _ _).trans (congrArg X (Shape.idx_ext₂ ?_ ?_))
  · show o + 1 * r.val = o + r.val
    omega
  · show 0 + 1 * j.val = j.val
    omega

theorem ldWhole (M : Memref sig .tc .vmem S512x1024 .f32) (h : M.IsWhole) (X : Vec Ideal S512x1024 .f32)
    (inb : ∀ a, (![0, 0] : Fin 2 → ℕ) a + S512x1024.size a ≤ S512x1024.size a) (r : Fin 512) (j : Fin 1024) :
    View.readAt (Elt Ideal) M.view (Rect.unit (s := S512x1024) ![0, 0] S512x1024.size inb).toLoadRect (h.unread X) (ix2 r j)
    = X (ix2 r j) := by
  refine (read_ld M h X _ _).trans (congrArg X (Shape.idx_ext₂ ?_ ?_))
  · show 0 + 1 * r.val = r.val
    omega
  · show 0 + 1 * j.val = j.val
    omega

theorem ldLine (M : Memref sig .tc .vmem S1x1024 .f32) (h : M.IsWhole) (X : Vec Ideal S1x1024 .f32)
    (inb : ∀ a, (![0, 0] : Fin 2 → ℕ) a + S1x1024.size a ≤ S1x1024.size a) (j : Fin 1024) :
    View.readAt (Elt Ideal) M.view (Rect.unit (s := S1x1024) ![0, 0] S1x1024.size inb).toLoadRect (h.unread X) (ix2 0 j)
    = X (ix2 0 j) := by
  refine (read_ld M h X _ _).trans (congrArg X (Shape.idx_ext₂ ?_ ?_))
  · rfl
  · show 0 + 1 * j.val = j.val
    omega

/-- The zero that a piece's rows are made to wait on: an entry is never both equal and not equal to itself. -/
def anchorOf (a : FVec Ideal S1x1024 .f32) : FVec Ideal S64x1024 .f32 :=
  broadcastTo S64x1024 (select (andi (cmpf .oeq a a) (cmpf .one a a)) (broadcast S1x1024 (Scalar.ofBits .f32 0x3F800000#32))
    (broadcast S1x1024 (Scalar.ofBits .f32 0x00000000#32))) broadcasts_S1x1024_S64x1024

theorem anchorOf_at (a : FVec Ideal S1x1024 .f32) (r : Fin 64) (d : Fin 1024) : anchorOf a (ix2 r d) = 0 := by
  pointwise [anchorOf, Ideal.cmpf_def]
  rw [show decide (a (ix2 0 d) ≠ a (ix2 0 d)) = false by simp]
  rfl

/-- One piece of 64 rows of the output. -/
def pieceOf (x acc : FVec Ideal S64x1024 .f32) (a : FVec Ideal S1x1024 .f32) (g b : FVec Ideal S1x1024 .f32) : FVec Ideal S64x1024 .f32 :=
  normOf (mixOf (addf (shapeCast S64x1024 x shapeCasts_S64x1024_S64x1024) (anchorOf a)) acc) g b

/-- One piece of 64 rows of the output at the last point. -/
def pieceOfLast (x acc : FVec Ideal S64x1024 .f32) (g b : FVec Ideal S1x1024 .f32) : FVec Ideal S64x1024 .f32 :=
  normOf (mixOf (shapeCast S64x1024 x shapeCasts_S64x1024_S64x1024) acc) g b

theorem pieceOf_at (x acc : FVec Ideal S64x1024 .f32) (a : FVec Ideal S1x1024 .f32) (g b : FVec Ideal S1x1024 .f32) (r : Fin 64) (d : Fin 1024) :
    pieceOf x acc a g b (ix2 r d) = Spec.layerNorm (fun j => Spec.alpha * x (ix2 r j) + Spec.half * acc (ix2 r j)) (fun e => g (ix2 0 e)) (fun e => b (ix2 0 e)) d := by
  unfold pieceOf
  rw [normOf_at]
  refine congrArg (fun y => Spec.layerNorm y _ _ d) (funext fun j => ?_)
  rw [mixOf_at, shapeCast_self]
  pointwise [anchorOf_at]

theorem pieceOfLast_at (x acc : FVec Ideal S64x1024 .f32) (g b : FVec Ideal S1x1024 .f32) (r : Fin 64) (d : Fin 1024) :
    pieceOfLast x acc g b (ix2 r d) = Spec.layerNorm (fun j => Spec.alpha * x (ix2 r j) + Spec.half * acc (ix2 r j)) (fun e => g (ix2 0 e)) (fun e => b (ix2 0 e)) d := by
  unfold pieceOfLast
  rw [normOf_at, shapeCast_self]
  refine congrArg (fun y => Spec.layerNorm y _ _ d) (funext fun j => ?_)
  rw [mixOf_at]

/-- The output block of 512 rows, from the rows' inputs and their feed-forward sums. -/
def outRows (x acc : S512x1024.Idx → EReal) (g b : S1x1024.Idx → EReal) : S512x1024.Idx → EReal :=
  fun y => Spec.layerNorm (fun j => Spec.alpha * x (ix2 (y 0) j) + Spec.half * acc (ix2 (y 0) j)) (fun e => g (ix2 0 e)) (fun e => b (ix2 0 e)) (y 1)

section
variable (M2 : Memref sig .tc .vmem S512x1024 .f32) (h2 : M2.IsWhole) (M9 : Memref sig .tc .vmem S512x1024 .f32) (h9 : M9.IsWhole)
  (M6 : Memref sig .tc .vmem S1x1024 .f32) (h6 : M6.IsWhole) (M7 : Memref sig .tc .vmem S1x1024 .f32) (h7 : M7.IsWhole)
  (x1 xs0 : Vec Ideal S512x1024 .f32) (x2 x3 : Vec Ideal S1x1024 .f32) (a : FVec Ideal S1x1024 .f32)
  (o : ℕ) (inb : ∀ a, (![o, 0] : Fin 2 → ℕ) a + S64x1024.size a ≤ S512x1024.size a)
  (inb' : ∀ a, (![0, 0] : Fin 2 → ℕ) a + S1x1024.size a ≤ S1x1024.size a) (ho : o + 64 ≤ 512) (x : S64x1024.Idx)

include ho in
theorem outRows_emb (y : (Rect.unit (s := S512x1024) ![o, 0] S64x1024.size inb).shape.Idx) (r : Fin 64) (d : Fin 1024) (hy : y = (ix2 r d : S64x1024.Idx)) :
    outRows x1 xs0 x2 x3 ((Rect.unit (s := S512x1024) ![o, 0] S64x1024.size inb).emb y)
    = Spec.layerNorm (fun j => Spec.alpha * x1 (ix2 ⟨o + r.val, by omega⟩ j) + Spec.half * xs0 (ix2 ⟨o + r.val, by omega⟩ j)) (fun e => x2 (ix2 0 e)) (fun e => x3 (ix2 0 e)) d := by
  subst hy
  have e0 : ((Rect.unit (s := S512x1024) ![o, 0] S64x1024.size inb).emb (ix2 r d : S64x1024.Idx)) = (ix2 (⟨o + r.val, by omega⟩ : Fin 512) d : S512x1024.Idx) :=
    Shape.idx_ext₂ (show o + 1 * r.val = o + r.val by omega) (show 0 + 1 * d.val = d.val by omega)
  rw [e0]
  rfl

include ho in
/-- A piece computed from loads of rows `o … o + 63` is those rows of the output block. -/
theorem piece_out : pieceOf (View.readAt (Elt Ideal) M2.view (Rect.unit (s := S512x1024) ![o, 0] S64x1024.size inb).toLoadRect (h2.unread x1))
      (View.readAt (Elt Ideal) M9.view (Rect.unit (s := S512x1024) ![o, 0] S64x1024.size inb).toLoadRect (h9.unread xs0)) a
      (View.readAt (Elt Ideal) M6.view (Rect.unit (s := S1x1024) ![0, 0] S1x1024.size inb').toLoadRect (h6.unread x2))
      (View.readAt (Elt Ideal) M7.view (Rect.unit (s := S1x1024) ![0, 0] S1x1024.size inb').toLoadRect (h7.unread x3)) x
    = outRows x1 xs0 x2 x3 ((Rect.unit (s := S512x1024) ![o, 0] S64x1024.size inb).emb x) := by
  obtain ⟨r, d, rfl⟩ : ∃ (r : Fin 64) (d : Fin 1024), x = ix2 r d := ⟨x 0, x 1, Shape.idx_ext₂ rfl rfl⟩
  rw [outRows_emb x1 xs0 x2 x3 o inb ho _ r d rfl, pieceOf_at]
  simp only [ldRows _ _ _ _ _ ho]
  exact congrArg₂ (fun g b => Spec.layerNorm _ g b d) (funext fun e => ldLine M6 h6 x2 inb' e) (funext fun e => ldLine M7 h7 x3 inb' e)

include ho in
/-- So at the last point. -/
theorem pieceLast_out : pieceOfLast (View.readAt (Elt Ideal) M2.view (Rect.unit (s := S512x1024) ![o, 0] S64x1024.size inb).toLoadRect (h2.unread x1))
      (View.readAt (Elt Ideal) M9.view (Rect.unit (s := S512x1024) ![o, 0] S64x1024.size inb).toLoadRect (h9.unread xs0))
      (View.readAt (Elt Ideal) M6.view (Rect.unit (s := S1x1024) ![0, 0] S1x1024.size inb').toLoadRect (h6.unread x2))
      (View.readAt (Elt Ideal) M7.view (Rect.unit (s := S1x1024) ![0, 0] S1x1024.size inb').toLoadRect (h7.unread x3)) x
    = outRows x1 xs0 x2 x3 ((Rect.unit (s := S512x1024) ![o, 0] S64x1024.size inb).emb x) := by
  obtain ⟨r, d, rfl⟩ : ∃ (r : Fin 64) (d : Fin 1024), x = ix2 r d := ⟨x 0, x 1, Shape.idx_ext₂ rfl rfl⟩
  rw [outRows_emb x1 xs0 x2 x3 o inb ho _ r d rfl, pieceOfLast_at]
  simp only [ldRows _ _ _ _ _ ho]
  exact congrArg₂ (fun g b => Spec.layerNorm _ g b d) (funext fun e => ldLine M6 h6 x2 inb' e) (funext fun e => ldLine M7 h7 x3 inb' e)
end

/-- The first sum of a row of the accumulator, before any chunk. -/
def zeroAcc : FVec Ideal S512x1024 .f32 := broadcast S512x1024 (Scalar.ofBits .f32 0x00000000#32)

theorem zeroAcc_at (r : Fin 512) (d : Fin 1024) : zeroAcc (ix2 r d) = 0 := by
  pointwise [zeroAcc]

/-- Eleven chunks added one after the other to zero are the whole sum. -/
theorem ffn_of_chunks (x : Fin 1024 → EReal) (G U : Fin 1024 → Fin 2816 → EReal) (D : Fin 2816 → Fin 1024 → EReal) (d : Fin 1024) :
    0 + Spec.chunk Spec.silu x G U D 0 d + Spec.chunk Spec.silu x G U D 1 d + Spec.chunk Spec.silu x G U D 2 d + Spec.chunk Spec.silu x G U D 3 d
      + Spec.chunk Spec.silu x G U D 4 d + Spec.chunk Spec.silu x G U D 5 d + Spec.chunk Spec.silu x G U D 6 d + Spec.chunk Spec.silu x G U D 7 d
      + Spec.chunk Spec.silu x G U D 8 d + Spec.chunk Spec.silu x G U D 9 d + Spec.chunk Spec.silu x G U D 10 d
    = Spec.ffn Spec.silu x G U D d := by
  rw [Spec.ffn_eq_chunks]
  simp only [Fin.sum_univ_castSucc, Fin.sum_univ_zero]
  rfl

end Cert.Ffn

end
-- ==== Proof.Ffn.CaseA.lean ====
module

public import proofs.«01_k».proof.Proof.Ffn.Indep

@[expose] public section

/-! The run of the FFN kernel body at point 0, for any contents of the staging buffers. -/

-- membership in a rectangle of production extents (`View.cover_of_tiled`): the elaborator's structural look
-- recurses once per coordinate of the long axes
set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem pieces_4 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2)
    (fs4 gs4 : Buf (Elt F) (arg13.view.loc (c : Thread nD τ))) (fs5 gs5 : Buf (Elt F) (arg14.view.loc (c : Thread nD τ))) (fs6 gs6 : Buf (Elt F) (arg15.view.loc (c : Thread nD τ))) :
    (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 fs5 fs6).1 = (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 gs4 gs5 gs6).1 := by
  exact ind_H4_8

theorem pieces_S0 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2)
    (fs4 gs4 : Buf (Elt F) (arg13.view.loc (c : Thread nD τ))) (fs5 gs5 : Buf (Elt F) (arg14.view.loc (c : Thread nD τ))) (fs6 gs6 : Buf (Elt F) (arg15.view.loc (c : Thread nD τ))) :
    (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 fs5 fs6).2.1 = (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 gs4 gs5 gs6).2.1 := by
  show (⟨Rect.unit ![0, 0] ![512, 1024] inb_S512x1024_S512x1024_0_0, k0_pay1 (kernelRun0_Ax.sl.r_36 c arg1 harg1 arg10 arg11 arg12 arg13 arg14 arg15 x0 fh0 fh1 fh2 fs4 fs5 fs6)
      (kernelRun0_Ax.sl.r_39 c arg1 harg1 arg10 arg11 arg13 arg14 x0 fh0 fh1 fs4 fs5)
      (kernelRun0_Ax.sl.v1150 c arg12 arg15 fh2 fs6) (kernelRun0_Ax.sl.v1153 c arg12 arg15 fh2 fs6)⟩ :: kernelRun0_Ax.sl.HS0_1 : List (View.Piece (Elt F) S512x1024 .f32)) = _
  rw [ind_r_36 (gs4 := gs4) (gs5 := gs5) (gs6 := gs6), ind_r_39 (gs4 := gs4) (gs5 := gs5), ind_v1150 (gs6 := gs6), ind_v1153 (gs6 := gs6)]
  rfl

theorem pieces_S1 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2)
    (fs4 gs4 : Buf (Elt F) (arg13.view.loc (c : Thread nD τ))) (fs5 gs5 : Buf (Elt F) (arg14.view.loc (c : Thread nD τ))) (fs6 gs6 : Buf (Elt F) (arg15.view.loc (c : Thread nD τ))) :
    (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 fs5 fs6).2.2.1 = (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 gs4 gs5 gs6).2.2.1 := by
  exact ind_HS1_11

theorem pieces_S2 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2)
    (fs4 gs4 : Buf (Elt F) (arg13.view.loc (c : Thread nD τ))) (fs5 gs5 : Buf (Elt F) (arg14.view.loc (c : Thread nD τ))) (fs6 gs6 : Buf (Elt F) (arg15.view.loc (c : Thread nD τ))) :
    (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 fs5 fs6).2.2.2.1 = (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 gs4 gs5 gs6).2.2.2.1 := by
  exact ind_HS2_11

theorem pieces_S3 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2)
    (fs4 gs4 : Buf (Elt F) (arg13.view.loc (c : Thread nD τ))) (fs5 gs5 : Buf (Elt F) (arg14.view.loc (c : Thread nD τ))) (fs6 gs6 : Buf (Elt F) (arg15.view.loc (c : Thread nD τ))) :
    (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 fs5 fs6).2.2.2.2.1 = (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 gs4 gs5 gs6).2.2.2.2.1 := by
  exact ind_HS3_22

/-- The run of the body at point 0 with its pieces named. -/
theorem caseA_at (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2)
    (fs4 : Buf (Elt F) (arg13.view.loc (c : Thread nD τ))) (fs5 : Buf (Elt F) (arg14.view.loc (c : Thread nD τ))) (fs6 : Buf (Elt F) (arg15.view.loc (c : Thread nD τ)))
    (L4 : List (View.Piece (Elt F) S512x1024 .f32)) (LS0 : List (View.Piece (Elt F) S512x1024 .f32)) (LS1 : List (View.Piece (Elt F) S1024x2816 .bf16)) (LS2 : List (View.Piece (Elt F) S1024x2816 .bf16)) (LS3 : List (View.Piece (Elt F) S2x2816x512 .bf16))
    (eL4 : (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 fs5 fs6).1 = L4) (eLS0 : (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 fs5 fs6).2.1 = LS0) (eLS1 : (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 fs5 fs6).2.2.1 = LS1) (eLS2 : (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 fs5 fs6).2.2.2.1 = LS2) (eLS3 : (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 fs5 fs6).2.2.2.2.1 = LS3) (W : Waits sig Unit) (K : PUnit → sProp 𝕄) :
        iprop(owns (c : Thread nD τ) arg1 fullShare x0 ∗ owns (c : Thread nD τ) arg2 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (arg13.view.loc (c : Thread nD τ) ↦[arg13.view.set]{fullShare} fs4) ∗ (arg14.view.loc (c : Thread nD τ) ↦[arg14.view.set]{fullShare} fs5) ∗ (arg15.view.loc (c : Thread nD τ) ↦[arg15.view.set]{fullShare} fs6) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_ln_post i arg1 harg1 arg2 harg2 (Memref.whole main_arg1) (Memref.isWhole_whole _) (Memref.whole main_arg2) (Memref.isWhole_whole _) (Memref.whole main_arg3) (Memref.isWhole_whole _) arg6 harg6 arg7 harg7 arg8 harg8 arg9 harg9 arg10 harg10 arg11 harg11 arg12 harg12 arg13 harg13 arg14 harg14 arg15 harg15 cc0_scratch7) K := by
  subst eL4 eLS0 eLS1 eLS2 eLS3
  exact (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 fs5 fs6).2.2.2.2.2 W K

/-- A run from every contents of the staging buffers is a run from some contents. -/
theorem caseA_weak (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2)

    (L4 : List (View.Piece (Elt F) S512x1024 .f32)) (LS0 : List (View.Piece (Elt F) S512x1024 .f32)) (LS1 : List (View.Piece (Elt F) S1024x2816 .bf16)) (LS2 : List (View.Piece (Elt F) S1024x2816 .bf16)) (LS3 : List (View.Piece (Elt F) S2x2816x512 .bf16)) (W : Waits sig Unit) (K : PUnit → sProp 𝕄)
    (h : ∀ (fs4 : Buf (Elt F) (arg13.view.loc (c : Thread nD τ))) (fs5 : Buf (Elt F) (arg14.view.loc (c : Thread nD τ))) (fs6 : Buf (Elt F) (arg15.view.loc (c : Thread nD τ))),
        iprop(owns (c : Thread nD τ) arg1 fullShare x0 ∗ owns (c : Thread nD τ) arg2 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (arg13.view.loc (c : Thread nD τ) ↦[arg13.view.set]{fullShare} fs4) ∗ (arg14.view.loc (c : Thread nD τ) ↦[arg14.view.set]{fullShare} fs5) ∗ (arg15.view.loc (c : Thread nD τ) ↦[arg15.view.set]{fullShare} fs6) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_ln_post i arg1 harg1 arg2 harg2 (Memref.whole main_arg1) (Memref.isWhole_whole _) (Memref.whole main_arg2) (Memref.isWhole_whole _) (Memref.whole main_arg3) (Memref.isWhole_whole _) arg6 harg6 arg7 harg7 arg8 harg8 arg9 harg9 arg10 harg10 arg11 harg11 arg12 harg12 arg13 harg13 arg14 harg14 arg15 harg15 cc0_scratch7) K) :
        iprop(owns (c : Thread nD τ) arg1 fullShare x0 ∗ owns (c : Thread nD τ) arg2 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_ln_post i arg1 harg1 arg2 harg2 (Memref.whole main_arg1) (Memref.isWhole_whole _) (Memref.whole main_arg2) (Memref.isWhole_whole _) (Memref.whole main_arg3) (Memref.isWhole_whole _) arg6 harg6 arg7 harg7 arg8 harg8 arg9 harg9 arg10 harg10 arg11 harg11 arg12 harg12 arg13 harg13 arg14 harg14 arg15 harg15 cc0_scratch7) K := by
  iintro ⟨H0, H1, H2, H3, H4, HS0, HS1, HS2, HS3, ⟨%ds4, HS4⟩, ⟨%ds5, HS5⟩, ⟨%ds6, HS6⟩, Hq0, Hq1, Hq2, Hq3, Hq4, Hq5, Hh0, Hh1, Hh2, HW, Hk⟩
  unfold owns
  icases HS4 with ⟨%fs4, -, HS4⟩
  icases HS5 with ⟨%fs5, -, HS5⟩
  icases HS6 with ⟨%fs6, -, HS6⟩

  have h' := h fs4 fs5 fs6
  unfold owns at h'
  iapply h'
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  isplitl [Hh2]; · iexact Hh2
  isplitl [HW]; · iexact HW
  iexact Hk

/-- The run of the body at point 0: the pieces are those of the run from staging buffers at some fixed contents, and by
independence those of the run from any contents. -/
noncomputable def kernelRun0_A (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2)
       :
    Σ' (L4 : List (View.Piece (Elt F) S512x1024 .f32)), Σ' (LS0 : List (View.Piece (Elt F) S512x1024 .f32)), Σ' (LS1 : List (View.Piece (Elt F) S1024x2816 .bf16)), Σ' (LS2 : List (View.Piece (Elt F) S1024x2816 .bf16)), { LS3 : List (View.Piece (Elt F) S2x2816x512 .bf16) //
      ∀ (W : Waits sig Unit) (K : PUnit → sProp 𝕄),
        iprop(owns (c : Thread nD τ) arg1 fullShare x0 ∗ owns (c : Thread nD τ) arg2 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_ln_post i arg1 harg1 arg2 harg2 (Memref.whole main_arg1) (Memref.isWhole_whole _) (Memref.whole main_arg2) (Memref.isWhole_whole _) (Memref.whole main_arg3) (Memref.isWhole_whole _) arg6 harg6 arg7 harg7 arg8 harg8 arg9 harg9 arg10 harg10 arg11 harg11 arg12 harg12 arg13 harg13 arg14 harg14 arg15 harg15 cc0_scratch7) K } :=
  ⟨(kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 arg13.view.junk arg14.view.junk arg15.view.junk).1, (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 arg13.view.junk arg14.view.junk arg15.view.junk).2.1, (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 arg13.view.junk arg14.view.junk arg15.view.junk).2.2.1, (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 arg13.view.junk arg14.view.junk arg15.view.junk).2.2.2.1, (kernelRun0_Ax c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 arg13.view.junk arg14.view.junk arg15.view.junk).2.2.2.2.1,
    fun W K => caseA_weak c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 _ _ _ _ _ W K fun fs4 fs5 fs6 => caseA_at c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 fs5 fs6 _ _ _ _ _
      (pieces_4 c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 arg13.view.junk fs5 arg14.view.junk fs6 arg15.view.junk)
      (pieces_S0 c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 arg13.view.junk fs5 arg14.view.junk fs6 arg15.view.junk)
      (pieces_S1 c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 arg13.view.junk fs5 arg14.view.junk fs6 arg15.view.junk)
      (pieces_S2 c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 arg13.view.junk fs5 arg14.view.junk fs6 arg15.view.junk)
      (pieces_S3 c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 fs4 arg13.view.junk fs5 arg14.view.junk fs6 arg15.view.junk) W K⟩

end Cert.Ffn

end
-- ==== Proof.Ffn.RunB.lean ====
module

public import proofs.«01_k».proof.Proof.Ffn.Runs

@[expose] public section

/-! The run of the FFN kernel body, case B. -/

-- membership in a rectangle of production extents (`View.cover_of_tiled`): the elaborator's structural look
-- recurses once per coordinate of the long axes
set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 taken, `scf.if` 2 not taken: points 1, 2, … 31: 31 of 33), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : cond0_1 i) (hc2 : ¬cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) :
    Σ' (L4 : List (View.Piece (Elt F) S512x1024 .f32)), Σ' (LS0 : List (View.Piece (Elt F) S512x1024 .f32)), Σ' (LS1 : List (View.Piece (Elt F) S1024x2816 .bf16)), Σ' (LS2 : List (View.Piece (Elt F) S1024x2816 .bf16)), { LS3 : List (View.Piece (Elt F) S2x2816x512 .bf16) //
      ∀ (W : Waits sig Unit) (K : PUnit → sProp 𝕄),
        iprop(owns (c : Thread nD τ) arg1 fullShare x0 ∗ owns (c : Thread nD τ) arg2 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ (∃ f, arg9.view.loc (c : Thread nD τ) ↦[arg9.view.set]{fullShare} arg9.view.writes (Elt F) f LS0) ∗ owns (c : Thread nD τ) arg10 fullShare xs1 ∗ owns (c : Thread nD τ) arg11 fullShare xs2 ∗ owns (c : Thread nD τ) arg12 fullShare xs3 ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_ln_post i arg1 harg1 arg2 harg2 (Memref.whole main_arg1) (Memref.isWhole_whole _) (Memref.whole main_arg2) (Memref.isWhole_whole _) (Memref.whole main_arg3) (Memref.isWhole_whole _) arg6 harg6 arg7 harg7 arg8 harg8 arg9 harg9 arg10 harg10 arg11 harg11 arg12 harg12 arg13 harg13 arg14 harg14 arg15 harg15 cc0_scratch7) K } := by
  refine ⟨?_, ?_, [], [], [], fun W K => ?run⟩
  case run =>
    simp only [cc0_ffn_ln_post_eq_skeleton]; unfold cc0_ffn_ln_post_skel
    simp only [k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%ds4, %fs4, -, HS4⟩, ⟨%ds5, %fs5, -, HS5⟩, ⟨%ds6, %fs6, -, HS6⟩, Hq0, Hq1, Hq2, Hq3, Hq4, Hq5, Hh0, Hh1, Hh2, HW, Hk⟩
    obtain rfl := harg1.eq_unread hf0; obtain rfl := harg2.eq_unread hf1; obtain rfl := harg6.eq_unread hf2; obtain rfl := harg7.eq_unread hf3; obtain rfl := harg9.eq_unread hfs0; obtain rfl := harg10.eq_unread hfs1; obtain rfl := harg11.eq_unread hfs2; obtain rfl := harg12.eq_unread hfs3
    sl_exec_parts (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]; · iexists _; iexact HS0
    isplitl [HS1]
    · iexists _; isplitr; · ipureintro; exact harg10.read_unread _
      iexact HS1
    isplitl [HS2]
    · iexists _; isplitr; · ipureintro; exact harg11.read_unread _
      iexact HS2
    isplitl [HS3]
    · iexists _; isplitr; · ipureintro; exact harg12.read_unread _
      iexact HS3
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    iexists _; iexact HW

end Cert.Ffn

end
-- ==== Proof.Ffn.RunC.lean ====
module

public import proofs.«01_k».proof.Proof.Ffn.Runs

@[expose] public section

/-! The run of the FFN kernel body, case C. -/

-- membership in a rectangle of production extents (`View.cover_of_tiled`): the elaborator's structural look
-- recurses once per coordinate of the long axes
set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE C (`scf.if` 0 not taken, `scf.if` 1 not taken, `scf.if` 2 taken: points 32), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : ¬cond0_1 i) (hc2 : cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) :
    Σ' (L4 : List (View.Piece (Elt F) S512x1024 .f32)), Σ' (LS0 : List (View.Piece (Elt F) S512x1024 .f32)), Σ' (LS1 : List (View.Piece (Elt F) S1024x2816 .bf16)), Σ' (LS2 : List (View.Piece (Elt F) S1024x2816 .bf16)), { LS3 : List (View.Piece (Elt F) S2x2816x512 .bf16) //
      ∀ (W : Waits sig Unit) (K : PUnit → sProp 𝕄),
        iprop(owns (c : Thread nD τ) arg1 fullShare x0 ∗ owns (c : Thread nD τ) arg2 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg2 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4) ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_ln_post i arg1 harg1 arg2 harg2 (Memref.whole main_arg1) (Memref.isWhole_whole _) (Memref.whole main_arg2) (Memref.isWhole_whole _) (Memref.whole main_arg3) (Memref.isWhole_whole _) arg6 harg6 arg7 harg7 arg8 harg8 arg9 harg9 arg10 harg10 arg11 harg11 arg12 harg12 arg13 harg13 arg14 harg14 arg15 harg15 cc0_scratch7) K } := by
  refine ⟨?_, [], [], [], [], fun W K => ?run⟩
  case run =>
    simp only [cc0_ffn_ln_post_eq_skeleton]; unfold cc0_ffn_ln_post_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, ⟨%ds4, %fs4, -, HS4⟩, ⟨%ds5, %fs5, -, HS5⟩, ⟨%ds6, %fs6, -, HS6⟩, Hq0, Hq1, Hq2, Hq3, Hq4, Hq5, Hh0, Hh1, Hh2, HW, Hk⟩
    obtain rfl := harg1.eq_unread hf0; obtain rfl := harg2.eq_unread hf1; obtain rfl := harg6.eq_unread hf2; obtain rfl := harg7.eq_unread hf3; obtain rfl := harg9.eq_unread hfs0; obtain rfl := harg10.eq_unread hfs1; obtain rfl := harg11.eq_unread hfs2; obtain rfl := harg12.eq_unread hfs3
    sl_exec_parts (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg6.read_unread _
      iexact H2
    isplitl [H3]
    · iexists _; isplitr; · ipureintro; exact harg7.read_unread _
      iexact H3
    isplitl [H4]; · iexists _; iexact H4
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    isplitl [HS3]
    · iexists _; isplitr; · ipureintro; exact harg12.read_unread _
      iexact HS3
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [Hh2]; · iexact Hh2
    iexists _; iexact HW

end Cert.Ffn

end
-- ==== Proof.Ffn.Frame.lean ====
module

public import proofs.«01_k».proof.Proof.Ffn.CaseA
public import proofs.«01_k».proof.Proof.Ffn.RunB
public import proofs.«01_k».proof.Proof.Ffn.RunC
public import Idealize.ShloMosaic.Lib.Claim

@[expose] public section

/-! The FFN kernel: what each grid point leaves in the output window and in the carried scratch, and the run. -/

-- membership in a rectangle of production extents (`View.cover_of_tiled`): the elaborator's structural look
-- recurses once per coordinate of the long axes
set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 4 tile its block (8 stores of `S64x1024`, checked by the kernel's evaluation: Lib/Ring.lean `Piece.tiledL`, linear in the pieces, through a loop's `@[irreducible]` trip theorem too), so they cover it. -/
theorem cover0_A_4 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2) (y : S512x1024.Idx) :
    ∃ pc ∈ (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).1, y ∈ pc.1.set :=
  View.cover_of_tiledL (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).1 S64x1024.size (by sl_kernel_rfl) y

/-- What case A leaves in output 4's staging buffer: its pieces read back over junk. -/
def out0_A_4 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2) : Vec F S512x1024 .f32 :=
  VO0_4.read (Elt F) (VO0_4.writes (Elt F) VO0_4.junk (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).1)

/-- Case A's pieces for scratch `arg9`, which the kernel carries between points, cover it: 2 pieces of `S512x1024` tiling it (Lib/Ring.lean `Piece.tiledL`). -/
theorem scover0_A_0 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2) (y : S512x1024.Idx) :
    ∃ pc ∈ (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).2.1, y ∈ pc.1.set :=
  View.cover_of_tiledL (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).2.1 S512x1024.size (by sl_kernel_rfl) y

/-- What case A leaves in scratch `arg9`: its pieces read back over junk. -/
def sout0_A_0 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2) : Vec F S512x1024 .f32 :=
  VS0_0.read (Elt F) (VS0_0.writes (Elt F) VS0_0.junk (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).2.1)

/-- Case A's pieces for scratch `arg10`, which the kernel carries between points, cover it: 11 pieces of `S1024x256` tiling it (Lib/Ring.lean `Piece.tiledL`). -/
theorem scover0_A_1 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2) (y : S1024x2816.Idx) :
    ∃ pc ∈ (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).2.2.1, y ∈ pc.1.set :=
  View.cover_of_tiledL (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).2.2.1 S1024x256.size (by sl_kernel_rfl) y

/-- What case A leaves in scratch `arg10`: its pieces read back over junk. -/
def sout0_A_1 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2) : Vec F S1024x2816 .bf16 :=
  VS0_1.read (Elt F) (VS0_1.writes (Elt F) VS0_1.junk (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).2.2.1)

/-- Case A's pieces for scratch `arg11`, which the kernel carries between points, cover it: 11 pieces of `S1024x256` tiling it (Lib/Ring.lean `Piece.tiledL`). -/
theorem scover0_A_2 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2) (y : S1024x2816.Idx) :
    ∃ pc ∈ (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).2.2.2.1, y ∈ pc.1.set :=
  View.cover_of_tiledL (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).2.2.2.1 S1024x256.size (by sl_kernel_rfl) y

/-- What case A leaves in scratch `arg11`: its pieces read back over junk. -/
def sout0_A_2 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2) : Vec F S1024x2816 .bf16 :=
  VS0_2.read (Elt F) (VS0_2.writes (Elt F) VS0_2.junk (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).2.2.2.1)

/-- Case A's pieces for scratch `arg12`, which the kernel carries between points, cover it: 22 pieces of `S1x256x512` tiling it (Lib/Ring.lean `Piece.tiledL`). -/
theorem scover0_A_3 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2) (y : S2x2816x512.Idx) :
    ∃ pc ∈ (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).2.2.2.2.1, y ∈ pc.1.set :=
  View.cover_of_tiledL (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).2.2.2.2.1 S1x256x512.size (by sl_kernel_rfl) y

/-- What case A leaves in scratch `arg12`: its pieces read back over junk. -/
def sout0_A_3 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec F S512x1024 .f32) (x1 : Vec F S512x1024 .f32) (x2 : Vec F S1x1024 .f32) (x3 : Vec F S1x1024 .f32) (fh0 : HbBuf0 (F := F) c hbM0_0) (fh1 : HbBuf0 (F := F) c hbM0_1) (fh2 : HbBuf0 (F := F) c hbM0_2) : Vec F S2x2816x512 .bf16 :=
  VS0_3.read (Elt F) (VS0_3.writes (Elt F) VS0_3.junk (kernelRun0_A c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2).2.2.2.2.1)

/-- Case B's pieces for output 4 tile its block (8 stores of `S64x1024`, checked by the kernel's evaluation: Lib/Ring.lean `Piece.tiledL`, linear in the pieces, through a loop's `@[irreducible]` trip theorem too), so they cover it. -/
theorem cover0_B_4 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : cond0_1 i) (hc2 : ¬cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) (y : S512x1024.Idx) :
    ∃ pc ∈ (kernelRun0_B c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2).1, y ∈ pc.1.set :=
  View.cover_of_tiledL (kernelRun0_B c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2).1 S64x1024.size (by sl_kernel_rfl) y

/-- What case B leaves in output 4's staging buffer: its pieces read back over junk. -/
def out0_B_4 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : cond0_1 i) (hc2 : ¬cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) : Vec F S512x1024 .f32 :=
  VO0_4.read (Elt F) (VO0_4.writes (Elt F) VO0_4.junk (kernelRun0_B c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2).1)

/-- Case B's pieces for scratch `arg9`, which the kernel carries between points, cover it: 1 piece of `S512x1024` tiling it (Lib/Ring.lean `Piece.tiledL`). -/
theorem scover0_B_0 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : cond0_1 i) (hc2 : ¬cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) (y : S512x1024.Idx) :
    ∃ pc ∈ (kernelRun0_B c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2).2.1, y ∈ pc.1.set :=
  View.cover_of_tiledL (kernelRun0_B c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2).2.1 S512x1024.size (by sl_kernel_rfl) y

/-- What case B leaves in scratch `arg9`: its pieces read back over junk. -/
def sout0_B_0 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : cond0_1 i) (hc2 : ¬cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) : Vec F S512x1024 .f32 :=
  VS0_0.read (Elt F) (VS0_0.writes (Elt F) VS0_0.junk (kernelRun0_B c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2).2.1)

/-- Case B stores nothing into scratch `arg10`: it holds what the point before left. -/
def sout0_B_1 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : cond0_1 i) (hc2 : ¬cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) : Vec F S1024x2816 .bf16 := xs1

/-- Case B stores nothing into scratch `arg11`: it holds what the point before left. -/
def sout0_B_2 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : cond0_1 i) (hc2 : ¬cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) : Vec F S1024x2816 .bf16 := xs2

/-- Case B stores nothing into scratch `arg12`: it holds what the point before left. -/
def sout0_B_3 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : cond0_1 i) (hc2 : ¬cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) : Vec F S2x2816x512 .bf16 := xs3

/-- Case C's pieces for output 4 tile its block (8 stores of `S64x1024`, checked by the kernel's evaluation: Lib/Ring.lean `Piece.tiledL`, linear in the pieces, through a loop's `@[irreducible]` trip theorem too), so they cover it. -/
theorem cover0_C_4 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : ¬cond0_1 i) (hc2 : cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) (y : S512x1024.Idx) :
    ∃ pc ∈ (kernelRun0_C c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2).1, y ∈ pc.1.set :=
  View.cover_of_tiledL (kernelRun0_C c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2).1 S64x1024.size (by sl_kernel_rfl) y

/-- What case C leaves in output 4's staging buffer: its pieces read back over junk. -/
def out0_C_4 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : ¬cond0_1 i) (hc2 : cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) : Vec F S512x1024 .f32 :=
  VO0_4.read (Elt F) (VO0_4.writes (Elt F) VO0_4.junk (kernelRun0_C c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2).1)

/-- Case C stores nothing into scratch `arg9`: it holds what the point before left. -/
def sout0_C_0 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : ¬cond0_1 i) (hc2 : cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) : Vec F S512x1024 .f32 := xs0

/-- Case C stores nothing into scratch `arg10`: it holds what the point before left. -/
def sout0_C_1 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : ¬cond0_1 i) (hc2 : cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) : Vec F S1024x2816 .bf16 := xs1

/-- Case C stores nothing into scratch `arg11`: it holds what the point before left. -/
def sout0_C_2 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : ¬cond0_1 i) (hc2 : cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) : Vec F S1024x2816 .bf16 := xs2

/-- Case C stores nothing into scratch `arg12`: it holds what the point before left. -/
def sout0_C_3 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : ¬cond0_1 i) (hc2 : cond0_2 i)
    (x0 : Vec F S512x1024 .f32) (x1 : Vec F S512x1024 .f32) (x2 : Vec F S1x1024 .f32) (x3 : Vec F S1x1024 .f32) (xs0 : Vec F S512x1024 .f32) (xs1 : Vec F S1024x2816 .bf16) (xs2 : Vec F S1024x2816 .bf16) (xs3 : Vec F S2x2816x512 .bf16) (fh0 : HbBuf0 (F := F) c hbM0_0) (fh1 : HbBuf0 (F := F) c hbM0_1) (fh2 : HbBuf0 (F := F) c hbM0_2) : Vec F S2x2816x512 .bf16 := xs3

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S512x1024 .f32 × Vec F S1024x2816 .bf16 × Vec F S1024x2816 .bf16 × Vec F S2x2816x512 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_arg1) (V m c main_arg2) (V m c main_arg3), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_arg1) (V m c main_arg2) (V m c main_arg3), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_arg1) (V m c main_arg2) (V m c main_arg3), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_arg1) (V m c main_arg2) (V m c main_arg3), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_arg1) (V m c main_arg2) (V m c main_arg3))
  | n + 1, hn =>
    if h0 : (n + 1) % 33 = 0 then
      if h1 : (1 ≤ (n + 1) % 33 ∧ (n + 1) % 33 ≤ 31) then
        False.elim (by have hN : n + 1 < 33 := lt_of_lt_of_eq hn (show cfg0.N = 33 from N_0); omega)
      else
        if h2 : (n + 1) % 33 = 32 then
          False.elim (by have hN : n + 1 < 33 := lt_of_lt_of_eq hn (show cfg0.N = 33 from N_0); omega)
        else
          (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_arg1) (V m c main_arg2) (V m c main_arg3))
    else
      if h1 : (1 ≤ (n + 1) % 33 ∧ (n + 1) % 33 ≤ 31) then
        if h2 : (n + 1) % 33 = 32 then
          False.elim (by have hN : n + 1 < 33 := lt_of_lt_of_eq hn (show cfg0.N = 33 from N_0); omega)
        else
          (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_arg1) (V m c main_arg2) (V m c main_arg3), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_arg1) (V m c main_arg2) (V m c main_arg3), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_arg1) (V m c main_arg2) (V m c main_arg3), sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_arg1) (V m c main_arg2) (V m c main_arg3), sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_arg1) (V m c main_arg2) (V m c main_arg3))
      else
        if h2 : (n + 1) % 33 = 32 then
          (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_arg1) (V m c main_arg2) (V m c main_arg3), sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_arg1) (V m c main_arg2) (V m c main_arg3), sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_arg1) (V m c main_arg2) (V m c main_arg3), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_arg1) (V m c main_arg2) (V m c main_arg3), sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2 (V m c main_arg1) (V m c main_arg2) (V m c main_arg3))
        else
          False.elim (by have hN : n + 1 < 33 := lt_of_lt_of_eq hn (show cfg0.N = 33 from N_0); omega)

/-- `outsAt0` at a point of case A: that case's contents. -/
theorem outsAt0_A (c : Dev nD) (t : Fin cfg0.N) (h0 : t.val % 33 = 0) (h1 : ¬(1 ≤ t.val % 33 ∧ t.val % 33 ≤ 31)) (h2 : ¬t.val % 33 = 32) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (V m c main_arg1) (V m c main_arg2) (V m c main_arg3), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (V m c main_arg1) (V m c main_arg2) (V m c main_arg3), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (V m c main_arg1) (V m c main_arg2) (V m c main_arg3), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (V m c main_arg1) (V m c main_arg2) (V m c main_arg3), sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (V m c main_arg1) (V m c main_arg2) (V m c main_arg3)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 33 = 0) (h1 : (1 ≤ t.val % 33 ∧ t.val % 33 ≤ 31)) (h2 : ¬t.val % 33 = 32) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg1) (V m c main_arg2) (V m c main_arg3), sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg1) (V m c main_arg2) (V m c main_arg3), sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg1) (V m c main_arg2) (V m c main_arg3), sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg1) (V m c main_arg2) (V m c main_arg3), sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg1) (V m c main_arg2) (V m c main_arg3)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 33 = 0) (h1 : ¬(1 ≤ t.val % 33 ∧ t.val % 33 ≤ 31)) (h2 : t.val % 33 = 32) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg1) (V m c main_arg2) (V m c main_arg3), sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg1) (V m c main_arg2) (V m c main_arg3), sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg1) (V m c main_arg2) (V m c main_arg3), sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg1) (V m c main_arg2) (V m c main_arg3), sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg1) (V m c main_arg2) (V m c main_arg3)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_arg1) ∗ hbPt0 c hbM0_1 (V m c main_arg2) ∗ hbPt0 c hbM0_2 (V m c main_arg3)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_arg1) ∗ hbPt0 c hbM0_1 (V m c main_arg2) ∗ hbPt0 c hbM0_2 (V m c main_arg3))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0) ∗ iprop(hbPt0 c hbM0_0 (V m c main_arg1) ∗ hbPt0 c hbM0_1 (V m c main_arg2) ∗ hbPt0 c hbM0_2 (V m c main_arg3))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; each input's share of its array
    (`Pipeline.shareOf`: the full share of an array several windows stage, dealt among them). -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 33 := lt_of_lt_of_eq t.isLt (show cfg0.N = 33 from N_0)
  by_cases h0 : t.val % 33 = 0
  · by_cases h1 : (1 ≤ t.val % 33 ∧ t.val % 33 ≤ 31)
    · exfalso; omega
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4_A t ((hcond0_0 t).mpr h0) (fun h => h1 ((hcond0_1 t).mp h)) (fun h => h2 ((hcond0_2 t).mp h))], after0_4]
        by_cases hz : t.val = 0
        · rw [PhiS_castSucc m c t, PhiS_zero m c _ _ hz, PhiD0_eq]
          rw [outsAt0_A m c t h0 h1 h2]
          unfold out0_A_4 sout0_A_0 sout0_A_1 sout0_A_2 sout0_A_3; (try dsimp only)
          iintro ⟨⟨⟨HS0, HS1, HS2, HS3, HS4, HS5, HS6⟩, Hg, ⟨Hq0, Hq1, Hq2, Hq3, Hq4, Hq5⟩, ⟨Hh0, Hh1, Hh2⟩⟩, ⟨%W, -, HW⟩, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (V m c main_arg1) (V m c main_arg2) (V m c main_arg3)).2.2.2.2.2 W _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hh0]; · iexact Hh0
          isplitl [Hh1]; · iexact Hh1
          isplitl [Hh2]; · iexact Hh2
          isplitl [HW]; · iexact HW
          iintro ⟨H0, H1, H2, H3, ⟨%e4, H4⟩, ⟨%es0, HS0⟩, ⟨%es1, HS1⟩, ⟨%es2, HS2⟩, ⟨%es3, HS3⟩, HS4, HS5, HS6, Hq0, Hq1, Hq2, Hq3, Hq4, Hq5, Hh0, Hh1, Hh2, ⟨%W', HW'⟩⟩
          isplitl [HS0 HS1 HS2 HS3 HS4 HS5 HS6 Hg Hq0 Hq1 Hq2 Hq3 Hq4 Hq5 Hh0 Hh1 Hh2]
          · isplitl [HS0 HS1 HS2 HS3 HS4 HS5 HS6]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _)
              isplitl [HS4]; · iexact HS4
              isplitl [HS5]; · iexact HS5
              iexact HS6
            isplitl [Hg]
            · iexact Hg
            isplitl [Hq0 Hq1 Hq2 Hq3 Hq4 Hq5]
            · isplitl [Hq0]; · iexact Hq0
              isplitl [Hq1]; · iexact Hq1
              isplitl [Hq2]; · iexact Hq2
              isplitl [Hq3]; · iexact Hq3
              isplitl [Hq4]; · iexact Hq4
              iexact Hq5
            isplitl [Hh0]; · iexact Hh0
            isplitl [Hh1]; · iexact Hh1
            iexact Hh2
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_A_4 c _ _ _ _ _ _ _ _ _ _ _ _ _ _ _ _ _ _ _ _ _ _ _ _ _ _ _ _ _ _ _ _ _ _ _)
        · exfalso; have hN : t.val < 33 := lt_of_lt_of_eq t.isLt (show cfg0.N = 33 from N_0); omega
  · by_cases h1 : (1 ≤ t.val % 33 ∧ t.val % 33 ≤ 31)
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4_B t (fun h => h0 ((hcond0_0 t).mp h)) ((hcond0_1 t).mpr h1) (fun h => h2 ((hcond0_2 t).mp h))], after0_4]
        by_cases hz : t.val = 0
        · exfalso; have hN : t.val < 33 := lt_of_lt_of_eq t.isLt (show cfg0.N = 33 from N_0); omega
        · rw [PhiS_castSucc m c t, PhiS_pos m c _ _ hz]
          rw [outsAt0_B m c t h0 h1 h2]
          unfold out0_B_4 sout0_B_0 sout0_B_1 sout0_B_2 sout0_B_3; (try dsimp only)
          iintro ⟨⟨⟨HS0, HS1, HS2, HS3, HS4, HS5, HS6⟩, Hg, ⟨Hq0, Hq1, Hq2, Hq3, Hq4, Hq5⟩, ⟨Hh0, Hh1, Hh2⟩⟩, ⟨%W, -, HW⟩, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) _ _ _ _ (V m c main_arg1) (V m c main_arg2) (V m c main_arg3)).2.2.2.2.2 W _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hh0]; · iexact Hh0
          isplitl [Hh1]; · iexact Hh1
          isplitl [Hh2]; · iexact Hh2
          isplitl [HW]; · iexact HW
          iintro ⟨H0, H1, H2, H3, ⟨%e4, H4⟩, ⟨%es0, HS0⟩, HS1, HS2, HS3, HS4, HS5, HS6, Hq0, Hq1, Hq2, Hq3, Hq4, Hq5, Hh0, Hh1, Hh2, ⟨%W', HW'⟩⟩
          isplitl [HS0 HS1 HS2 HS3 HS4 HS5 HS6 Hg Hq0 Hq1 Hq2 Hq3 Hq4 Hq5 Hh0 Hh1 Hh2]
          · isplitl [HS0 HS1 HS2 HS3 HS4 HS5 HS6]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _)
              isplitl [HS1]; · iexact HS1
              isplitl [HS2]; · iexact HS2
              isplitl [HS3]; · iexact HS3
              isplitl [HS4]; · iexact HS4
              isplitl [HS5]; · iexact HS5
              iexact HS6
            isplitl [Hg]
            · iexact Hg
            isplitl [Hq0 Hq1 Hq2 Hq3 Hq4 Hq5]
            · isplitl [Hq0]; · iexact Hq0
              isplitl [Hq1]; · iexact Hq1
              isplitl [Hq2]; · iexact Hq2
              isplitl [Hq3]; · iexact Hq3
              isplitl [Hq4]; · iexact Hq4
              iexact Hq5
            isplitl [Hh0]; · iexact Hh0
            isplitl [Hh1]; · iexact Hh1
            iexact Hh2
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_B_4 c _ _ _ _ _ _ _ _ _ _ _ _ _ _ _ _ _ _ _ _ _ _ _ _ _ _ _ _ _ _ _ _ _ _ _ _ _ _ _)
    · by_cases h2 : t.val % 33 = 32
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4_C t (fun h => h0 ((hcond0_0 t).mp h)) (fun h => h1 ((hcond0_1 t).mp h)) ((hcond0_2 t).mpr h2)], after0_4]
        by_cases hz : t.val = 0
        · exfalso; have hN : t.val < 33 := lt_of_lt_of_eq t.isLt (show cfg0.N = 33 from N_0); omega
        · rw [PhiS_castSucc m c t, PhiS_pos m c _ _ hz]
          rw [outsAt0_C m c t h0 h1 h2]
          unfold out0_C_4 sout0_C_0 sout0_C_1 sout0_C_2 sout0_C_3; (try dsimp only)
          iintro ⟨⟨⟨HS0, HS1, HS2, HS3, HS4, HS5, HS6⟩, Hg, ⟨Hq0, Hq1, Hq2, Hq3, Hq4, Hq5⟩, ⟨Hh0, Hh1, Hh2⟩⟩, ⟨%W, -, HW⟩, ⟨%d0, H0⟩, ⟨%d1, H1⟩, ⟨%d2, H2⟩, ⟨%d3, H3⟩, ⟨%d4, H4⟩⟩
          iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) _ _ _ _ (V m c main_arg1) (V m c main_arg2) (V m c main_arg3)).2.2.2.2.2 W _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hh0]; · iexact Hh0
          isplitl [Hh1]; · iexact Hh1
          isplitl [Hh2]; · iexact Hh2
          isplitl [HW]; · iexact HW
          iintro ⟨H0, H1, H2, H3, ⟨%e4, H4⟩, HS0, HS1, HS2, HS3, HS4, HS5, HS6, Hq0, Hq1, Hq2, Hq3, Hq4, Hq5, Hh0, Hh1, Hh2, ⟨%W', HW'⟩⟩
          isplitl [HS0 HS1 HS2 HS3 HS4 HS5 HS6 Hg Hq0 Hq1 Hq2 Hq3 Hq4 Hq5 Hh0 Hh1 Hh2]
          · isplitl [HS0 HS1 HS2 HS3 HS4 HS5 HS6]
            · isplitl [HS0]; · iexact HS0
              isplitl [HS1]; · iexact HS1
              isplitl [HS2]; · iexact HS2
              isplitl [HS3]; · iexact HS3
              isplitl [HS4]; · iexact HS4
              isplitl [HS5]; · iexact HS5
              iexact HS6
            isplitl [Hg]
            · iexact Hg
            isplitl [Hq0 Hq1 Hq2 Hq3 Hq4 Hq5]
            · isplitl [Hq0]; · iexact Hq0
              isplitl [Hq1]; · iexact Hq1
              isplitl [Hq2]; · iexact Hq2
              isplitl [Hq3]; · iexact Hq3
              isplitl [Hq4]; · iexact Hq4
              iexact Hq5
            isplitl [Hh0]; · iexact Hh0
            isplitl [Hh1]; · iexact Hh1
            iexact Hh2
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5, HS6⟩, Hg, ⟨Hq0, Hq1, Hq2, Hq3, Hq4, Hq5⟩, ⟨Hh0, Hh1, Hh2⟩⟩
  isplitl [HS0 HS1 HS2 HS3 HS4 HS5 HS6]
  · isplitl [HS0]
    · iexists _; iexact HS0
    isplitl [HS1]
    · iexists _; iexact HS1
    isplitl [HS2]
    · iexists _; iexact HS2
    isplitl [HS3]
    · iexists _; iexact HS3
    isplitl [HS4]
    · iexact HS4
    isplitl [HS5]
    · iexact HS5
    iexact HS6
  isplitl [Hg]; · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  isplitl [Hh1]; · iexact Hh1
  iexact Hh2

/-- The same after the last point. -/
theorem hout (c : Dev nD) : (dats m 0 c).Φ (Fin.last cfg0.N) ⊢ Pipeline.ΦD osem0 spec0 H0 (V m) c :=
  Phi_out m c _ (by rw [Fin.val_last]; have : cfg0.N = 33 := N_0; omega)

/-! ## The run and the frame -/

-- `θ_run_frame_dma_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The FFN program terminates with its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Ffn

end
-- ==== Proof.Ffn.AtA.lean ====
module

public import proofs.«01_k».proof.Proof.Ffn.Load
public import proofs.«01_k».proof.Proof.Ffn.Frame

@[expose] public section

/-! The accumulator the body computes at the first grid point, from the weights it copies there. -/

set_option maxRecDepth 16384

noncomputable section

namespace Cert.Ffn.AtA

open Cert.Ffn
open Cert.Kernel2Ideal Cert.Kernel2Ideal.Gen
open Idealize.ShloMosaic Idealize.ShloMosaic.TcCoe
open Idealize.SL Idealize.SL.Sem
open kernelRun0_Ax

variable {c : Dev nD}
variable {arg1 : Memref sig .tc .vmem S512x1024 .f32} {harg1 : arg1.IsWhole}
variable {arg10 arg11 : Memref sig .tc .vmem S1024x2816 .bf16}
variable {arg12 : Memref sig .tc .vmem S2x2816x512 .bf16}
variable {arg13 : Memref sig .tc .vmem S2x1024x256 .f32}
variable {arg14 : Memref sig .tc .vmem S2x1024x256 .f32}
variable {arg15 : Memref sig .tc .vmem S2x256x1024 .f32}
variable {x0 : Vec Ideal S512x1024 .f32}
variable {fh0 : HbBuf0 (F := Ideal) c hbM0_0} {fh1 : HbBuf0 (F := Ideal) c hbM0_1} {fh2 : HbBuf0 (F := Ideal) c hbM0_2}
variable {fs4 : Buf (Elt Ideal) (arg13.view.loc (c : Thread nD τ))} {fs5 : Buf (Elt Ideal) (arg14.view.loc (c : Thread nD τ))}
  {fs6 : Buf (Elt Ideal) (arg15.view.loc (c : Thread nD τ))}

theorem x_at (r : Fin 512) (j : Fin 1024) : (sl.r c arg1 harg1 x0 : FVec Ideal S512x1024 .bf16) (ix2 r j) = x0 (ix2 r j) := by
  unfold sl.r k0_pay5
  rw [shapeCast_self]
  exact ldWhole arg1 harg1 x0 _ r j

theorem acc_r_1 (r : Fin 512) (d : Fin 1024) :
    (sl.r_1 c arg1 harg1 arg10 arg11 arg12 arg13 arg14 arg15 x0 fh0 fh1 fh2 fs4 fs5 fs6 : FVec Ideal S512x1024 .f32) (ix2 r d) = 0 + Spec.chunk Spec.silu (fun j => x0 (ix2 r j)) (fun j k => fh0 (ix2 j k)) (fun j k => fh1 (ix2 j k)) (fun k d => fh2 (ix2 k d)) 0 d := by
  refine (stepOf_at k0_pay6 (sl.r c arg1 harg1 x0) (sl.v88 c arg10 arg13 fh0 fs4) (sl.v90 c arg11 arg14 fh1 fs5)
    (sl.v99 c arg12 arg15 fh2 fs6) (sl.v102 c arg12 arg15 fh2 fs6) (fun j k => fh0 (ix2 j k)) (fun j k => fh1 (ix2 j k)) (fun k d => fh2 (ix2 k d)) 0
    (fun j k => ld_v88 j k) (fun j k => ld_v90 j k) (fun k d => ld_v99 k d) (fun k d => ld_v102 k d) r d).trans ?_
  simp only [x_at]
  exact congrArg (· + _) (zeroAcc_at r d)

theorem acc_r_4 (r : Fin 512) (d : Fin 1024) :
    (sl.r_4 c arg1 harg1 arg10 arg11 arg12 arg13 arg14 arg15 x0 fh0 fh1 fh2 fs4 fs5 fs6 : FVec Ideal S512x1024 .f32) (ix2 r d) = (sl.r_1 c arg1 harg1 arg10 arg11 arg12 arg13 arg14 arg15 x0 fh0 fh1 fh2 fs4 fs5 fs6 : FVec Ideal S512x1024 .f32) (ix2 r d) + Spec.chunk Spec.silu (fun j => x0 (ix2 r j)) (fun j k => fh0 (ix2 j k)) (fun j k => fh1 (ix2 j k)) (fun k d => fh2 (ix2 k d)) 1 d := by
  refine (stepOf_at (sl.r_1 c arg1 harg1 arg10 arg11 arg12 arg13 arg14 arg15 x0 fh0 fh1 fh2 fs4 fs5 fs6) (sl.r c arg1 harg1 x0) (sl.v161 c arg10 arg13 fh0 fs4) (sl.v163 c arg11 arg14 fh1 fs5)
    (sl.v172 c arg12 arg15 fh2 fs6) (sl.v175 c arg12 arg15 fh2 fs6) (fun j k => fh0 (ix2 j k)) (fun j k => fh1 (ix2 j k)) (fun k d => fh2 (ix2 k d)) 1
    (fun j k => ld_v161 j k) (fun j k => ld_v163 j k) (fun k d => ld_v172 k d) (fun k d => ld_v175 k d) r d).trans ?_
  simp only [x_at]

theorem acc_r_7 (r : Fin 512) (d : Fin 1024) :
    (sl.r_7 c arg1 harg1 arg10 arg11 arg12 arg13 arg14 arg15 x0 fh0 fh1 fh2 fs4 fs5 fs6 : FVec Ideal S512x1024 .f32) (ix2 r d) = (sl.r_4 c arg1 harg1 arg10 arg11 arg12 arg13 arg14 arg15 x0 fh0 fh1 fh2 fs4 fs5 fs6 : FVec Ideal S512x1024 .f32) (ix2 r d) + Spec.chunk Spec.silu (fun j => x0 (ix2 r j)) (fun j k => fh0 (ix2 j k)) (fun j k => fh1 (ix2 j k)) (fun k d => fh2 (ix2 k d)) 2 d := by
  refine (stepOf_at (sl.r_4 c arg1 harg1 arg10 arg11 arg12 arg13 arg14 arg15 x0 fh0 fh1 fh2 fs4 fs5 fs6) (sl.r c arg1 harg1 x0) (sl.v234 c arg10 arg13 fh0 fs4) (sl.v236 c arg11 arg14 fh1 fs5)
    (sl.v245 c arg12 arg15 fh2 fs6) (sl.v248 c arg12 arg15 fh2 fs6) (fun j k => fh0 (ix2 j k)) (fun j k => fh1 (ix2 j k)) (fun k d => fh2 (ix2 k d)) 2
    (fun j k => ld_v234 j k) (fun j k => ld_v236 j k) (fun k d => ld_v245 k d) (fun k d => ld_v248 k d) r d).trans ?_
  simp only [x_at]

theorem acc_r_10 (r : Fin 512) (d : Fin 1024) :
    (sl.r_10 c arg1 harg1 arg10 arg11 arg12 arg13 arg14 arg15 x0 fh0 fh1 fh2 fs4 fs5 fs6 : FVec Ideal S512x1024 .f32) (ix2 r d) = (sl.r_7 c arg1 harg1 arg10 arg11 arg12 arg13 arg14 arg15 x0 fh0 fh1 fh2 fs4 fs5 fs6 : FVec Ideal S512x1024 .f32) (ix2 r d) + Spec.chunk Spec.silu (fun j => x0 (ix2 r j)) (fun j k => fh0 (ix2 j k)) (fun j k => fh1 (ix2 j k)) (fun k d => fh2 (ix2 k d)) 3 d := by
  refine (stepOf_at (sl.r_7 c arg1 harg1 arg10 arg11 arg12 arg13 arg14 arg15 x0 fh0 fh1 fh2 fs4 fs5 fs6) (sl.r c arg1 harg1 x0) (sl.v349 c arg10 arg13 fh0 fs4) (sl.v351 c arg11 arg14 fh1 fs5)
    (sl.v360 c arg12 arg15 fh2 fs6) (sl.v363 c arg12 arg15 fh2 fs6) (fun j k => fh0 (ix2 j k)) (fun j k => fh1 (ix2 j k)) (fun k d => fh2 (ix2 k d)) 3
    (fun j k => ld_v349 j k) (fun j k => ld_v351 j k) (fun k d => ld_v360 k d) (fun k d => ld_v363 k d) r d).trans ?_
  simp only [x_at]

theorem acc_r_15 (r : Fin 512) (d : Fin 1024) :
    (sl.r_15 c arg1 harg1 arg10 arg11 arg12 arg13 arg14 arg15 x0 fh0 fh1 fh2 fs4 fs5 fs6 : FVec Ideal S512x1024 .f32) (ix2 r d) = (sl.r_10 c arg1 harg1 arg10 arg11 arg12 arg13 arg14 arg15 x0 fh0 fh1 fh2 fs4 fs5 fs6 : FVec Ideal S512x1024 .f32) (ix2 r d) + Spec.chunk Spec.silu (fun j => x0 (ix2 r j)) (fun j k => fh0 (ix2 j k)) (fun j k => fh1 (ix2 j k)) (fun k d => fh2 (ix2 k d)) 4 d := by
  refine (stepOf_at (sl.r_10 c arg1 harg1 arg10 arg11 arg12 arg13 arg14 arg15 x0 fh0 fh1 fh2 fs4 fs5 fs6) (sl.r c arg1 harg1 x0) (sl.v464 c arg10 arg13 fh0 fs4) (sl.v466 c arg11 arg14 fh1 fs5)
    (sl.v475 c arg12 arg15 fh2 fs6) (sl.v478 c arg12 arg15 fh2 fs6) (fun j k => fh0 (ix2 j k)) (fun j k => fh1 (ix2 j k)) (fun k d => fh2 (ix2 k d)) 4
    (fun j k => ld_v464 j k) (fun j k => ld_v466 j k) (fun k d => ld_v475 k d) (fun k d => ld_v478 k d) r d).trans ?_
  simp only [x_at]

theorem acc_r_20 (r : Fin 512) (d : Fin 1024) :
    (sl.r_20 c arg1 harg1 arg10 arg11 arg12 arg13 arg14 arg15 x0 fh0 fh1 fh2 fs4 fs5 fs6 : FVec Ideal S512x1024 .f32) (ix2 r d) = (sl.r_15 c arg1 harg1 arg10 arg11 arg12 arg13 arg14 arg15 x0 fh0 fh1 fh2 fs4 fs5 fs6 : FVec Ideal S512x1024 .f32) (ix2 r d) + Spec.chunk Spec.silu (fun j => x0 (ix2 r j)) (fun j k => fh0 (ix2 j k)) (fun j k => fh1 (ix2 j k)) (fun k d => fh2 (ix2 k d)) 5 d := by
  refine (stepOf_at (sl.r_15 c arg1 harg1 arg10 arg11 arg12 arg13 arg14 arg15 x0 fh0 fh1 fh2 fs4 fs5 fs6) (sl.r c arg1 harg1 x0) (sl.v579 c arg10 arg13 fh0 fs4) (sl.v581 c arg11 arg14 fh1 fs5)
    (sl.v590 c arg12 arg15 fh2 fs6) (sl.v593 c arg12 arg15 fh2 fs6) (fun j k => fh0 (ix2 j k)) (fun j k => fh1 (ix2 j k)) (fun k d => fh2 (ix2 k d)) 5
    (fun j k => ld_v579 j k) (fun j k => ld_v581 j k) (fun k d => ld_v590 k d) (fun k d => ld_v593 k d) r d).trans ?_
  simp only [x_at]

theorem acc_r_25 (r : Fin 512) (d : Fin 1024) :
    (sl.r_25 c arg1 harg1 arg10 arg11 arg12 arg13 arg14 arg15 x0 fh0 fh1 fh2 fs4 fs5 fs6 : FVec Ideal S512x1024 .f32) (ix2 r d) = (sl.r_20 c arg1 harg1 arg10 arg11 arg12 arg13 arg14 arg15 x0 fh0 fh1 fh2 fs4 fs5 fs6 : FVec Ideal S512x1024 .f32) (ix2 r d) + Spec.chunk Spec.silu (fun j => x0 (ix2 r j)) (fun j k => fh0 (ix2 j k)) (fun j k => fh1 (ix2 j k)) (fun k d => fh2 (ix2 k d)) 6 d := by
  refine (stepOf_at (sl.r_20 c arg1 harg1 arg10 arg11 arg12 arg13 arg14 arg15 x0 fh0 fh1 fh2 fs4 fs5 fs6) (sl.r c arg1 harg1 x0) (sl.v694 c arg10 arg13 fh0 fs4) (sl.v696 c arg11 arg14 fh1 fs5)
    (sl.v705 c arg12 arg15 fh2 fs6) (sl.v708 c arg12 arg15 fh2 fs6) (fun j k => fh0 (ix2 j k)) (fun j k => fh1 (ix2 j k)) (fun k d => fh2 (ix2 k d)) 6
    (fun j k => ld_v694 j k) (fun j k => ld_v696 j k) (fun k d => ld_v705 k d) (fun k d => ld_v708 k d) r d).trans ?_
  simp only [x_at]

theorem acc_r_28 (r : Fin 512) (d : Fin 1024) :
    (sl.r_28 c arg1 harg1 arg10 arg11 arg12 arg13 arg14 arg15 x0 fh0 fh1 fh2 fs4 fs5 fs6 : FVec Ideal S512x1024 .f32) (ix2 r d) = (sl.r_25 c arg1 harg1 arg10 arg11 arg12 arg13 arg14 arg15 x0 fh0 fh1 fh2 fs4 fs5 fs6 : FVec Ideal S512x1024 .f32) (ix2 r d) + Spec.chunk Spec.silu (fun j => x0 (ix2 r j)) (fun j k => fh0 (ix2 j k)) (fun j k => fh1 (ix2 j k)) (fun k d => fh2 (ix2 k d)) 7 d := by
  refine (stepOf_at (sl.r_25 c arg1 harg1 arg10 arg11 arg12 arg13 arg14 arg15 x0 fh0 fh1 fh2 fs4 fs5 fs6) (sl.r c arg1 harg1 x0) (sl.v809 c arg10 arg13 fh0 fs4) (sl.v811 c arg11 arg14 fh1 fs5)
    (sl.v820 c arg12 arg15 fh2 fs6) (sl.v823 c arg12 arg15 fh2 fs6) (fun j k => fh0 (ix2 j k)) (fun j k => fh1 (ix2 j k)) (fun k d => fh2 (ix2 k d)) 7
    (fun j k => ld_v809 j k) (fun j k => ld_v811 j k) (fun k d => ld_v820 k d) (fun k d => ld_v823 k d) r d).trans ?_
  simp only [x_at]

theorem acc_r_33 (r : Fin 512) (d : Fin 1024) :
    (sl.r_33 c arg1 harg1 arg10 arg11 arg12 arg13 arg14 arg15 x0 fh0 fh1 fh2 fs4 fs5 fs6 : FVec Ideal S512x1024 .f32) (ix2 r d) = (sl.r_28 c arg1 harg1 arg10 arg11 arg12 arg13 arg14 arg15 x0 fh0 fh1 fh2 fs4 fs5 fs6 : FVec Ideal S512x1024 .f32) (ix2 r d) + Spec.chunk Spec.silu (fun j => x0 (ix2 r j)) (fun j k => fh0 (ix2 j k)) (fun j k => fh1 (ix2 j k)) (fun k d => fh2 (ix2 k d)) 8 d := by
  refine (stepOf_at (sl.r_28 c arg1 harg1 arg10 arg11 arg12 arg13 arg14 arg15 x0 fh0 fh1 fh2 fs4 fs5 fs6) (sl.r c arg1 harg1 x0) (sl.v924 c arg10 arg13 fh0 fs4) (sl.v926 c arg11 arg14 fh1 fs5)
    (sl.v935 c arg12 arg15 fh2 fs6) (sl.v938 c arg12 arg15 fh2 fs6) (fun j k => fh0 (ix2 j k)) (fun j k => fh1 (ix2 j k)) (fun k d => fh2 (ix2 k d)) 8
    (fun j k => ld_v924 j k) (fun j k => ld_v926 j k) (fun k d => ld_v935 k d) (fun k d => ld_v938 k d) r d).trans ?_
  simp only [x_at]

theorem acc_r_36 (r : Fin 512) (d : Fin 1024) :
    (sl.r_36 c arg1 harg1 arg10 arg11 arg12 arg13 arg14 arg15 x0 fh0 fh1 fh2 fs4 fs5 fs6 : FVec Ideal S512x1024 .f32) (ix2 r d) = (sl.r_33 c arg1 harg1 arg10 arg11 arg12 arg13 arg14 arg15 x0 fh0 fh1 fh2 fs4 fs5 fs6 : FVec Ideal S512x1024 .f32) (ix2 r d) + Spec.chunk Spec.silu (fun j => x0 (ix2 r j)) (fun j k => fh0 (ix2 j k)) (fun j k => fh1 (ix2 j k)) (fun k d => fh2 (ix2 k d)) 9 d := by
  refine (stepOf_at (sl.r_33 c arg1 harg1 arg10 arg11 arg12 arg13 arg14 arg15 x0 fh0 fh1 fh2 fs4 fs5 fs6) (sl.r c arg1 harg1 x0) (sl.v1039 c arg10 arg13 fh0 fs4) (sl.v1041 c arg11 arg14 fh1 fs5)
    (sl.v1050 c arg12 arg15 fh2 fs6) (sl.v1053 c arg12 arg15 fh2 fs6) (fun j k => fh0 (ix2 j k)) (fun j k => fh1 (ix2 j k)) (fun k d => fh2 (ix2 k d)) 9
    (fun j k => ld_v1039 j k) (fun j k => ld_v1041 j k) (fun k d => ld_v1050 k d) (fun k d => ld_v1053 k d) r d).trans ?_
  simp only [x_at]

theorem pay1_eq (acc : FVec Ideal S512x1024 .f32) (x : FVec Ideal S512x1024 .bf16) (a b : Vec Ideal S1024x256 .bf16) (p q : Vec Ideal S1x256x512 .bf16) :
    k0_pay1 acc (k0_pay107 x a b) p q = stepOf acc x a b p q :=
  shapeCast_self (stepOf acc x a b p q) _

/-- The accumulator the point leaves. -/
theorem acc_end (r : Fin 512) (d : Fin 1024) :
    k0_pay1 (sl.r_36 c arg1 harg1 arg10 arg11 arg12 arg13 arg14 arg15 x0 fh0 fh1 fh2 fs4 fs5 fs6) (sl.r_39 c arg1 harg1 arg10 arg11 arg13 arg14 x0 fh0 fh1 fs4 fs5) (sl.v1150 c arg12 arg15 fh2 fs6) (sl.v1153 c arg12 arg15 fh2 fs6) (ix2 r d)
    = Spec.ffn Spec.silu (fun j => x0 (ix2 r j)) (fun j k => fh0 (ix2 j k)) (fun j k => fh1 (ix2 j k)) (fun k d => fh2 (ix2 k d)) d := by
  unfold sl.r_39
  rw [pay1_eq]
  refine (stepOf_at (sl.r_36 c arg1 harg1 arg10 arg11 arg12 arg13 arg14 arg15 x0 fh0 fh1 fh2 fs4 fs5 fs6) (sl.r c arg1 harg1 x0) (sl.v1139 c arg10 arg13 fh0 fs4) (sl.v1141 c arg11 arg14 fh1 fs5)
    (sl.v1150 c arg12 arg15 fh2 fs6) (sl.v1153 c arg12 arg15 fh2 fs6) (fun j k => fh0 (ix2 j k)) (fun j k => fh1 (ix2 j k)) (fun k d => fh2 (ix2 k d)) 10
    (fun j k => ld_v1139 j k) (fun j k => ld_v1141 j k) (fun k d => ld_v1150 k d) (fun k d => ld_v1153 k d) r d).trans ?_
  rw [acc_r_36, acc_r_33, acc_r_28, acc_r_25, acc_r_20, acc_r_15, acc_r_10, acc_r_7, acc_r_4, acc_r_1]
  simp only [x_at]
  exact ffn_of_chunks _ _ _ _ d

end Cert.Ffn.AtA

end
-- ==== Proof.Ffn.AtB.lean ====
module

public import proofs.«01_k».proof.Proof.Ffn.Load
public import proofs.«01_k».proof.Proof.Ffn.Frame

@[expose] public section

/-! The values the body computes at the middle grid points: the accumulator is the feed-forward sum of the block's rows, and
the output block is the layer of the rows whose sums the point before left. -/

set_option maxRecDepth 16384

noncomputable section

namespace Cert.Ffn.AtB

open Cert.Ffn
open Cert.Kernel2Ideal Cert.Kernel2Ideal.Gen
open Idealize.ShloMosaic Idealize.ShloMosaic.TcCoe
open Idealize.SL Idealize.SL.Sem
open kernelRun0_B

variable {c : Dev nD}
variable {arg1 : Memref sig .tc .vmem S512x1024 .f32} {harg1 : arg1.IsWhole}
variable {arg2 : Memref sig .tc .vmem S512x1024 .f32} {harg2 : arg2.IsWhole}
variable {arg6 : Memref sig .tc .vmem S1x1024 .f32} {harg6 : arg6.IsWhole}
variable {arg7 : Memref sig .tc .vmem S1x1024 .f32} {harg7 : arg7.IsWhole}
variable {arg9 : Memref sig .tc .vmem S512x1024 .f32} {harg9 : arg9.IsWhole}
variable {arg10 : Memref sig .tc .vmem S1024x2816 .bf16} {harg10 : arg10.IsWhole}
variable {arg11 : Memref sig .tc .vmem S1024x2816 .bf16} {harg11 : arg11.IsWhole}
variable {arg12 : Memref sig .tc .vmem S2x2816x512 .bf16} {harg12 : arg12.IsWhole}
variable {x0 x1 xs0 : Vec Ideal S512x1024 .f32} {x2 x3 : Vec Ideal S1x1024 .f32}
variable {xs1 xs2 : Vec Ideal S1024x2816 .bf16} {xs3 : Vec Ideal S2x2816x512 .bf16}
variable {g u : S1024x2816.Idx → EReal} {w : S2816x1024.Idx → EReal}

theorem x_at (r : Fin 512) (j : Fin 1024) : (sl.r c arg1 harg1 x0 : FVec Ideal S512x1024 .bf16) (ix2 r j) = x0 (ix2 r j) := by
  unfold sl.r k0_pay108
  rw [shapeCast_self]
  exact ldWhole arg1 harg1 x0 _ r j

/-- One chunk, from the loads of the scratch weights. -/
theorem step (acc : FVec Ideal S512x1024 .f32) (hg : xs1 = colOf g) (hu : xs2 = colOf u) (hw : xs3 = rowOfW w) (o : ℕ)
    (i1 : ∀ a, (![0, o] : Fin 2 → ℕ) a + S1024x256.size a ≤ S1024x2816.size a)
    (i3 : ∀ a, (![0, o, 0] : Fin 3 → ℕ) a + S1x256x512.size a ≤ S2x2816x512.size a)
    (i4 : ∀ a, (![1, o, 0] : Fin 3 → ℕ) a + S1x256x512.size a ≤ S2x2816x512.size a)
    (n : Fin 11) (ho : o = n.val * 256) (r : Fin 512) (d : Fin 1024) :
    stepOf acc (sl.r c arg1 harg1 x0)
      (View.readAt (Elt Ideal) arg10.view (Rect.unit (s := S1024x2816) ![0, o] S1024x256.size i1).toLoadRect (harg10.unread xs1))
      (View.readAt (Elt Ideal) arg11.view (Rect.unit (s := S1024x2816) ![0, o] S1024x256.size i1).toLoadRect (harg11.unread xs2))
      (View.readAt (Elt Ideal) arg12.view (Rect.unit (s := S2x2816x512) ![0, o, 0] S1x256x512.size i3).toLoadRect (harg12.unread xs3))
      (View.readAt (Elt Ideal) arg12.view (Rect.unit (s := S2x2816x512) ![1, o, 0] S1x256x512.size i4).toLoadRect (harg12.unread xs3)) (ix2 r d)
    = acc (ix2 r d) + Spec.chunk Spec.silu (fun j => x0 (ix2 r j)) (fun j k => g (ix2 j k)) (fun j k => u (ix2 j k)) (fun k d => w (ix2 k d)) n d := by
  refine (stepOf_at acc _ _ _ _ _ (fun j k => g (ix2 j k)) (fun j k => u (ix2 j k)) (fun k d => w (ix2 k d)) n
    (fun j k => ldCol arg10 harg10 xs1 g hg o i1 n ho j k) (fun j k => ldCol arg11 harg11 xs2 u hu o i1 n ho j k)
    (fun k d => ldLo arg12 harg12 xs3 w hw o i3 n ho k d) (fun k d => ldHi arg12 harg12 xs3 w hw o i4 n ho k d) r d).trans ?_
  simp only [x_at]

theorem acc_r_1 (hg : xs1 = colOf g) (hu : xs2 = colOf u) (hw : xs3 = rowOfW w) (r : Fin 512) (d : Fin 1024) :
    (sl.r_1 c arg1 harg1 arg10 harg10 arg11 harg11 arg12 harg12 x0 xs1 xs2 xs3 : FVec Ideal S512x1024 .f32) (ix2 r d) = 0 + Spec.chunk Spec.silu (fun j => x0 (ix2 r j)) (fun j k => g (ix2 j k)) (fun j k => u (ix2 j k)) (fun k d => w (ix2 k d)) 0 d := by
  refine (step zeroAcc hg hu hw 0 (by decide) (by decide) (by decide) 0 rfl r d).trans ?_
  rw [zeroAcc_at]

theorem acc_r_3 (hg : xs1 = colOf g) (hu : xs2 = colOf u) (hw : xs3 = rowOfW w) (r : Fin 512) (d : Fin 1024) :
    (sl.r_3 c arg1 harg1 arg10 harg10 arg11 harg11 arg12 harg12 x0 xs1 xs2 xs3 : FVec Ideal S512x1024 .f32) (ix2 r d) = (sl.r_1 c arg1 harg1 arg10 harg10 arg11 harg11 arg12 harg12 x0 xs1 xs2 xs3 : FVec Ideal S512x1024 .f32) (ix2 r d) + Spec.chunk Spec.silu (fun j => x0 (ix2 r j)) (fun j k => g (ix2 j k)) (fun j k => u (ix2 j k)) (fun k d => w (ix2 k d)) 1 d + Spec.chunk Spec.silu (fun j => x0 (ix2 r j)) (fun j k => g (ix2 j k)) (fun j k => u (ix2 j k)) (fun k d => w (ix2 k d)) 2 d := by
  refine (step (stepOf (sl.r_1 c arg1 harg1 arg10 harg10 arg11 harg11 arg12 harg12 x0 xs1 xs2 xs3) (sl.r c arg1 harg1 x0) (View.readAt (Elt Ideal) arg10.view (Rect.unit (s := S1024x2816) ![0, 256] S1024x256.size (by decide)).toLoadRect (harg10.unread xs1)) (View.readAt (Elt Ideal) arg11.view (Rect.unit (s := S1024x2816) ![0, 256] S1024x256.size (by decide)).toLoadRect (harg11.unread xs2))
    (View.readAt (Elt Ideal) arg12.view (Rect.unit (s := S2x2816x512) ![0, 256, 0] S1x256x512.size (by decide)).toLoadRect (harg12.unread xs3)) (View.readAt (Elt Ideal) arg12.view (Rect.unit (s := S2x2816x512) ![1, 256, 0] S1x256x512.size (by decide)).toLoadRect (harg12.unread xs3))) hg hu hw 512 (by decide) (by decide) (by decide) 2 rfl r d).trans ?_
  rw [step (sl.r_1 c arg1 harg1 arg10 harg10 arg11 harg11 arg12 harg12 x0 xs1 xs2 xs3) hg hu hw 256 (by decide) (by decide) (by decide) 1 rfl r d]

theorem acc_r_8 (hg : xs1 = colOf g) (hu : xs2 = colOf u) (hw : xs3 = rowOfW w) (r : Fin 512) (d : Fin 1024) :
    (sl.r_8 c arg1 harg1 arg10 harg10 arg11 harg11 arg12 harg12 x0 xs1 xs2 xs3 : FVec Ideal S512x1024 .f32) (ix2 r d) = (sl.r_3 c arg1 harg1 arg10 harg10 arg11 harg11 arg12 harg12 x0 xs1 xs2 xs3 : FVec Ideal S512x1024 .f32) (ix2 r d) + Spec.chunk Spec.silu (fun j => x0 (ix2 r j)) (fun j k => g (ix2 j k)) (fun j k => u (ix2 j k)) (fun k d => w (ix2 k d)) 3 d := by
  refine (step (sl.r_3 c arg1 harg1 arg10 harg10 arg11 harg11 arg12 harg12 x0 xs1 xs2 xs3) hg hu hw 768 (by decide) (by decide) (by decide) 3 rfl r d).trans ?_
  rfl

theorem acc_r_14 (hg : xs1 = colOf g) (hu : xs2 = colOf u) (hw : xs3 = rowOfW w) (r : Fin 512) (d : Fin 1024) :
    (sl.r_14 c arg1 harg1 arg10 harg10 arg11 harg11 arg12 harg12 x0 xs1 xs2 xs3 : FVec Ideal S512x1024 .f32) (ix2 r d) = (sl.r_8 c arg1 harg1 arg10 harg10 arg11 harg11 arg12 harg12 x0 xs1 xs2 xs3 : FVec Ideal S512x1024 .f32) (ix2 r d) + Spec.chunk Spec.silu (fun j => x0 (ix2 r j)) (fun j k => g (ix2 j k)) (fun j k => u (ix2 j k)) (fun k d => w (ix2 k d)) 4 d := by
  refine (step (sl.r_8 c arg1 harg1 arg10 harg10 arg11 harg11 arg12 harg12 x0 xs1 xs2 xs3) hg hu hw 1024 (by decide) (by decide) (by decide) 4 rfl r d).trans ?_
  rfl

theorem acc_r_16 (hg : xs1 = colOf g) (hu : xs2 = colOf u) (hw : xs3 = rowOfW w) (r : Fin 512) (d : Fin 1024) :
    (sl.r_16 c arg1 harg1 arg10 harg10 arg11 harg11 arg12 harg12 x0 xs1 xs2 xs3 : FVec Ideal S512x1024 .f32) (ix2 r d) = (sl.r_14 c arg1 harg1 arg10 harg10 arg11 harg11 arg12 harg12 x0 xs1 xs2 xs3 : FVec Ideal S512x1024 .f32) (ix2 r d) + Spec.chunk Spec.silu (fun j => x0 (ix2 r j)) (fun j k => g (ix2 j k)) (fun j k => u (ix2 j k)) (fun k d => w (ix2 k d)) 5 d := by
  refine (step (sl.r_14 c arg1 harg1 arg10 harg10 arg11 harg11 arg12 harg12 x0 xs1 xs2 xs3) hg hu hw 1280 (by decide) (by decide) (by decide) 5 rfl r d).trans ?_
  rfl

theorem acc_r_20 (hg : xs1 = colOf g) (hu : xs2 = colOf u) (hw : xs3 = rowOfW w) (r : Fin 512) (d : Fin 1024) :
    (sl.r_20 c arg1 harg1 arg10 harg10 arg11 harg11 arg12 harg12 x0 xs1 xs2 xs3 : FVec Ideal S512x1024 .f32) (ix2 r d) = (sl.r_16 c arg1 harg1 arg10 harg10 arg11 harg11 arg12 harg12 x0 xs1 xs2 xs3 : FVec Ideal S512x1024 .f32) (ix2 r d) + Spec.chunk Spec.silu (fun j => x0 (ix2 r j)) (fun j k => g (ix2 j k)) (fun j k => u (ix2 j k)) (fun k d => w (ix2 k d)) 6 d := by
  refine (step (sl.r_16 c arg1 harg1 arg10 harg10 arg11 harg11 arg12 harg12 x0 xs1 xs2 xs3) hg hu hw 1536 (by decide) (by decide) (by decide) 6 rfl r d).trans ?_
  rfl

theorem acc_r_25 (hg : xs1 = colOf g) (hu : xs2 = colOf u) (hw : xs3 = rowOfW w) (r : Fin 512) (d : Fin 1024) :
    (sl.r_25 c arg1 harg1 arg10 harg10 arg11 harg11 arg12 harg12 x0 xs1 xs2 xs3 : FVec Ideal S512x1024 .f32) (ix2 r d) = (sl.r_20 c arg1 harg1 arg10 harg10 arg11 harg11 arg12 harg12 x0 xs1 xs2 xs3 : FVec Ideal S512x1024 .f32) (ix2 r d) + Spec.chunk Spec.silu (fun j => x0 (ix2 r j)) (fun j k => g (ix2 j k)) (fun j k => u (ix2 j k)) (fun k d => w (ix2 k d)) 7 d := by
  refine (step (sl.r_20 c arg1 harg1 arg10 harg10 arg11 harg11 arg12 harg12 x0 xs1 xs2 xs3) hg hu hw 1792 (by decide) (by decide) (by decide) 7 rfl r d).trans ?_
  rfl

theorem acc_r_30 (hg : xs1 = colOf g) (hu : xs2 = colOf u) (hw : xs3 = rowOfW w) (r : Fin 512) (d : Fin 1024) :
    (sl.r_30 c arg1 harg1 arg10 harg10 arg11 harg11 arg12 harg12 x0 xs1 xs2 xs3 : FVec Ideal S512x1024 .f32) (ix2 r d) = (sl.r_25 c arg1 harg1 arg10 harg10 arg11 harg11 arg12 harg12 x0 xs1 xs2 xs3 : FVec Ideal S512x1024 .f32) (ix2 r d) + Spec.chunk Spec.silu (fun j => x0 (ix2 r j)) (fun j k => g (ix2 j k)) (fun j k => u (ix2 j k)) (fun k d => w (ix2 k d)) 8 d := by
  refine (step (sl.r_25 c arg1 harg1 arg10 harg10 arg11 harg11 arg12 harg12 x0 xs1 xs2 xs3) hg hu hw 2048 (by decide) (by decide) (by decide) 8 rfl r d).trans ?_
  rfl

theorem acc_r_36 (hg : xs1 = colOf g) (hu : xs2 = colOf u) (hw : xs3 = rowOfW w) (r : Fin 512) (d : Fin 1024) :
    (sl.r_36 c arg1 harg1 arg10 harg10 arg11 harg11 arg12 harg12 x0 xs1 xs2 xs3 : FVec Ideal S512x1024 .f32) (ix2 r d) = (sl.r_30 c arg1 harg1 arg10 harg10 arg11 harg11 arg12 harg12 x0 xs1 xs2 xs3 : FVec Ideal S512x1024 .f32) (ix2 r d) + Spec.chunk Spec.silu (fun j => x0 (ix2 r j)) (fun j k => g (ix2 j k)) (fun j k => u (ix2 j k)) (fun k d => w (ix2 k d)) 9 d := by
  refine (step (sl.r_30 c arg1 harg1 arg10 harg10 arg11 harg11 arg12 harg12 x0 xs1 xs2 xs3) hg hu hw 2304 (by decide) (by decide) (by decide) 9 rfl r d).trans ?_
  rfl

theorem pay2_eq (x : FVec Ideal S512x1024 .bf16) (acc : FVec Ideal S512x1024 .f32) (a b : Vec Ideal S1024x256 .bf16) (p q : Vec Ideal S1x256x512 .bf16) :
    k0_pay2 x acc a b p q = stepOf acc x a b p q :=
  shapeCast_self (stepOf acc x a b p q) _

/-- The accumulator the point leaves. -/
theorem acc_end (hg : xs1 = colOf g) (hu : xs2 = colOf u) (hw : xs3 = rowOfW w) (r : Fin 512) (d : Fin 1024) :
    k0_pay2 (sl.r c arg1 harg1 x0) (sl.r_36 c arg1 harg1 arg10 harg10 arg11 harg11 arg12 harg12 x0 xs1 xs2 xs3) (View.readAt (Elt Ideal) arg10.view (Rect.unit (s := S1024x2816) ![0, 2560] S1024x256.size (by decide)).toLoadRect (harg10.unread xs1)) (View.readAt (Elt Ideal) arg11.view (Rect.unit (s := S1024x2816) ![0, 2560] S1024x256.size (by decide)).toLoadRect (harg11.unread xs2))
      (View.readAt (Elt Ideal) arg12.view (Rect.unit (s := S2x2816x512) ![0, 2560, 0] S1x256x512.size (by decide)).toLoadRect (harg12.unread xs3)) (View.readAt (Elt Ideal) arg12.view (Rect.unit (s := S2x2816x512) ![1, 2560, 0] S1x256x512.size (by decide)).toLoadRect (harg12.unread xs3)) (ix2 r d)
    = Spec.ffn Spec.silu (fun j => x0 (ix2 r j)) (fun j k => g (ix2 j k)) (fun j k => u (ix2 j k)) (fun k d => w (ix2 k d)) d := by
  rw [pay2_eq]
  refine (step (sl.r_36 c arg1 harg1 arg10 harg10 arg11 harg11 arg12 harg12 x0 xs1 xs2 xs3) hg hu hw 2560 (by decide) (by decide) (by decide) 10 rfl r d).trans ?_
  rw [acc_r_36 hg hu hw, acc_r_30 hg hu hw, acc_r_25 hg hu hw, acc_r_20 hg hu hw, acc_r_16 hg hu hw, acc_r_14 hg hu hw, acc_r_8 hg hu hw, acc_r_3 hg hu hw, acc_r_1 hg hu hw]
  exact ffn_of_chunks _ _ _ _ d

theorem out_1 : View.PiecesOf (outRows x1 xs0 x2 x3) (sl.H4_1 c arg1 harg1 arg2 harg2 arg6 harg6 arg7 harg7 arg9 harg9 arg10 harg10 arg11 harg11 arg12 harg12 x0 x1 x2 x3 xs0 xs1 xs2 xs3) := by
  unfold sl.H4_1
  exact ⟨fun x => piece_out arg2 harg2 arg9 harg9 arg6 harg6 arg7 harg7 x1 xs0 x2 x3 _ 0 (by decide) (by decide) (by decide) x, trivial⟩

theorem out_2 : View.PiecesOf (outRows x1 xs0 x2 x3) (sl.H4_2 c arg1 harg1 arg2 harg2 arg6 harg6 arg7 harg7 arg9 harg9 arg10 harg10 arg11 harg11 arg12 harg12 x0 x1 x2 x3 xs0 xs1 xs2 xs3) := by
  unfold sl.H4_2
  exact ⟨fun x => piece_out arg2 harg2 arg9 harg9 arg6 harg6 arg7 harg7 x1 xs0 x2 x3 _ 64 (by decide) (by decide) (by decide) x, out_1⟩

theorem out_3 : View.PiecesOf (outRows x1 xs0 x2 x3) (sl.H4_3 c arg1 harg1 arg2 harg2 arg6 harg6 arg7 harg7 arg9 harg9 arg10 harg10 arg11 harg11 arg12 harg12 x0 x1 x2 x3 xs0 xs1 xs2 xs3) := by
  unfold sl.H4_3
  exact ⟨fun x => piece_out arg2 harg2 arg9 harg9 arg6 harg6 arg7 harg7 x1 xs0 x2 x3 _ 128 (by decide) (by decide) (by decide) x, out_2⟩

theorem out_4 : View.PiecesOf (outRows x1 xs0 x2 x3) (sl.H4_4 c arg1 harg1 arg2 harg2 arg6 harg6 arg7 harg7 arg9 harg9 arg10 harg10 arg11 harg11 arg12 harg12 x0 x1 x2 x3 xs0 xs1 xs2 xs3) := by
  unfold sl.H4_4
  exact ⟨fun x => piece_out arg2 harg2 arg9 harg9 arg6 harg6 arg7 harg7 x1 xs0 x2 x3 _ 192 (by decide) (by decide) (by decide) x, out_3⟩

theorem out_5 : View.PiecesOf (outRows x1 xs0 x2 x3) (sl.H4_5 c arg1 harg1 arg2 harg2 arg6 harg6 arg7 harg7 arg9 harg9 arg10 harg10 arg11 harg11 arg12 harg12 x0 x1 x2 x3 xs0 xs1 xs2 xs3) := by
  unfold sl.H4_5
  exact ⟨fun x => piece_out arg2 harg2 arg9 harg9 arg6 harg6 arg7 harg7 x1 xs0 x2 x3 _ 256 (by decide) (by decide) (by decide) x, out_4⟩

theorem out_6 : View.PiecesOf (outRows x1 xs0 x2 x3) (sl.H4_6 c arg1 harg1 arg2 harg2 arg6 harg6 arg7 harg7 arg9 harg9 arg10 harg10 arg11 harg11 arg12 harg12 x0 x1 x2 x3 xs0 xs1 xs2 xs3) := by
  unfold sl.H4_6
  exact ⟨fun x => piece_out arg2 harg2 arg9 harg9 arg6 harg6 arg7 harg7 x1 xs0 x2 x3 _ 320 (by decide) (by decide) (by decide) x, out_5⟩

theorem out_7 : View.PiecesOf (outRows x1 xs0 x2 x3) (sl.H4_7 c arg1 harg1 arg2 harg2 arg6 harg6 arg7 harg7 arg9 harg9 arg10 harg10 arg11 harg11 arg12 harg12 x0 x1 x2 x3 xs0 xs1 xs2 xs3) := by
  unfold sl.H4_7
  exact ⟨fun x => piece_out arg2 harg2 arg9 harg9 arg6 harg6 arg7 harg7 x1 xs0 x2 x3 _ 384 (by decide) (by decide) (by decide) x, out_6⟩

theorem out_8 (x : S64x1024.Idx) : (sl.r_37 c arg1 harg1 arg2 harg2 arg6 harg6 arg7 harg7 arg9 harg9 arg10 harg10 arg11 harg11 arg12 harg12 x0 x1 x2 x3 xs0 xs1 xs2 xs3 : FVec Ideal S64x1024 .f32) x
    = outRows x1 xs0 x2 x3 ((Rect.unit (s := S512x1024) ![448, 0] S64x1024.size (by decide)).emb x) :=
  piece_out arg2 harg2 arg9 harg9 arg6 harg6 arg7 harg7 x1 xs0 x2 x3 _ 448 (by decide) (by decide) (by decide) x

end Cert.Ffn.AtB

end
-- ==== Proof.Ffn.AtC.lean ====
module

public import proofs.«01_k».proof.Proof.Ffn.Load
public import proofs.«01_k».proof.Proof.Ffn.Frame

@[expose] public section

/-! The values the body computes at the last grid point: the output block is the layer of the rows whose sums the point before
left. -/

set_option maxRecDepth 16384

noncomputable section

namespace Cert.Ffn.AtC

open Cert.Ffn
open Cert.Kernel2Ideal Cert.Kernel2Ideal.Gen
open Idealize.ShloMosaic Idealize.ShloMosaic.TcCoe
open Idealize.SL Idealize.SL.Sem
open kernelRun0_C

variable {c : Dev nD}
variable {arg1 : Memref sig .tc .vmem S512x1024 .f32} {harg1 : arg1.IsWhole}
variable {arg2 : Memref sig .tc .vmem S512x1024 .f32} {harg2 : arg2.IsWhole}
variable {arg6 : Memref sig .tc .vmem S1x1024 .f32} {harg6 : arg6.IsWhole}
variable {arg7 : Memref sig .tc .vmem S1x1024 .f32} {harg7 : arg7.IsWhole}
variable {arg9 : Memref sig .tc .vmem S512x1024 .f32} {harg9 : arg9.IsWhole}
variable {x1 xs0 : Vec Ideal S512x1024 .f32} {x2 x3 : Vec Ideal S1x1024 .f32}

theorem out_1 : View.PiecesOf (outRows x1 xs0 x2 x3) (sl.H4_1 c arg2 harg2 arg6 harg6 arg7 harg7 arg9 harg9 x1 x2 x3 xs0) := by
  unfold sl.H4_1
  exact ⟨fun x => pieceLast_out arg2 harg2 arg9 harg9 arg6 harg6 arg7 harg7 x1 xs0 x2 x3 0 (by decide) (by decide) (by decide) x, trivial⟩

theorem out_2 : View.PiecesOf (outRows x1 xs0 x2 x3) (sl.H4_2 c arg2 harg2 arg6 harg6 arg7 harg7 arg9 harg9 x1 x2 x3 xs0) := by
  unfold sl.H4_2
  exact ⟨fun x => pieceLast_out arg2 harg2 arg9 harg9 arg6 harg6 arg7 harg7 x1 xs0 x2 x3 64 (by decide) (by decide) (by decide) x, out_1⟩

theorem out_3 : View.PiecesOf (outRows x1 xs0 x2 x3) (sl.H4_3 c arg2 harg2 arg6 harg6 arg7 harg7 arg9 harg9 x1 x2 x3 xs0) := by
  unfold sl.H4_3
  exact ⟨fun x => pieceLast_out arg2 harg2 arg9 harg9 arg6 harg6 arg7 harg7 x1 xs0 x2 x3 128 (by decide) (by decide) (by decide) x, out_2⟩

theorem out_4 : View.PiecesOf (outRows x1 xs0 x2 x3) (sl.H4_4 c arg2 harg2 arg6 harg6 arg7 harg7 arg9 harg9 x1 x2 x3 xs0) := by
  unfold sl.H4_4
  exact ⟨fun x => pieceLast_out arg2 harg2 arg9 harg9 arg6 harg6 arg7 harg7 x1 xs0 x2 x3 192 (by decide) (by decide) (by decide) x, out_3⟩

theorem out_5 : View.PiecesOf (outRows x1 xs0 x2 x3) (sl.H4_5 c arg2 harg2 arg6 harg6 arg7 harg7 arg9 harg9 x1 x2 x3 xs0) := by
  unfold sl.H4_5
  exact ⟨fun x => pieceLast_out arg2 harg2 arg9 harg9 arg6 harg6 arg7 harg7 x1 xs0 x2 x3 256 (by decide) (by decide) (by decide) x, out_4⟩

end Cert.Ffn.AtC

end
-- ==== Proof.Ffn.Body.lean ====
module

public import proofs.«01_k».proof.Proof.Ffn.AtA
public import proofs.«01_k».proof.Proof.Ffn.AtB
public import proofs.«01_k».proof.Proof.Ffn.AtC

@[expose] public section

/-! What one grid point leaves: the first point leaves the three weights in the scratch; every point but the last leaves the
feed-forward sums of its rows; every point but the first leaves the layer of the rows the point before it took. -/

set_option maxRecDepth 16384

noncomputable section

namespace Cert.Ffn.Body

open Cert.Ffn
open Cert.Kernel2Ideal Cert.Kernel2Ideal.Gen
open Idealize.ShloMosaic Idealize.ShloMosaic.TcCoe
open Idealize.SL Idealize.SL.Sem

/-- Pieces of one array that reach every index, read back, are the array. -/
theorem read_pieces {κ : Kind} {sp : Space} {S : Shape} {e : EltTy} (v : View sig κ sp S e) (L : List (View.Piece (Elt Ideal) S e))
    (G : S.Idx → Elt Ideal e) (hp : View.PiecesOf G L) (hc : ∀ y, ∃ pc ∈ L, y ∈ pc.1.set) :
    v.read (Elt Ideal) (v.writes (Elt Ideal) v.junk L) = G := by
  rw [View.read_writes_junk_eq_canon]
  exact funext fun y => View.canon_apply_of_pieces G L (fun p h x => hp.mem p h x) y (hc y)

theorem weights_1 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec Ideal S512x1024 .f32) (x1 : Vec Ideal S512x1024 .f32) (x2 : Vec Ideal S1x1024 .f32) (x3 : Vec Ideal S1x1024 .f32) (fh0 : HbBuf0 (F := Ideal) c hbM0_0) (fh1 : HbBuf0 (F := Ideal) c hbM0_1) (fh2 : HbBuf0 (F := Ideal) c hbM0_2) :
    sout0_A_1 c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 = colOf fh0 :=
  read_pieces _ _ _ pc1_11 (scover0_A_1 c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2)

theorem weights_2 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec Ideal S512x1024 .f32) (x1 : Vec Ideal S512x1024 .f32) (x2 : Vec Ideal S1x1024 .f32) (x3 : Vec Ideal S1x1024 .f32) (fh0 : HbBuf0 (F := Ideal) c hbM0_0) (fh1 : HbBuf0 (F := Ideal) c hbM0_1) (fh2 : HbBuf0 (F := Ideal) c hbM0_2) :
    sout0_A_2 c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 = colOf fh1 :=
  read_pieces _ _ _ pc2_11 (scover0_A_2 c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2)

theorem weights_3 (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec Ideal S512x1024 .f32) (x1 : Vec Ideal S512x1024 .f32) (x2 : Vec Ideal S1x1024 .f32) (x3 : Vec Ideal S1x1024 .f32) (fh0 : HbBuf0 (F := Ideal) c hbM0_0) (fh1 : HbBuf0 (F := Ideal) c hbM0_1) (fh2 : HbBuf0 (F := Ideal) c hbM0_2) :
    sout0_A_3 c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 = rowOfW fh2 :=
  read_pieces _ _ _ pc3_22 (scover0_A_3 c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2)

/-- The sums the first point leaves. -/
theorem acc_A (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : cond0_0 i) (hc1 : ¬cond0_1 i) (hc2 : ¬cond0_2 i)
    (x0 : Vec Ideal S512x1024 .f32) (x1 : Vec Ideal S512x1024 .f32) (x2 : Vec Ideal S1x1024 .f32) (x3 : Vec Ideal S1x1024 .f32) (fh0 : HbBuf0 (F := Ideal) c hbM0_0) (fh1 : HbBuf0 (F := Ideal) c hbM0_1) (fh2 : HbBuf0 (F := Ideal) c hbM0_2) (r : Fin 512) (d : Fin 1024) :
    sout0_A_0 c i arg1 harg1 arg2 harg2 arg6 harg6 arg7 harg7 arg8 harg8 arg9 harg9 arg10 harg10 arg11 harg11 arg12 harg12 arg13 harg13 arg14 harg14 arg15 harg15 hc0 hc1 hc2 x0 x1 x2 x3 fh0 fh1 fh2 (ix2 r d) = Spec.ffn Spec.silu (fun j => x0 (ix2 r j)) (fun j k => fh0 (ix2 j k)) (fun j k => fh1 (ix2 j k)) (fun k d => fh2 (ix2 k d)) d := by
  refine (congrFun (View.read_writes_junk_eq_canon VS0_0 _) (ix2 r d)).trans ?_
  refine (congrFun (View.canon_cons_unit_zero (by decide) _ _ _) (ix2 r d)).trans ?_
  exact AtA.acc_end r d

/-- The sums a middle point leaves. -/
theorem acc_B (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : cond0_1 i) (hc2 : ¬cond0_2 i)
    (x0 : Vec Ideal S512x1024 .f32) (x1 : Vec Ideal S512x1024 .f32) (x2 : Vec Ideal S1x1024 .f32) (x3 : Vec Ideal S1x1024 .f32) (xs0 : Vec Ideal S512x1024 .f32) (xs1 : Vec Ideal S1024x2816 .bf16) (xs2 : Vec Ideal S1024x2816 .bf16) (xs3 : Vec Ideal S2x2816x512 .bf16) (fh0 : HbBuf0 (F := Ideal) c hbM0_0) (fh1 : HbBuf0 (F := Ideal) c hbM0_1) (fh2 : HbBuf0 (F := Ideal) c hbM0_2) (g u : S1024x2816.Idx → EReal) (w : S2816x1024.Idx → EReal)
    (hg : xs1 = colOf g) (hu : xs2 = colOf u) (hw : xs3 = rowOfW w) (r : Fin 512) (d : Fin 1024) :
    sout0_B_0 c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2 (ix2 r d) = Spec.ffn Spec.silu (fun j => x0 (ix2 r j)) (fun j k => g (ix2 j k)) (fun j k => u (ix2 j k)) (fun k d => w (ix2 k d)) d := by
  refine (congrFun (View.read_writes_junk_eq_canon VS0_0 _) (ix2 r d)).trans ?_
  refine (congrFun (View.canon_cons_unit_zero (by decide) _ _ _) (ix2 r d)).trans ?_
  exact AtB.acc_end hg hu hw r d

/-- The rows a middle point writes out. -/
theorem out_B (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : cond0_1 i) (hc2 : ¬cond0_2 i)
    (x0 : Vec Ideal S512x1024 .f32) (x1 : Vec Ideal S512x1024 .f32) (x2 : Vec Ideal S1x1024 .f32) (x3 : Vec Ideal S1x1024 .f32) (xs0 : Vec Ideal S512x1024 .f32) (xs1 : Vec Ideal S1024x2816 .bf16) (xs2 : Vec Ideal S1024x2816 .bf16) (xs3 : Vec Ideal S2x2816x512 .bf16) (fh0 : HbBuf0 (F := Ideal) c hbM0_0) (fh1 : HbBuf0 (F := Ideal) c hbM0_1) (fh2 : HbBuf0 (F := Ideal) c hbM0_2) :
    out0_B_4 c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2 = outRows x1 xs0 x2 x3 :=
  read_pieces _ _ _ ⟨fun x => AtB.out_8 x, AtB.out_7⟩ (cover0_B_4 c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2)

/-- The rows the last point writes out. -/
theorem out_C (c : Dev nD) (i : grid0.Coords) (arg1 : Memref sig .tc .vmem S512x1024 .f32) (harg1 : arg1.IsWhole) (arg2 : Memref sig .tc .vmem S512x1024 .f32) (harg2 : arg2.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2x2816x512 .bf16) (harg12 : arg12.IsWhole) (arg13 : Memref sig .tc .vmem S2x1024x256 .f32) (harg13 : arg13.IsWhole) (arg14 : Memref sig .tc .vmem S2x1024x256 .f32) (harg14 : arg14.IsWhole) (arg15 : Memref sig .tc .vmem S2x256x1024 .f32) (harg15 : arg15.IsWhole) (hc0 : ¬cond0_0 i) (hc1 : ¬cond0_1 i) (hc2 : cond0_2 i)
    (x0 : Vec Ideal S512x1024 .f32) (x1 : Vec Ideal S512x1024 .f32) (x2 : Vec Ideal S1x1024 .f32) (x3 : Vec Ideal S1x1024 .f32) (xs0 : Vec Ideal S512x1024 .f32) (xs1 : Vec Ideal S1024x2816 .bf16) (xs2 : Vec Ideal S1024x2816 .bf16) (xs3 : Vec Ideal S2x2816x512 .bf16) (fh0 : HbBuf0 (F := Ideal) c hbM0_0) (fh1 : HbBuf0 (F := Ideal) c hbM0_1) (fh2 : HbBuf0 (F := Ideal) c hbM0_2) :
    out0_C_4 c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2 = outRows x1 xs0 x2 x3 := by
  refine read_pieces _ _ _ ?_ (cover0_C_4 c i arg1 harg1 arg2 harg2 arg6 harg6 arg7 harg7 arg8 harg8 arg9 harg9 arg10 harg10 arg11 harg11 arg12 harg12 arg13 harg13 arg14 harg14 arg15 harg15 hc0 hc1 hc2 x0 x1 x2 x3 xs0 xs1 xs2 xs3 fh0 fh1 fh2)
  exact And.intro (fun x => pieceLast_out arg2 harg2 arg9 harg9 arg6 harg6 arg7 harg7 x1 xs0 x2 x3 448 (by decide) (by decide) (by decide) x)
    (And.intro (fun x => pieceLast_out arg2 harg2 arg9 harg9 arg6 harg6 arg7 harg7 x1 xs0 x2 x3 384 (by decide) (by decide) (by decide) x)
    (And.intro (fun x => pieceLast_out arg2 harg2 arg9 harg9 arg6 harg6 arg7 harg7 x1 xs0 x2 x3 320 (by decide) (by decide) (by decide) x) AtC.out_5))

end Cert.Ffn.Body

end
-- ==== Proof.Ffn.Reference.lean ====
module

public import proofs.«01_k».proof.Proof.Ffn.Spec
public import proofs.«01_k».proof.Proof.Gen.Reference2Ideal.Run

@[expose] public section

/-! The reference's result, read at an index, is the layer's specification at that row. -/

set_option maxRecDepth 16384

noncomputable section

namespace Cert.Ffn

open Idealize.ShloMosaic Idealize.ShloMosaic.TcCoe Idealize.SL.Sem
open Cert.Reference2Ideal Cert.Reference2Ideal.Gen Cert.Reference2Ideal.Value

/-- The reference's gate or up projection. -/
def refProj (X : FVec Ideal S16384x1024 .f32) (G : FVec Ideal S1024x2816 .f32) : FVec Ideal S16384x2816 .f32 :=
  Host.dotGeneral dot_S16384x1024_S1024x2816_S16384x2816_1_0_0_1_n_n none X G

/-- The reference's hidden layer from the two projections. -/
def refHidden (A B : FVec Ideal S16384x2816 .f32) : FVec Ideal S16384x2816 .f32 :=
  mulf (mulf A (Host.divf (broadcastInDim S16384x2816 ![] bcast_S_S16384x2816 (constant S_ .f32 0x3F800000#32)) (addf (broadcastInDim S16384x2816 ![] bcast_S_S16384x2816 (constant S_ .f32 0x3F800000#32)) (Host.exp (Host.negf A))))) B

/-- The reference's sum of the residual and half the feed-forward output. -/
def refSum (X : FVec Ideal S16384x1024 .f32) (H : FVec Ideal S16384x2816 .f32) (D : FVec Ideal S2816x1024 .f32) : FVec Ideal S16384x1024 .f32 :=
  addf (mulf (broadcastInDim S16384x1024 ![] bcast_S_S16384x1024 (constant S_ .f32 0x3F9837F0#32)) X) (mulf (broadcastInDim S16384x1024 ![] bcast_S_S16384x1024 (constant S_ .f32 0x3F000000#32)) (Host.dotGeneral dot_S16384x2816_S2816x1024_S16384x1024_1_0_0_1_n_n none H D))

/-- The reference's row means, as a column. -/
def refMean (Y : FVec Ideal S16384x1024 .f32) : FVec Ideal S16384x1 .f32 :=
  Host.divf (broadcastInDim S16384x1 ![0] bcast_S16384_S16384x1_0 (Host.reduceAdd Y (constant S_ .f32 0x00000000#32) reducesTo_S16384x1024_S16384_d1 h_S_)) (broadcastInDim S16384x1 ![] bcast_S_S16384x1 (constant S_ .f32 0x44800000#32))

/-- The reference's rows less their means. -/
def refCentred (Y : FVec Ideal S16384x1024 .f32) : FVec Ideal S16384x1024 .f32 :=
  subf Y (broadcastInDim S16384x1024 ![0, 1] bcast_S16384x1_S16384x1024_0_1 (refMean Y))

/-- The reference's layer normalisation. -/
def refNorm (Y : FVec Ideal S16384x1024 .f32) (g b : FVec Ideal S1024 .f32) : FVec Ideal S16384x1024 .f32 :=
  addf (mulf (mulf (refCentred Y) (broadcastInDim S16384x1024 ![0, 1] bcast_S16384x1_S16384x1024_0_1 (Host.rsqrt (addf (refMean (mulf (refCentred Y) (refCentred Y))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

theorem refHidden_at (X : FVec Ideal S16384x1024 .f32) (G U : FVec Ideal S1024x2816 .f32) (i : Fin 16384) (k : Fin 2816) :
    refHidden (refProj X G) (refProj X U) (ix2 i k)
    = Spec.hidden Spec.siluRef (fun j => X (ix2 i j)) (fun j k => G (ix2 j k)) (fun j k => U (ix2 j k)) k := by
  pointwise [refHidden, refProj, Spec.hidden, Spec.siluRef]

theorem refSum_at (X : FVec Ideal S16384x1024 .f32) (G U : FVec Ideal S1024x2816 .f32) (D : FVec Ideal S2816x1024 .f32)
    (i : Fin 16384) (d : Fin 1024) :
    refSum X (refHidden (refProj X G) (refProj X U)) D (ix2 i d)
    = Spec.alpha * X (ix2 i d) + Spec.half * Spec.ffn Spec.siluRef (fun j => X (ix2 i j)) (fun j k => G (ix2 j k)) (fun j k => U (ix2 j k))
        (fun k e => D (ix2 k e)) d := by
  pointwise [refSum, Spec.ffn, refHidden_at]

theorem refNorm_at (Y : FVec Ideal S16384x1024 .f32) (g b : FVec Ideal S1024 .f32) (i : Fin 16384) (d : Fin 1024) :
    refNorm Y g b (ix2 i d) = Spec.layerNorm (fun j => Y (ix2 i j)) (fun e => g (ix1 e)) (fun e => b (ix1 e)) d := by
  pointwise [refNorm, refCentred, refMean, Spec.layerNorm, Spec.mean]

set_option maxHeartbeats 1000000 in
/-- The reference's result is the composition of these. -/
theorem res_eq (m : (ℓ : Loc nD τ sig) → Buf (Elt Ideal) ℓ) (c : Dev nD) :
    res_main_v34 (F := Ideal) m c
    = refNorm (refSum (shapeCast S16384x1024 (m ((c.tc : Thread nD τ).loc main_arg0)) shapeCasts_S8x2048x1024_S16384x1024)
        (refHidden
          (refProj (shapeCast S16384x1024 (m ((c.tc : Thread nD τ).loc main_arg0)) shapeCasts_S8x2048x1024_S16384x1024) (m ((c.tc : Thread nD τ).loc main_arg1)))
          (refProj (shapeCast S16384x1024 (m ((c.tc : Thread nD τ).loc main_arg0)) shapeCasts_S8x2048x1024_S16384x1024) (m ((c.tc : Thread nD τ).loc main_arg2))))
        (m ((c.tc : Thread nD τ).loc main_arg3)))
      (m ((c.tc : Thread nD τ).loc main_arg4)) (m ((c.tc : Thread nD τ).loc main_arg5)) := rfl

/-- The layer's row `i` of an input array of shape 8 by 2048 by 1024, from arrays of the weights. -/
def rowOf (σ : EReal → EReal) (X : FVec Ideal S8x2048x1024 .f32) (G U : FVec Ideal S1024x2816 .f32) (D : FVec Ideal S2816x1024 .f32)
    (g b : FVec Ideal S1024 .f32) (i : Fin 16384) (d : Fin 1024) : EReal :=
  Spec.layer σ (fun j => X (ix3 ⟨i / 2048, by omega⟩ ⟨i % 2048, by omega⟩ j))
    (fun j k => G (ix2 j k)) (fun j k => U (ix2 j k)) (fun k e => D (ix2 k e)) (fun e => g (ix1 e)) (fun e => b (ix1 e)) d

/-- The composition at row `i`, column `d`. -/
theorem refWhole_at (X : FVec Ideal S8x2048x1024 .f32) (G U : FVec Ideal S1024x2816 .f32) (D : FVec Ideal S2816x1024 .f32)
    (g b : FVec Ideal S1024 .f32) (i : Fin 16384) (d : Fin 1024) :
    refNorm (refSum (shapeCast S16384x1024 X shapeCasts_S8x2048x1024_S16384x1024)
        (refHidden (refProj (shapeCast S16384x1024 X shapeCasts_S8x2048x1024_S16384x1024) G)
          (refProj (shapeCast S16384x1024 X shapeCasts_S8x2048x1024_S16384x1024) U)) D) g b (ix2 i d)
    = rowOf Spec.siluRef X G U D g b i d := by
  have hX : ∀ j : Fin 1024, shapeCast S16384x1024 X shapeCasts_S8x2048x1024_S16384x1024 (ix2 i j)
      = X (ix3 ⟨i / 2048, by omega⟩ ⟨i % 2048, by omega⟩ j) := fun j => by pointwise
  rw [refNorm_at]
  simp only [refSum_at, hX]
  rfl

end Cert.Ffn

end
-- ==== Proof.Ffn.Value.lean ====
module

public import proofs.«01_k».proof.Proof.Ffn.Body
public import proofs.«01_k».proof.Proof.Ffn.Reference
public import Idealize.ShloMosaic.Lib.Pipeline.Value
public import Idealize.ShloMosaic.Lib.Claim

@[expose] public section

/-! The kernel's result array, row by row. After every grid point the scratch holds the weights; after point `t < 32` the
accumulator holds the feed-forward sums of block `t` of rows; point `t ≥ 1` writes the layer of block `t - 1`. -/

set_option maxRecDepth 16384

noncomputable section

namespace Cert.Ffn

open Cert.Kernel2Ideal Cert.Kernel2Ideal.Gen
open Idealize.ShloMosaic Idealize.ShloMosaic.TcCoe
open Idealize.SL Idealize.SL.Sem

variable (m : (ℓ : Loc nD τ sig) → Buf (Elt Ideal) ℓ)

/-- The rows the region finds in the input array. -/
def inRows (c : Dev nD) : S16384x1024.Idx → EReal := V m c main_v0

/-- The block each window shows at each point. -/
theorem idx : ∀ t : Fin cfg0.N, win0_0.index t = ![min t.val 31, 0] ∧ win0_1.index t = ![t.val - 1, 0] ∧ win0_2.index t = ![0, 0]
    ∧ win0_3.index t = ![0, 0] ∧ win0_4.index t = ![t.val - 1, 0] ∧ t.val < 33 :=
  (by decide +kernel : ∀ t : Fin grid0.N, _)

theorem blk0 (c : Dev nD) (t : Fin cfg0.N) (ht : t.val < 32) (r : Fin 512) (j : Fin 1024) :
    (iblk m c 0 t : S512x1024.Idx → EReal) (ix2 r j) = inRows m c (ix2 ⟨t.val * 512 + r.val, by omega⟩ j) := by
  have e := (idx t).1
  have h31 : min t.val 31 = t.val := by omega
  rw [h31] at e
  blk_ext [iblk, inRows, e]

theorem blk1 (c : Dev nD) (t : Fin cfg0.N) (ht : t.val < 33) (r : Fin 512) (j : Fin 1024) :
    (iblk m c 1 t : S512x1024.Idx → EReal) (ix2 r j) = inRows m c (ix2 ⟨(t.val - 1) * 512 + r.val, by omega⟩ j) := by
  have e := (idx t).2.1
  blk_ext [iblk, inRows, e]

theorem blk2 (c : Dev nD) (t : Fin cfg0.N) (e : Fin 1024) :
    (iblk m c 2 t : S1x1024.Idx → EReal) (ix2 0 e) = (V m c main_v1 : S1x1024.Idx → EReal) (ix2 0 e) := by
  have h := (idx t).2.2.1
  blk_ext [iblk, h]

theorem blk3 (c : Dev nD) (t : Fin cfg0.N) (e : Fin 1024) :
    (iblk m c 3 t : S1x1024.Idx → EReal) (ix2 0 e) = (V m c main_v2 : S1x1024.Idx → EReal) (ix2 0 e) := by
  have h := (idx t).2.2.2.1
  blk_ext [iblk, h]

/-- What the weight scratch holds after a point. -/
def Held (c : Dev nD) (t : Fin cfg0.N) : Prop :=
  (outsAt0 m c t.val t.isLt).2.2.1 = colOf (V m c main_arg1) ∧ (outsAt0 m c t.val t.isLt).2.2.2.1 = colOf (V m c main_arg2)
    ∧ (outsAt0 m c t.val t.isLt).2.2.2.2 = rowOfW (V m c main_arg3)

/-- The point before a point. -/
def before (t : Fin cfg0.N) : Fin cfg0.N := ⟨t.val - 1, Nat.lt_of_le_of_lt (Nat.sub_le _ _) t.isLt⟩

theorem held_A (c : Dev nD) (t : Fin cfg0.N) (h0 : t.val % 33 = 0) (h1 : ¬(1 ≤ t.val % 33 ∧ t.val % 33 ≤ 31)) (h2 : ¬t.val % 33 = 32) : Held m c t := by
  unfold Held
  rw [outsAt0_A m c t h0 h1 h2]
  dsimp only
  refine ⟨?_, ?_, ?_⟩
  · exact Body.weights_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (V m c main_arg1) (V m c main_arg2) (V m c main_arg3)
  · exact Body.weights_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (V m c main_arg1) (V m c main_arg2) (V m c main_arg3)
  · exact Body.weights_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (V m c main_arg1) (V m c main_arg2) (V m c main_arg3)

theorem held_B (c : Dev nD) (t : Fin cfg0.N) (h0 : ¬t.val % 33 = 0) (h1 : (1 ≤ t.val % 33 ∧ t.val % 33 ≤ 31)) (h2 : ¬t.val % 33 = 32)
    (h : Held m c (before t)) : Held m c t := by
  unfold Held
  rw [outsAt0_B m c t h0 h1 h2]
  exact h

theorem held_C (c : Dev nD) (t : Fin cfg0.N) (h0 : ¬t.val % 33 = 0) (h1 : ¬(1 ≤ t.val % 33 ∧ t.val % 33 ≤ 31)) (h2 : t.val % 33 = 32)
    (h : Held m c (before t)) : Held m c t := by
  unfold Held
  rw [outsAt0_C m c t h0 h1 h2]
  exact h

/-- The weight scratch holds the weights after every point. -/
theorem held (c : Dev nD) : ∀ (n : ℕ) (t : Fin cfg0.N), t.val = n → Held m c t
  | 0, t, e => held_A m c t (by omega) (by omega) (by omega)
  | n + 1, t, e => by
    have hb : Held m c (before t) := held c n (before t) (by show t.val - 1 = n; omega)
    have ht : t.val < 33 := (idx t).2.2.2.2.2
    by_cases h : t.val = 32
    · exact held_C m c t (by omega) (by omega) (by omega) hb
    · exact held_B m c t (by omega) (by omega) (by omega) hb

/-- The feed-forward sums of row `i` of the input. -/
def ffnRow (c : Dev nD) (i : Fin 16384) (d : Fin 1024) : EReal :=
  Spec.ffn Spec.silu (fun j => inRows m c (ix2 i j)) (fun j k => (V m c main_arg1 : S1024x2816.Idx → EReal) (ix2 j k))
    (fun j k => (V m c main_arg2 : S1024x2816.Idx → EReal) (ix2 j k)) (fun k e => (V m c main_arg3 : S2816x1024.Idx → EReal) (ix2 k e)) d

/-- The accumulator after each point but the last. -/
theorem acc_after (c : Dev nD) (t : Fin cfg0.N) (ht : t.val < 32) (r : Fin 512) (d : Fin 1024) :
    ((outsAt0 m c t.val t.isLt).2.1 : S512x1024.Idx → EReal) (ix2 r d) = ffnRow m c ⟨t.val * 512 + r.val, by omega⟩ d := by
  unfold ffnRow
  simp only [← blk0 m c t ht r]
  by_cases h : t.val = 0
  · have h0 : t.val % 33 = 0 := by omega
    have h1 : ¬(1 ≤ t.val % 33 ∧ t.val % 33 ≤ 31) := by omega
    have h2 : ¬t.val % 33 = 32 := by omega
    rw [outsAt0_A m c t h0 h1 h2]
    dsimp only
    exact Body.acc_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (V m c main_arg1) (V m c main_arg2) (V m c main_arg3) r d
  · have hb := held m c _ (before t) rfl
    have h0 : ¬t.val % 33 = 0 := by omega
    have h1 : (1 ≤ t.val % 33 ∧ t.val % 33 ≤ 31) := by omega
    have h2 : ¬t.val % 33 = 32 := by omega
    rw [outsAt0_B m c t h0 h1 h2]
    dsimp only
    exact Body.acc_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg1) (V m c main_arg2) (V m c main_arg3) _ _ _ hb.1 hb.2.1 hb.2.2 r d

/-- The layer of row `i` of the input. -/
def layerRow (c : Dev nD) (i : Fin 16384) (d : Fin 1024) : EReal :=
  Spec.layerNorm (fun j => Spec.alpha * inRows m c (ix2 i j) + Spec.half * ffnRow m c i j)
    (fun e => (V m c main_v1 : S1x1024.Idx → EReal) (ix2 0 e)) (fun e => (V m c main_v2 : S1x1024.Idx → EReal) (ix2 0 e)) d

theorem out_eq (c : Dev nD) (t : Fin cfg0.N) (ht : 1 ≤ t.val) :
    (outsAt0 m c t.val t.isLt).1 = outRows (iblk m c 1 t) (outsAt0 m c (before t).val (before t).isLt).2.1 (iblk m c 2 t) (iblk m c 3 t) := by
  have h33 : t.val < 33 := (idx t).2.2.2.2.2
  by_cases h : t.val = 32
  · have h0 : ¬t.val % 33 = 0 := by omega
    have h1 : ¬(1 ≤ t.val % 33 ∧ t.val % 33 ≤ 31) := by omega
    have h2 : t.val % 33 = 32 := by omega
    rw [outsAt0_C m c t h0 h1 h2]
    dsimp only
    exact Body.out_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg1) (V m c main_arg2) (V m c main_arg3)
  · have h0 : ¬t.val % 33 = 0 := by omega
    have h1 : (1 ≤ t.val % 33 ∧ t.val % 33 ≤ 31) := by omega
    have h2 : ¬t.val % 33 = 32 := by omega
    rw [outsAt0_B m c t h0 h1 h2]
    dsimp only
    exact Body.out_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (V m c main_arg1) (V m c main_arg2) (V m c main_arg3)

/-- The output block each point but the first leaves. -/
theorem out_after (c : Dev nD) (t : Fin cfg0.N) (ht : 1 ≤ t.val) (h33 : t.val < 33) (r : Fin 512) (d : Fin 1024) :
    ((outsAt0 m c t.val t.isLt).1 : S512x1024.Idx → EReal) (ix2 r d) = layerRow m c ⟨(t.val - 1) * 512 + r.val, by omega⟩ d := by
  rw [out_eq m c t ht]
  refine (show outRows _ _ _ _ (ix2 r d) = Spec.layerNorm _ _ _ d from rfl).trans ?_
  unfold layerRow
  have ha := fun j => acc_after m c (before t) (by show t.val - 1 < 32; omega) r j
  have e : ∀ j, ((iblk m c 1 t : S512x1024.Idx → EReal) (ix2 r j)) = _ := fun j => blk1 m c t h33 r j
  have hy : (fun j => Spec.alpha * (iblk m c 1 t : S512x1024.Idx → EReal) (ix2 r j)
        + Spec.half * ((outsAt0 m c (before t).val (before t).isLt).2.1 : S512x1024.Idx → EReal) (ix2 r j))
      = fun j => Spec.alpha * inRows m c (ix2 ⟨(t.val - 1) * 512 + r.val, by omega⟩ j)
        + Spec.half * ffnRow m c ⟨(t.val - 1) * 512 + r.val, by omega⟩ j :=
    funext fun j => congrArg₂ (fun a b => Spec.alpha * a + Spec.half * b) (e j) (ha j)
  have hg : (fun e => (iblk m c 2 t : S1x1024.Idx → EReal) (ix2 0 e)) = fun e => (V m c main_v1 : S1x1024.Idx → EReal) (ix2 0 e) :=
    funext fun e => blk2 m c t e
  have hb : (fun e => (iblk m c 3 t : S1x1024.Idx → EReal) (ix2 0 e)) = fun e => (V m c main_v2 : S1x1024.Idx → EReal) (ix2 0 e) :=
    funext fun e => blk3 m c t e
  exact congr (congr (congr (congrArg Spec.layerNorm hy) hg) hb) rfl

end Cert.Ffn

end
-- ==== Proof.Ffn.Final.lean ====
module

public import proofs.«01_k».proof.Proof.Ffn.Value

@[expose] public section

/-! The kernel's result array as one function of its arguments. -/

set_option maxRecDepth 16384

noncomputable section

namespace Cert.Ffn

open Cert.Kernel2Ideal Cert.Kernel2Ideal.Gen
open Idealize.ShloMosaic Idealize.ShloMosaic.TcCoe
open Idealize.SL Idealize.SL.Sem

variable (m : (ℓ : Loc nD τ sig) → Buf (Elt Ideal) ℓ)

/-- The first point's output block is not written back. -/
theorem flush_pos : ∀ t : Fin cfg0.N, (cfg0.win 4).flush t = true → 1 ≤ t.val :=
  (by decide +kernel : ∀ t : Fin grid0.N, _)

/-- The array of the rows' layers. -/
def resRows (c : Dev nD) : S16384x1024.Idx → EReal := fun y => layerRow m c (y 0) (y 1)

theorem out_at (c : Dev nD) (t : Fin cfg0.N) (ht : 1 ≤ t.val) (h33 : t.val < 33) (y : S512x1024.Idx) (z : S16384x1024.Idx)
    (h0 : (z 0).val = (t.val - 1) * 512 + (y 0).val) (h1 : (z 1).val = (y 1).val) :
    ((outsAt0 m c t.val t.isLt).1 : S512x1024.Idx → EReal) y = resRows m c z := by
  have hy : y = ix2 (y 0) (y 1) := Shape.idx_ext₂ rfl rfl
  refine (congrArg _ hy).trans ((out_after m c t ht h33 (y 0) (y 1)).trans ?_)
  exact congrArg₂ (layerRow m c) (Fin.ext h0.symm) (Fin.ext h1.symm)

/-- The result array holds every row's layer. -/
theorem final (c : Dev nD) : (dats m 0 c).arrAt 4 cfg0.N = resRows m c := by
  refine (dats m 0 c).arrAt_eq_of_covers 4 (resRows m c) (by decide +kernel) fun t hf y => ?_
  have h1 := flush_pos t hf
  have e := (idx t).2.2.2.2.1
  have h33 := (idx t).2.2.2.2.2
  blk_simp
  rw [after0_4]
  exact out_at m c t h1 h33 y _ (by blk_simp [e]) (by blk_simp [e])

/-- The input rows are the argument's rows. -/
theorem inRows_at (c : Dev nD) (i : Fin 16384) (j : Fin 1024) :
    inRows m c (ix2 i j) = (m ((c : Thread nD τ).loc main_arg0) : S8x2048x1024.Idx → EReal) (ix3 ⟨i / 2048, by omega⟩ ⟨i % 2048, by omega⟩ j) := by
  unfold inRows
  entry_read
  pointwise

theorem gain_at (c : Dev nD) (e : Fin 1024) :
    (V m c main_v1 : S1x1024.Idx → EReal) (ix2 0 e) = (m ((c : Thread nD τ).loc main_arg4) : S1024.Idx → EReal) (ix1 e) := by
  entry_read
  pointwise

theorem offset_at (c : Dev nD) (e : Fin 1024) :
    (V m c main_v2 : S1x1024.Idx → EReal) (ix2 0 e) = (m ((c : Thread nD τ).loc main_arg5) : S1024.Idx → EReal) (ix1 e) := by
  entry_read
  pointwise

theorem layer_congr (σ : EReal → EReal) {x x' : Fin 1024 → EReal} {wg wg' wu wu' : Fin 1024 → Fin 2816 → EReal} {wd wd' : Fin 2816 → Fin 1024 → EReal}
    {g g' b b' : Fin 1024 → EReal} (hx : x = x') (hwg : wg = wg') (hwu : wu = wu') (hwd : wd = wd') (hg : g = g') (hb : b = b') (d : Fin 1024) :
    Spec.layer σ x wg wu wd g b d = Spec.layer σ x' wg' wu' wd' g' b' d := by
  subst hx hwg hwu hwd hg hb
  rfl

/-- A row's layer, from the arguments. -/
theorem layerRow_eq (c : Dev nD) (i : Fin 16384) (d : Fin 1024) :
    layerRow m c i d = rowOf Spec.silu (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) i d :=
  layer_congr Spec.silu (funext fun j => inRows_at m c i j)
    (funext fun j => funext fun k => congrFun (V_main_arg1 m c) (ix2 j k))
    (funext fun j => funext fun k => congrFun (V_main_arg2 m c) (ix2 j k))
    (funext fun k => funext fun e => congrFun (V_main_arg3 m c) (ix2 k e))
    (funext fun e => gain_at m c e) (funext fun e => offset_at m c e) d

/-- The two spellings of the activation give the same row where the input and the gate weights are real numbers. -/
theorem rowOf_silu (X : FVec Ideal S8x2048x1024 .f32) (G U : FVec Ideal S1024x2816 .f32) (D : FVec Ideal S2816x1024 .f32)
    (g b : FVec Ideal S1024 .f32) (hX : ∀ x, ∃ r : ℝ, X x = (r : EReal)) (hG : ∀ x, ∃ r : ℝ, G x = (r : EReal)) (i : Fin 16384) (d : Fin 1024) :
    rowOf Spec.silu X G U D g b i d = rowOf Spec.siluRef X G U D g b i d :=
  Spec.layer_silu _ _ _ _ _ _ d (fun j => hX _) (fun j k => hG _)

end Cert.Ffn

end
-- ==== Proof.Ffn.Pre.lean ====
module

public import proofs.«01_k».proof.Proof.Ffn.Final
public import proofs.«01_k».proof.Proof.Gen.Pre_finite
public import Idealize.ShloMosaic.Lib.ReduceAll

@[expose] public section

/-! The precondition says that every element of the input and of the gate weights is a real number. -/

set_option maxRecDepth 16384

noncomputable section

namespace Cert.Ffn.Pre

open Idealize.ShloMosaic Cert.Pre_finite

instance : Cert.Pre_finite.Facts := Cert.Pre_finite.Gen.facts

/-- A number whose absolute value is below infinity is real. -/
theorem real_of (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

theorem and_bits : ∀ a b : BitVec 1, IntOp.andi a b = 1#1 → a = 1#1 ∧ b = 1#1 := by decide

instance : Subsingleton S_.Idx := ⟨fun a b => funext fun i => i.elim0⟩

theorem reals (X : FVec Ideal S8x2048x1024 .f32) (G U : FVec Ideal S1024x2816 .f32) (D : FVec Ideal S2816x1024 .f32) (g b : FVec Ideal S1024 .f32)
    (h : Cert.Pre_finite.fn (F := Ideal) X G U D g b = fun _ => 1#1) :
    (∀ x, ∃ r : ℝ, X x = (r : EReal)) ∧ ∀ x, ∃ r : ℝ, G x = (r : EReal) := by
  have hj := congrFun h (fun i => i.elim0)
  dsimp only [Cert.Pre_finite.fn] at hj
  have h2 := (and_bits _ _ hj)
  exact ⟨fun x => real_of _ (Host.reduce_andi_all _ _ _ _ _ h2.1 x), fun x => real_of _ (Host.reduce_andi_all _ _ _ _ _ h2.2 x)⟩

end Cert.Ffn.Pre

end
-- ==== Proof.Ffn.Claims.lean ====
module

public import proofs.«01_k».proof.Proof.Ffn.Pre
public import proofs.«01_k».proof.Defs
public import proofs.«01_k».proof.Proof.Gen.Kernel2
public import proofs.«01_k».proof.Proof.Gen.Reference2Ideal.Run

@[expose] public section

/-! The claims about the feed-forward call: its frames, and its result as the reference computes it. -/

set_option maxRecDepth 16384

noncomputable section

namespace Cert.Ffn.Claims

open Idealize.ShloMosaic Idealize.ShloMosaic.TcCoe Idealize.SL.Sem

instance : Cert.Kernel2.Facts := Cert.Kernel2.Gen.facts
instance : Cert.Kernel2Ideal.Facts := Cert.Kernel2Ideal.Gen.facts
instance : Cert.Reference2Ideal.Facts := Cert.Reference2Ideal.Gen.facts

/-- The two printed kernels have the same table of bodies: no rewrite was applied, and each table's
one body is the same program. -/
theorem defs₀_eq : Cert.Kernel2.defs₀ (F := Bits) = Cert.Kernel2Ideal.defs₀ (F := Bits) := by
  funext pr l a
  cases pr with
  | scScalar _ => rfl
  | scVector _ _ => rfl
  | tc =>
    match l, a with
    | ⟨0, _⟩, (_, _) => rfl

/-- So the same table with the pipeline's regions added. -/
theorem defs_eq : Cert.Kernel2.defs (F := Bits) = Cert.Kernel2Ideal.defs (F := Bits) :=
  congrArg (Pipeline.defs (Cert.Kernel2Ideal.pcfgs (F := Bits))) defs₀_eq

/-- The compiled program's frame: its text is the ideal program's, run over the machine's numbers. -/
theorem frame_kernel : Cert.quiescent_Kernel2 := fun m ρ _ => by
  have h := Cert.Ffn.frame (F := Bits) m ρ
  rw [← defs_eq] at h
  exact h

theorem frame_ideal : Cert.quiescent_Kernel2Ideal := fun m ρ _ => Cert.Ffn.frame (F := Ideal) m ρ

theorem frame_ideal_pre : Cert.quiescent_Kernel2Ideal_pre_finite := fun m ρ _ => Cert.Ffn.frame (F := Ideal) m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference_pre : Cert.quiescent_Reference2Ideal_pre_finite := fun m ρ _ => frame_reference m ρ trivial

/-- The kernel's result array is the reference's result, where the input and the gate weights are real numbers. -/
theorem result_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (hpre : Cert.Pre_Kernel2Ideal_finite m) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    Cert.Reference2Ideal.Value.res_main_v34 (F := Ideal) m' c = resRows m c := by
  have hr := Pre.reals _ _ _ _ _ _ (hpre c)
  rw [res_eq, h0, h1, h2, h3, h4, h5]
  funext y
  have hy : y = ix2 (y 0) (y 1) := Shape.idx_ext₂ rfl rfl
  refine (congrArg _ hy).trans ((refWhole_at _ _ _ _ _ _ (y 0) (y 1)).trans ?_)
  exact ((layerRow_eq m c (y 0) (y 1)).trans (rowOf_silu _ _ _ _ _ _ hr.1 hr.2 (y 0) (y 1))).symm

theorem algebraic : Cert.algebraic_Kernel2Ideal_Reference2Ideal_pre_finite := by
  pair_intro
  · run_from Cert.Ffn.run_main m g
  · exact (θ_run Cert.Reference2Ideal.defs _ _).mono (fun r h c => ⟨(h c).1.trans ((result_eq m m' hpre c (hagree c).1 (hagree c).2.1 (hagree c).2.2.1
      (hagree c).2.2.2.1 (hagree c).2.2.2.2.1 (hagree c).2.2.2.2.2).trans (Cert.Ffn.final m c).symm), (h c).2⟩)
      (Cert.Reference2Ideal.Value.run (F := Ideal) m' g')

end Cert.Ffn.Claims

end
-- ==== Proof.Mix.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

/-! The launch of the mixer call as the pipeline library states it: buffers, copies, the scratch, the conditions on the grid point. -/

-- membership in a rectangle of production extents (`View.cover_of_tiled`): the elaborator's structural look
-- recurses once per coordinate of the long axes
set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (Pipeline.UD sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 1 rfl).trans ((hA c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 4 rfl).trans ((hA c 4).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .vmem S2x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x8x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x256x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x16x16 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x256x1024 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S2x4x128x128 .f32 := Memref.whole cc0_scratch0
abbrev scM0_1 : Memref sig .tc .vmem S2x8x1536 .f32 := Memref.whole cc0_scratch1
abbrev scM0_2 : Memref sig .tc .vmem S2x16x512 .f32 := Memref.whole cc0_scratch2
abbrev scM0_3 : Memref sig .tc .vmem S9x1024x512 .bf16 := Memref.whole cc0_scratch3
abbrev scM0_4 : Memref sig .tc .vmem S8x1024 .f32 := Memref.whole cc0_scratch4
abbrev scM0_5 : Memref sig .tc .vmem S2x512x512 .bf16 := Memref.whole cc0_scratch5
abbrev scM0_6 : Memref sig .tc .vmem S2x512x512 .bf16 := Memref.whole cc0_scratch6
abbrev scM0_7 : Memref sig .tc .vmem S2x1024x512 .bf16 := Memref.whole cc0_scratch7
abbrev scM0_8 : Memref sig .tc .vmem S2x512x1024 .f32 := Memref.whole cc0_scratch8
/-- The scratch `arg19` the kernel carries between points, as a view: what it holds is stated through it. -/
abbrev VS0_0 : View sig .tc .vmem S2x4x128x128 .f32 := scM0_0.view
/-- The scratch `arg20` the kernel carries between points, as a view: what it holds is stated through it. -/
abbrev VS0_1 : View sig .tc .vmem S2x8x1536 .f32 := scM0_1.view
/-- The scratch `arg22` the kernel carries between points, as a view: what it holds is stated through it. -/
abbrev VS0_3 : View sig .tc .vmem S9x1024x512 .bf16 := scM0_3.view
/-- The scratch `arg23` the kernel carries between points, as a view: what it holds is stated through it. -/
abbrev VS0_4 : View sig .tc .vmem S8x1024 .f32 := scM0_4.view
/-- The operands left in HBM that the body copies into scratch itself, whole. -/
abbrev hbM0_0 : Memref sig .tc .hbm S4616x1024 .f32 := Memref.whole main_v13
abbrev hbM0_1 : Memref sig .tc .hbm S512x1024 .f32 := Memref.whole main_arg6
abbrev hbM0_2 : Memref sig .tc .hbm S512x1024 .f32 := Memref.whole main_arg9
abbrev hbM0_3 : Memref sig .tc .hbm S1024x1024 .f32 := Memref.whole main_arg10
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 3 → SemLoc sig := fun j => (![SemLoc.dma 15, SemLoc.dma 16, SemLoc.dma 17] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0 ∗ semVal ((c : Thread nD τ), SemLoc.dma 17) 0) := by
  rw [Pipeline.ownSems0_eq_of_list c osem0 [0, 1, 2] (by decide) (by decide)]; rfl
/-- The HBM operands the body moves, as references: unscoped, no window's array (`Pipeline.restRefs`). -/
def H0 : Finset (Ref sig .tc) := {main_v13, main_arg6, main_arg9, main_arg10}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v13) ∗ hbPt0 c hbM0_1 (V m c main_arg6) ∗ hbPt0 c hbM0_2 (V m c main_arg9) ∗ hbPt0 c hbM0_3 (V m c main_arg10)) := by
  rw [BI.bigSep_eq_bigSepL_of_eq [main_v13, main_arg6, main_arg9, main_arg10] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r) ∗ iprop(semVal ((c : Thread nD τ), SemLoc.dma 15) 0 ∗ semVal ((c : Thread nD τ), SemLoc.dma 16) 0 ∗ semVal ((c : Thread nD τ), SemLoc.dma 17) 0) ∗ iprop(hbPt0 c hbM0_0 (V m c main_v13) ∗ hbPt0 c hbM0_1 (V m c main_arg6) ∗ hbPt0 c hbM0_2 (V m c main_arg9) ∗ hbPt0 c hbM0_3 (V m c main_arg10))) := by
  rw [Pipeline.ΦD_eq, scopedRest0_eq, ownSems00_eq, hbmPts0_eq]; simp only [scM0_0, scM0_1, scM0_2, scM0_3, scM0_4, scM0_5, scM0_6, scM0_7, scM0_8, owns_whole]; try rfl

end Cert.Mix

end
-- ==== Proof.Mix.RunA.lean ====
module

public import proofs.«01_k».proof.Proof.Mix.Runs

@[expose] public section

/-! The run of the mixer body, case A. -/

-- membership in a rectangle of production extents (`View.cover_of_tiled`): the elaborator's structural look
-- recurses once per coordinate of the long axes
set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in set_option sl_exec.dmaWindow true in set_option sl_exec.dmaWindowSet true in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12) at anything, handed back at some contents nothing names. -/
noncomputable def kernelRun0_Ax (c : Dev nD) (i : grid0.Coords) (arg2 : Memref sig .tc .vmem S2x256x1024 .f32) (harg2 : arg2.IsWhole) (arg4 : Memref sig .tc .vmem S4x1536 .f32) (harg4 : arg4.IsWhole) (arg5 : Memref sig .tc .vmem S2x8x512 .f32) (harg5 : arg5.IsWhole) (arg6 : Memref sig .tc .vmem S1x512 .f32) (harg6 : arg6.IsWhole) (arg8 : Memref sig .tc .vmem S4x128x128 .f32) (harg8 : arg8.IsWhole) (arg9 : Memref sig .tc .vmem S1x512 .f32) (harg9 : arg9.IsWhole) (arg12 : Memref sig .tc .vmem S1x1024 .f32) (harg12 : arg12.IsWhole) (arg13 : Memref sig .tc .vmem S1x1024 .f32) (harg13 : arg13.IsWhole) (arg14 : Memref sig .tc .vmem S256x256 .bf16) (harg14 : arg14.IsWhole) (arg15 : Memref sig .tc .vmem S4x256x256 .bf16) (harg15 : arg15.IsWhole) (arg16 : Memref sig .tc .vmem S4x16x16 .bf16) (harg16 : arg16.IsWhole) (arg17 : Memref sig .tc .vmem S256x256 .bf16) (harg17 : arg17.IsWhole) (arg18 : Memref sig .tc .vmem S2x256x1024 .f32) (harg18 : arg18.IsWhole) (arg19 : Memref sig .tc .vmem S2x4x128x128 .f32) (harg19 : arg19.IsWhole) (arg20 : Memref sig .tc .vmem S2x8x1536 .f32) (harg20 : arg20.IsWhole) (arg21 : Memref sig .tc .vmem S2x16x512 .f32) (harg21 : arg21.IsWhole) (arg22 : Memref sig .tc .vmem S9x1024x512 .bf16) (harg22 : arg22.IsWhole) (arg23 : Memref sig .tc .vmem S8x1024 .f32) (harg23 : arg23.IsWhole) (arg24 : Memref sig .tc .vmem S2x512x512 .bf16) (harg24 : arg24.IsWhole) (arg25 : Memref sig .tc .vmem S2x512x512 .bf16) (harg25 : arg25.IsWhole) (arg26 : Memref sig .tc .vmem S2x1024x512 .bf16) (harg26 : arg26.IsWhole) (arg27 : Memref sig .tc .vmem S2x512x1024 .f32) (harg27 : arg27.IsWhole) (hc0 : cond0_0 i) (hc1 : cond0_1 i)
    (x0 : Vec F S2x256x1024 .f32) (x1 : Vec F S4x1536 .f32) (x2 : Vec F S2x8x512 .f32) (x3 : Vec F S1x512 .f32) (x4 : Vec F S4x128x128 .f32) (x5 : Vec F S1x512 .f32) (x6 : Vec F S1x1024 .f32) (x7 : Vec F S1x1024 .f32) (x8 : Vec F S256x256 .bf16) (x9 : Vec F S4x256x256 .bf16) (x10 : Vec F S4x16x16 .bf16) (x11 : Vec F S256x256 .bf16) (fh0 : HbBuf0 (F := F) c hbM0_0) (fh1 : HbBuf0 (F := F) c hbM0_1) (fh2 : HbBuf0 (F := F) c hbM0_2) (fh3 : HbBuf0 (F := F) c hbM0_3)
    (fs2 : Buf (Elt F) (arg21.view.loc (c : Thread nD τ))) (fs5 : Buf (Elt F) (arg24.view.loc (c : Thread nD τ))) (fs6 : Buf (Elt F) (arg25.view.loc (c : Thread nD τ))) (fs7 : Buf (Elt F) (arg26.view.loc (c : Thread nD τ))) (fs8 : Buf (Elt F) (arg27.view.loc (c : Thread nD τ))) :
    Σ' (LS0 : List (View.Piece (Elt F) S2x4x128x128 .f32)), Σ' (LS1 : List (View.Piece (Elt F) S2x8x1536 .f32)), Σ' (LS3 : List (View.Piece (Elt F) S9x1024x512 .bf16)), { LS4 : List (View.Piece (Elt F) S8x1024 .f32) //
      ∀ (W : Waits sig Unit) (K : PUnit → sProp 𝕄),
        iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ owns (c : Thread nD τ) arg17 fullShare x11 ∗ (∃ d, owns (c : Thread nD τ) arg18 fullShare d) ∗ (∃ d, owns (c : Thread nD τ) arg19 fullShare d) ∗ (∃ d, owns (c : Thread nD τ) arg20 fullShare d) ∗ (arg21.view.loc (c : Thread nD τ) ↦[arg21.view.set]{fullShare} fs2) ∗ (∃ d, owns (c : Thread nD τ) arg22 fullShare d) ∗ (∃ d, owns (c : Thread nD τ) arg23 fullShare d) ∗ (arg24.view.loc (c : Thread nD τ) ↦[arg24.view.set]{fullShare} fs5) ∗ (arg25.view.loc (c : Thread nD τ) ↦[arg25.view.set]{fullShare} fs6) ∗ (arg26.view.loc (c : Thread nD τ) ↦[arg26.view.set]{fullShare} fs7) ∗ (arg27.view.loc (c : Thread nD τ) ↦[arg27.view.set]{fullShare} fs8) ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ owns (c : Thread nD τ) arg17 fullShare x11 ∗ (∃ d, owns (c : Thread nD τ) arg18 fullShare d) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ d, owns (c : Thread nD τ) arg21 fullShare d) ∗ (∃ f, arg22.view.loc (c : Thread nD τ) ↦[arg22.view.set]{fullShare} arg22.view.writes (Elt F) f LS3) ∗ (∃ f, arg23.view.loc (c : Thread nD τ) ↦[arg23.view.set]{fullShare} arg23.view.writes (Elt F) f LS4) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mixer_ln i arg2 harg2 (Memref.whole main_v13) (Memref.isWhole_whole _) arg4 harg4 arg5 harg5 arg6 harg6 (Memref.whole main_arg6) (Memref.isWhole_whole _) arg8 harg8 arg9 harg9 (Memref.whole main_arg9) (Memref.isWhole_whole _) (Memref.whole main_arg10) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 cc0_scratch9) K } := by
  refine ⟨?_, ?_, ?_, ?_, fun W K => ?run⟩
  case run =>
    simp only [cc0_mixer_ln_eq_skeleton]; unfold cc0_mixer_ln_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, HS2, ⟨%ds3, %fs3, -, HS3⟩, ⟨%ds4, %fs4, -, HS4⟩, HS5, HS6, HS7, HS8, Hq0, Hq1, Hq2, Hh0, Hh1, Hh2, Hh3, HW, Hk⟩
    obtain rfl := harg2.eq_unread hf0; obtain rfl := harg4.eq_unread hf1; obtain rfl := harg5.eq_unread hf2; obtain rfl := harg6.eq_unread hf3; obtain rfl := harg8.eq_unread hf4; obtain rfl := harg9.eq_unread hf5; obtain rfl := harg12.eq_unread hf6; obtain rfl := harg13.eq_unread hf7; obtain rfl := harg14.eq_unread hf8; obtain rfl := harg15.eq_unread hf9; obtain rfl := harg16.eq_unread hf10; obtain rfl := harg17.eq_unread hf11
    sl_exec_parts (disch := first | sl_exact hc0 | sl_exact hc1)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg12.read_unread _
      iexact H6
    isplitl [H7]
    · iexists _; isplitr; · ipureintro; exact harg13.read_unread _
      iexact H7
    isplitl [H8]
    · iexists _; isplitr; · ipureintro; exact harg14.read_unread _
      iexact H8
    isplitl [H9]
    · iexists _; isplitr; · ipureintro; exact harg15.read_unread _
      iexact H9
    isplitl [H10]
    · iexists _; isplitr; · ipureintro; exact harg16.read_unread _
      iexact H10
    isplitl [H11]
    · iexists _; isplitr; · ipureintro; exact harg17.read_unread _
      iexact H11
    isplitl [H12]
    · iexists _, _; isplitr; swap; · iexact H12
      ipureintro; rfl
    isplitl [HS0]; · iexists _; iexact HS0
    isplitl [HS1]; · iexists _; iexact HS1
    isplitl [HS2]
    · iexists _, _; isplitr; swap; · iexact HS2
      ipureintro; rfl
    isplitl [HS3]; · iexists _; iexact HS3
    isplitl [HS4]; · iexists _; iexact HS4
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    isplitl [Hh3]; · iexact Hh3
    iexists _; iexact HW

end Cert.Mix

end
-- ==== Proof.Mix.RunB.lean ====
module

public import proofs.«01_k».proof.Proof.Mix.Runs

@[expose] public section

/-! The run of the mixer body, case B. -/

-- membership in a rectangle of production extents (`View.cover_of_tiled`): the elaborator's structural look
-- recurses once per coordinate of the long axes
set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE B (`scf.if` 0 not taken, `scf.if` 1 not taken: points 1, 2, … 31: 28 of 32), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12) at anything, handed back at some contents nothing names. -/
noncomputable def kernelRun0_B (c : Dev nD) (i : grid0.Coords) (arg2 : Memref sig .tc .vmem S2x256x1024 .f32) (harg2 : arg2.IsWhole) (arg4 : Memref sig .tc .vmem S4x1536 .f32) (harg4 : arg4.IsWhole) (arg5 : Memref sig .tc .vmem S2x8x512 .f32) (harg5 : arg5.IsWhole) (arg6 : Memref sig .tc .vmem S1x512 .f32) (harg6 : arg6.IsWhole) (arg8 : Memref sig .tc .vmem S4x128x128 .f32) (harg8 : arg8.IsWhole) (arg9 : Memref sig .tc .vmem S1x512 .f32) (harg9 : arg9.IsWhole) (arg12 : Memref sig .tc .vmem S1x1024 .f32) (harg12 : arg12.IsWhole) (arg13 : Memref sig .tc .vmem S1x1024 .f32) (harg13 : arg13.IsWhole) (arg14 : Memref sig .tc .vmem S256x256 .bf16) (harg14 : arg14.IsWhole) (arg15 : Memref sig .tc .vmem S4x256x256 .bf16) (harg15 : arg15.IsWhole) (arg16 : Memref sig .tc .vmem S4x16x16 .bf16) (harg16 : arg16.IsWhole) (arg17 : Memref sig .tc .vmem S256x256 .bf16) (harg17 : arg17.IsWhole) (arg18 : Memref sig .tc .vmem S2x256x1024 .f32) (harg18 : arg18.IsWhole) (arg19 : Memref sig .tc .vmem S2x4x128x128 .f32) (harg19 : arg19.IsWhole) (arg20 : Memref sig .tc .vmem S2x8x1536 .f32) (harg20 : arg20.IsWhole) (arg21 : Memref sig .tc .vmem S2x16x512 .f32) (harg21 : arg21.IsWhole) (arg22 : Memref sig .tc .vmem S9x1024x512 .bf16) (harg22 : arg22.IsWhole) (arg23 : Memref sig .tc .vmem S8x1024 .f32) (harg23 : arg23.IsWhole) (arg24 : Memref sig .tc .vmem S2x512x512 .bf16) (harg24 : arg24.IsWhole) (arg25 : Memref sig .tc .vmem S2x512x512 .bf16) (harg25 : arg25.IsWhole) (arg26 : Memref sig .tc .vmem S2x1024x512 .bf16) (harg26 : arg26.IsWhole) (arg27 : Memref sig .tc .vmem S2x512x1024 .f32) (harg27 : arg27.IsWhole) (hc0 : ¬cond0_0 i) (hc1 : ¬cond0_1 i)
    (x0 : Vec F S2x256x1024 .f32) (x1 : Vec F S4x1536 .f32) (x2 : Vec F S2x8x512 .f32) (x3 : Vec F S1x512 .f32) (x4 : Vec F S4x128x128 .f32) (x5 : Vec F S1x512 .f32) (x6 : Vec F S1x1024 .f32) (x7 : Vec F S1x1024 .f32) (x8 : Vec F S256x256 .bf16) (x9 : Vec F S4x256x256 .bf16) (x10 : Vec F S4x16x16 .bf16) (x11 : Vec F S256x256 .bf16) (xs0 : Vec F S2x4x128x128 .f32) (xs1 : Vec F S2x8x1536 .f32) (xs3 : Vec F S9x1024x512 .bf16) (xs4 : Vec F S8x1024 .f32) (fh0 : HbBuf0 (F := F) c hbM0_0) (fh1 : HbBuf0 (F := F) c hbM0_1) (fh2 : HbBuf0 (F := F) c hbM0_2) (fh3 : HbBuf0 (F := F) c hbM0_3) :
    Σ' (LS0 : List (View.Piece (Elt F) S2x4x128x128 .f32)), Σ' (LS1 : List (View.Piece (Elt F) S2x8x1536 .f32)), Σ' (LS3 : List (View.Piece (Elt F) S9x1024x512 .bf16)), { LS4 : List (View.Piece (Elt F) S8x1024 .f32) //
      ∀ (W : Waits sig Unit) (K : PUnit → sProp 𝕄),
        iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ owns (c : Thread nD τ) arg17 fullShare x11 ∗ (∃ d, owns (c : Thread nD τ) arg18 fullShare d) ∗ owns (c : Thread nD τ) arg19 fullShare xs0 ∗ owns (c : Thread nD τ) arg20 fullShare xs1 ∗ (∃ d, owns (c : Thread nD τ) arg21 fullShare d) ∗ owns (c : Thread nD τ) arg22 fullShare xs3 ∗ owns (c : Thread nD τ) arg23 fullShare xs4 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ owns (c : Thread nD τ) arg17 fullShare x11 ∗ (∃ d, owns (c : Thread nD τ) arg18 fullShare d) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ d, owns (c : Thread nD τ) arg21 fullShare d) ∗ owns (c : Thread nD τ) arg22 fullShare xs3 ∗ owns (c : Thread nD τ) arg23 fullShare xs4 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mixer_ln i arg2 harg2 (Memref.whole main_v13) (Memref.isWhole_whole _) arg4 harg4 arg5 harg5 arg6 harg6 (Memref.whole main_arg6) (Memref.isWhole_whole _) arg8 harg8 arg9 harg9 (Memref.whole main_arg9) (Memref.isWhole_whole _) (Memref.whole main_arg10) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 cc0_scratch9) K } := by
  refine ⟨?_, ?_, [], [], fun W K => ?run⟩
  case run =>
    simp only [cc0_mixer_ln_eq_skeleton]; unfold cc0_mixer_ln_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, ⟨%ds2, %fs2, -, HS2⟩, ⟨%fs3, %hfs3, HS3⟩, ⟨%fs4, %hfs4, HS4⟩, ⟨%ds5, %fs5, -, HS5⟩, ⟨%ds6, %fs6, -, HS6⟩, ⟨%ds7, %fs7, -, HS7⟩, ⟨%ds8, %fs8, -, HS8⟩, Hq0, Hq1, Hq2, Hh0, Hh1, Hh2, Hh3, HW, Hk⟩
    obtain rfl := harg2.eq_unread hf0; obtain rfl := harg4.eq_unread hf1; obtain rfl := harg5.eq_unread hf2; obtain rfl := harg6.eq_unread hf3; obtain rfl := harg8.eq_unread hf4; obtain rfl := harg9.eq_unread hf5; obtain rfl := harg12.eq_unread hf6; obtain rfl := harg13.eq_unread hf7; obtain rfl := harg14.eq_unread hf8; obtain rfl := harg15.eq_unread hf9; obtain rfl := harg16.eq_unread hf10; obtain rfl := harg17.eq_unread hf11; obtain rfl := harg19.eq_unread hfs0; obtain rfl := harg20.eq_unread hfs1; obtain rfl := harg22.eq_unread hfs3; obtain rfl := harg23.eq_unread hfs4
    sl_exec_parts (disch := first | sl_exact hc0 | sl_exact hc1)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg12.read_unread _
      iexact H6
    isplitl [H7]
    · iexists _; isplitr; · ipureintro; exact harg13.read_unread _
      iexact H7
    isplitl [H8]
    · iexists _; isplitr; · ipureintro; exact harg14.read_unread _
      iexact H8
    isplitl [H9]
    · iexists _; isplitr; · ipureintro; exact harg15.read_unread _
      iexact H9
    isplitl [H10]
    · iexists _; isplitr; · ipureintro; exact harg16.read_unread _
      iexact H10
    isplitl [H11]
    · iexists _; isplitr; · ipureintro; exact harg17.read_unread _
      iexact H11
    isplitl [H12]
    · iexists _, _; isplitr; swap; · iexact H12
      ipureintro; rfl
    isplitl [HS0]; · iexists _; iexact HS0
    isplitl [HS1]; · iexists _; iexact HS1
    isplitl [HS2]
    · iexists _, _; isplitr; swap; · iexact HS2
      ipureintro; rfl
    isplitl [HS3]
    · iexists _; isplitr; · ipureintro; exact harg22.read_unread _
      iexact HS3
    isplitl [HS4]
    · iexists _; isplitr; · ipureintro; exact harg23.read_unread _
      iexact HS4
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    isplitl [Hh3]; · iexact Hh3
    iexists _; iexact HW

end Cert.Mix

end
-- ==== Proof.Mix.RunC.lean ====
module

public import proofs.«01_k».proof.Proof.Mix.Runs

@[expose] public section

/-! The run of the mixer body, case C. -/

-- membership in a rectangle of production extents (`View.cover_of_tiled`): the elaborator's structural look
-- recurses once per coordinate of the long axes
set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE C (`scf.if` 0 not taken, `scf.if` 1 taken: points 8, 16, 24), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (12) at anything, handed back at some contents nothing names. -/
noncomputable def kernelRun0_C (c : Dev nD) (i : grid0.Coords) (arg2 : Memref sig .tc .vmem S2x256x1024 .f32) (harg2 : arg2.IsWhole) (arg4 : Memref sig .tc .vmem S4x1536 .f32) (harg4 : arg4.IsWhole) (arg5 : Memref sig .tc .vmem S2x8x512 .f32) (harg5 : arg5.IsWhole) (arg6 : Memref sig .tc .vmem S1x512 .f32) (harg6 : arg6.IsWhole) (arg8 : Memref sig .tc .vmem S4x128x128 .f32) (harg8 : arg8.IsWhole) (arg9 : Memref sig .tc .vmem S1x512 .f32) (harg9 : arg9.IsWhole) (arg12 : Memref sig .tc .vmem S1x1024 .f32) (harg12 : arg12.IsWhole) (arg13 : Memref sig .tc .vmem S1x1024 .f32) (harg13 : arg13.IsWhole) (arg14 : Memref sig .tc .vmem S256x256 .bf16) (harg14 : arg14.IsWhole) (arg15 : Memref sig .tc .vmem S4x256x256 .bf16) (harg15 : arg15.IsWhole) (arg16 : Memref sig .tc .vmem S4x16x16 .bf16) (harg16 : arg16.IsWhole) (arg17 : Memref sig .tc .vmem S256x256 .bf16) (harg17 : arg17.IsWhole) (arg18 : Memref sig .tc .vmem S2x256x1024 .f32) (harg18 : arg18.IsWhole) (arg19 : Memref sig .tc .vmem S2x4x128x128 .f32) (harg19 : arg19.IsWhole) (arg20 : Memref sig .tc .vmem S2x8x1536 .f32) (harg20 : arg20.IsWhole) (arg21 : Memref sig .tc .vmem S2x16x512 .f32) (harg21 : arg21.IsWhole) (arg22 : Memref sig .tc .vmem S9x1024x512 .bf16) (harg22 : arg22.IsWhole) (arg23 : Memref sig .tc .vmem S8x1024 .f32) (harg23 : arg23.IsWhole) (arg24 : Memref sig .tc .vmem S2x512x512 .bf16) (harg24 : arg24.IsWhole) (arg25 : Memref sig .tc .vmem S2x512x512 .bf16) (harg25 : arg25.IsWhole) (arg26 : Memref sig .tc .vmem S2x1024x512 .bf16) (harg26 : arg26.IsWhole) (arg27 : Memref sig .tc .vmem S2x512x1024 .f32) (harg27 : arg27.IsWhole) (hc0 : ¬cond0_0 i) (hc1 : cond0_1 i)
    (x0 : Vec F S2x256x1024 .f32) (x1 : Vec F S4x1536 .f32) (x2 : Vec F S2x8x512 .f32) (x3 : Vec F S1x512 .f32) (x4 : Vec F S4x128x128 .f32) (x5 : Vec F S1x512 .f32) (x6 : Vec F S1x1024 .f32) (x7 : Vec F S1x1024 .f32) (x8 : Vec F S256x256 .bf16) (x9 : Vec F S4x256x256 .bf16) (x10 : Vec F S4x16x16 .bf16) (x11 : Vec F S256x256 .bf16) (xs3 : Vec F S9x1024x512 .bf16) (xs4 : Vec F S8x1024 .f32) (fh0 : HbBuf0 (F := F) c hbM0_0) (fh1 : HbBuf0 (F := F) c hbM0_1) (fh2 : HbBuf0 (F := F) c hbM0_2) (fh3 : HbBuf0 (F := F) c hbM0_3) :
    Σ' (LS0 : List (View.Piece (Elt F) S2x4x128x128 .f32)), Σ' (LS1 : List (View.Piece (Elt F) S2x8x1536 .f32)), Σ' (LS3 : List (View.Piece (Elt F) S9x1024x512 .bf16)), { LS4 : List (View.Piece (Elt F) S8x1024 .f32) //
      ∀ (W : Waits sig Unit) (K : PUnit → sProp 𝕄),
        iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ owns (c : Thread nD τ) arg17 fullShare x11 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xs3 ∗ owns (c : Thread nD τ) arg23 fullShare xs4 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ owns (c : Thread nD τ) arg17 fullShare x11 ∗ (∃ d, owns (c : Thread nD τ) arg18 fullShare d) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1) ∗ (∃ d, owns (c : Thread nD τ) arg21 fullShare d) ∗ owns (c : Thread nD τ) arg22 fullShare xs3 ∗ owns (c : Thread nD τ) arg23 fullShare xs4 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mixer_ln i arg2 harg2 (Memref.whole main_v13) (Memref.isWhole_whole _) arg4 harg4 arg5 harg5 arg6 harg6 (Memref.whole main_arg6) (Memref.isWhole_whole _) arg8 harg8 arg9 harg9 (Memref.whole main_arg9) (Memref.isWhole_whole _) (Memref.whole main_arg10) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 cc0_scratch9) K } := by
  refine ⟨?_, ?_, [], [], fun W K => ?run⟩
  case run =>
    simp only [cc0_mixer_ln_eq_skeleton]; unfold cc0_mixer_ln_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds0, %fs0, -, HS0⟩, ⟨%ds1, %fs1, -, HS1⟩, ⟨%ds2, %fs2, -, HS2⟩, ⟨%fs3, %hfs3, HS3⟩, ⟨%fs4, %hfs4, HS4⟩, ⟨%ds5, %fs5, -, HS5⟩, ⟨%ds6, %fs6, -, HS6⟩, ⟨%ds7, %fs7, -, HS7⟩, ⟨%ds8, %fs8, -, HS8⟩, Hq0, Hq1, Hq2, Hh0, Hh1, Hh2, Hh3, HW, Hk⟩
    obtain rfl := harg2.eq_unread hf0; obtain rfl := harg4.eq_unread hf1; obtain rfl := harg5.eq_unread hf2; obtain rfl := harg6.eq_unread hf3; obtain rfl := harg8.eq_unread hf4; obtain rfl := harg9.eq_unread hf5; obtain rfl := harg12.eq_unread hf6; obtain rfl := harg13.eq_unread hf7; obtain rfl := harg14.eq_unread hf8; obtain rfl := harg15.eq_unread hf9; obtain rfl := harg16.eq_unread hf10; obtain rfl := harg17.eq_unread hf11; obtain rfl := harg22.eq_unread hfs3; obtain rfl := harg23.eq_unread hfs4
    sl_exec_parts (disch := first | sl_exact hc0 | sl_exact hc1)
    sl_step
    iapply Hk
    isplitl [H0]
    · iexists _; isplitr; · ipureintro; exact harg2.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg12.read_unread _
      iexact H6
    isplitl [H7]
    · iexists _; isplitr; · ipureintro; exact harg13.read_unread _
      iexact H7
    isplitl [H8]
    · iexists _; isplitr; · ipureintro; exact harg14.read_unread _
      iexact H8
    isplitl [H9]
    · iexists _; isplitr; · ipureintro; exact harg15.read_unread _
      iexact H9
    isplitl [H10]
    · iexists _; isplitr; · ipureintro; exact harg16.read_unread _
      iexact H10
    isplitl [H11]
    · iexists _; isplitr; · ipureintro; exact harg17.read_unread _
      iexact H11
    isplitl [H12]
    · iexists _, _; isplitr; swap; · iexact H12
      ipureintro; rfl
    isplitl [HS0]; · iexists _; iexact HS0
    isplitl [HS1]; · iexists _; iexact HS1
    isplitl [HS2]
    · iexists _, _; isplitr; swap; · iexact HS2
      ipureintro; rfl
    isplitl [HS3]
    · iexists _; isplitr; · ipureintro; exact harg22.read_unread _
      iexact HS3
    isplitl [HS4]
    · iexists _; isplitr; · ipureintro; exact harg23.read_unread _
      iexact HS4
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    isplitl [Hh3]; · iexact Hh3
    iexists _; iexact HW

end Cert.Mix

end
-- ==== Proof.Mix.Weak.lean ====
module

public import proofs.«01_k».proof.Proof.Mix.RunA
public import proofs.«01_k».proof.Proof.Mix.RunB
public import proofs.«01_k».proof.Proof.Mix.RunC

@[expose] public section

/-! The mixer body at a point, from any contents of its scratch: the carried scratch and the copies' staging buffers may hold
anything before the point and hold something after it. -/

-- membership in a rectangle of production extents (`View.cover_of_tiled`): the elaborator's structural look
-- recurses once per coordinate of the long axes
set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the first point of all. -/
theorem body_A (c : Dev nD) (i : grid0.Coords) (arg2 : Memref sig .tc .vmem S2x256x1024 .f32) (harg2 : arg2.IsWhole) (arg4 : Memref sig .tc .vmem S4x1536 .f32) (harg4 : arg4.IsWhole) (arg5 : Memref sig .tc .vmem S2x8x512 .f32) (harg5 : arg5.IsWhole) (arg6 : Memref sig .tc .vmem S1x512 .f32) (harg6 : arg6.IsWhole) (arg8 : Memref sig .tc .vmem S4x128x128 .f32) (harg8 : arg8.IsWhole) (arg9 : Memref sig .tc .vmem S1x512 .f32) (harg9 : arg9.IsWhole) (arg12 : Memref sig .tc .vmem S1x1024 .f32) (harg12 : arg12.IsWhole) (arg13 : Memref sig .tc .vmem S1x1024 .f32) (harg13 : arg13.IsWhole) (arg14 : Memref sig .tc .vmem S256x256 .bf16) (harg14 : arg14.IsWhole) (arg15 : Memref sig .tc .vmem S4x256x256 .bf16) (harg15 : arg15.IsWhole) (arg16 : Memref sig .tc .vmem S4x16x16 .bf16) (harg16 : arg16.IsWhole) (arg17 : Memref sig .tc .vmem S256x256 .bf16) (harg17 : arg17.IsWhole) (arg18 : Memref sig .tc .vmem S2x256x1024 .f32) (harg18 : arg18.IsWhole) (arg19 : Memref sig .tc .vmem S2x4x128x128 .f32) (harg19 : arg19.IsWhole) (arg20 : Memref sig .tc .vmem S2x8x1536 .f32) (harg20 : arg20.IsWhole) (arg21 : Memref sig .tc .vmem S2x16x512 .f32) (harg21 : arg21.IsWhole) (arg22 : Memref sig .tc .vmem S9x1024x512 .bf16) (harg22 : arg22.IsWhole) (arg23 : Memref sig .tc .vmem S8x1024 .f32) (harg23 : arg23.IsWhole) (arg24 : Memref sig .tc .vmem S2x512x512 .bf16) (harg24 : arg24.IsWhole) (arg25 : Memref sig .tc .vmem S2x512x512 .bf16) (harg25 : arg25.IsWhole) (arg26 : Memref sig .tc .vmem S2x1024x512 .bf16) (harg26 : arg26.IsWhole) (arg27 : Memref sig .tc .vmem S2x512x1024 .f32) (harg27 : arg27.IsWhole) (hc0 : cond0_0 i) (hc1 : cond0_1 i)
    (x0 : Vec F S2x256x1024 .f32) (x1 : Vec F S4x1536 .f32) (x2 : Vec F S2x8x512 .f32) (x3 : Vec F S1x512 .f32) (x4 : Vec F S4x128x128 .f32) (x5 : Vec F S1x512 .f32) (x6 : Vec F S1x1024 .f32) (x7 : Vec F S1x1024 .f32) (x8 : Vec F S256x256 .bf16) (x9 : Vec F S4x256x256 .bf16) (x10 : Vec F S4x16x16 .bf16) (x11 : Vec F S256x256 .bf16) (fh0 : HbBuf0 (F := F) c hbM0_0) (fh1 : HbBuf0 (F := F) c hbM0_1) (fh2 : HbBuf0 (F := F) c hbM0_2) (fh3 : HbBuf0 (F := F) c hbM0_3)
    (W : Waits sig Unit) (K : PUnit → sProp 𝕄) :
    iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ owns (c : Thread nD τ) arg17 fullShare x11 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ owes (c : Thread nD τ) 0 W
      ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ owns (c : Thread nD τ) arg17 fullShare x11 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
      ⊢ wp frame (wpE (defs₀ (F := F)) Variants.none c none) Set.univ (cc0_mixer_ln i arg2 harg2 (Memref.whole main_v13) (Memref.isWhole_whole _) arg4 harg4 arg5 harg5 arg6 harg6 (Memref.whole main_arg6) (Memref.isWhole_whole _) arg8 harg8 arg9 harg9 (Memref.whole main_arg9) (Memref.isWhole_whole _) (Memref.whole main_arg10) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 cc0_scratch9) K := by
  iintro ⟨H0, H1, H2, H3, H4, H5, H6, H7, H8, H9, H10, H11, H12, HS0, HS1, ⟨%d2, HS2⟩, HS3, HS4, ⟨%d5, HS5⟩, ⟨%d6, HS6⟩, ⟨%d7, HS7⟩, ⟨%d8, HS8⟩, Hq0, Hq1, Hq2, Hh0, Hh1, Hh2, Hh3, HW, Hk⟩
  unfold owns
  icases HS2 with ⟨%fs2, -, HS2⟩
  icases HS5 with ⟨%fs5, -, HS5⟩
  icases HS6 with ⟨%fs6, -, HS6⟩
  icases HS7 with ⟨%fs7, -, HS7⟩
  icases HS8 with ⟨%fs8, -, HS8⟩
  have h := (kernelRun0_Ax c i arg2 harg2 arg4 harg4 arg5 harg5 arg6 harg6 arg8 harg8 arg9 harg9 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 fh0 fh1 fh2 fh3 fs2 fs5 fs6 fs7 fs8).2.2.2.2 W K
  unfold owns at h
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, H8, H9, H10, H11, H12, ⟨%e0, HS0⟩, ⟨%e1, HS1⟩, HS2, ⟨%e3, HS3⟩, ⟨%e4, HS4⟩, HS5, HS6, HS7, HS8, Hq0, Hq1, Hq2, Hh0, Hh1, Hh2, Hh3, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]
  · iexists _, _; isplitr; swap; · iexact HS0
    ipureintro; rfl
  isplitl [HS1]
  · iexists _, _; isplitr; swap; · iexact HS1
    ipureintro; rfl
  isplitl [HS2]; · iexact HS2
  isplitl [HS3]
  · iexists _, _; isplitr; swap; · iexact HS3
    ipureintro; rfl
  isplitl [HS4]
  · iexists _, _; isplitr; swap; · iexact HS4
    ipureintro; rfl
  isplitl [HS5]; · iexact HS5
  isplitl [HS6]; · iexact HS6
  isplitl [HS7]; · iexact HS7
  isplitl [HS8]; · iexact HS8
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  iexact HW

set_option maxHeartbeats 1000000 in
/-- The body at a point inside a sequence. -/
theorem body_B (c : Dev nD) (i : grid0.Coords) (arg2 : Memref sig .tc .vmem S2x256x1024 .f32) (harg2 : arg2.IsWhole) (arg4 : Memref sig .tc .vmem S4x1536 .f32) (harg4 : arg4.IsWhole) (arg5 : Memref sig .tc .vmem S2x8x512 .f32) (harg5 : arg5.IsWhole) (arg6 : Memref sig .tc .vmem S1x512 .f32) (harg6 : arg6.IsWhole) (arg8 : Memref sig .tc .vmem S4x128x128 .f32) (harg8 : arg8.IsWhole) (arg9 : Memref sig .tc .vmem S1x512 .f32) (harg9 : arg9.IsWhole) (arg12 : Memref sig .tc .vmem S1x1024 .f32) (harg12 : arg12.IsWhole) (arg13 : Memref sig .tc .vmem S1x1024 .f32) (harg13 : arg13.IsWhole) (arg14 : Memref sig .tc .vmem S256x256 .bf16) (harg14 : arg14.IsWhole) (arg15 : Memref sig .tc .vmem S4x256x256 .bf16) (harg15 : arg15.IsWhole) (arg16 : Memref sig .tc .vmem S4x16x16 .bf16) (harg16 : arg16.IsWhole) (arg17 : Memref sig .tc .vmem S256x256 .bf16) (harg17 : arg17.IsWhole) (arg18 : Memref sig .tc .vmem S2x256x1024 .f32) (harg18 : arg18.IsWhole) (arg19 : Memref sig .tc .vmem S2x4x128x128 .f32) (harg19 : arg19.IsWhole) (arg20 : Memref sig .tc .vmem S2x8x1536 .f32) (harg20 : arg20.IsWhole) (arg21 : Memref sig .tc .vmem S2x16x512 .f32) (harg21 : arg21.IsWhole) (arg22 : Memref sig .tc .vmem S9x1024x512 .bf16) (harg22 : arg22.IsWhole) (arg23 : Memref sig .tc .vmem S8x1024 .f32) (harg23 : arg23.IsWhole) (arg24 : Memref sig .tc .vmem S2x512x512 .bf16) (harg24 : arg24.IsWhole) (arg25 : Memref sig .tc .vmem S2x512x512 .bf16) (harg25 : arg25.IsWhole) (arg26 : Memref sig .tc .vmem S2x1024x512 .bf16) (harg26 : arg26.IsWhole) (arg27 : Memref sig .tc .vmem S2x512x1024 .f32) (harg27 : arg27.IsWhole) (hc0 : ¬cond0_0 i) (hc1 : ¬cond0_1 i)
    (x0 : Vec F S2x256x1024 .f32) (x1 : Vec F S4x1536 .f32) (x2 : Vec F S2x8x512 .f32) (x3 : Vec F S1x512 .f32) (x4 : Vec F S4x128x128 .f32) (x5 : Vec F S1x512 .f32) (x6 : Vec F S1x1024 .f32) (x7 : Vec F S1x1024 .f32) (x8 : Vec F S256x256 .bf16) (x9 : Vec F S4x256x256 .bf16) (x10 : Vec F S4x16x16 .bf16) (x11 : Vec F S256x256 .bf16) (fh0 : HbBuf0 (F := F) c hbM0_0) (fh1 : HbBuf0 (F := F) c hbM0_1) (fh2 : HbBuf0 (F := F) c hbM0_2) (fh3 : HbBuf0 (F := F) c hbM0_3)
    (W : Waits sig Unit) (K : PUnit → sProp 𝕄) :
    iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ owns (c : Thread nD τ) arg17 fullShare x11 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ owes (c : Thread nD τ) 0 W
      ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ owns (c : Thread nD τ) arg17 fullShare x11 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
      ⊢ wp frame (wpE (defs₀ (F := F)) Variants.none c none) Set.univ (cc0_mixer_ln i arg2 harg2 (Memref.whole main_v13) (Memref.isWhole_whole _) arg4 harg4 arg5 harg5 arg6 harg6 (Memref.whole main_arg6) (Memref.isWhole_whole _) arg8 harg8 arg9 harg9 (Memref.whole main_arg9) (Memref.isWhole_whole _) (Memref.whole main_arg10) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 cc0_scratch9) K := by
  iintro ⟨H0, H1, H2, H3, H4, H5, H6, H7, H8, H9, H10, H11, H12, ⟨%d0, HS0⟩, ⟨%d1, HS1⟩, HS2, ⟨%d3, HS3⟩, ⟨%d4, HS4⟩, HS5, HS6, HS7, HS8, Hq0, Hq1, Hq2, Hh0, Hh1, Hh2, Hh3, HW, Hk⟩
  have h := (kernelRun0_B c i arg2 harg2 arg4 harg4 arg5 harg5 arg6 harg6 arg8 harg8 arg9 harg9 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 d0 d1 d3 d4 fh0 fh1 fh2 fh3).2.2.2.2 W K
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, H8, H9, H10, H11, H12, ⟨%e0, HS0⟩, ⟨%e1, HS1⟩, HS2, HS3, HS4, HS5, HS6, HS7, HS8, Hq0, Hq1, Hq2, Hh0, Hh1, Hh2, Hh3, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]
  · unfold owns; iexists _, _; isplitr; swap; · iexact HS0
    ipureintro; rfl
  isplitl [HS1]
  · unfold owns; iexists _, _; isplitr; swap; · iexact HS1
    ipureintro; rfl
  isplitl [HS2]; · iexact HS2
  isplitl [HS3]; · iexists _; iexact HS3
  isplitl [HS4]; · iexists _; iexact HS4
  isplitl [HS5]; · iexact HS5
  isplitl [HS6]; · iexact HS6
  isplitl [HS7]; · iexact HS7
  isplitl [HS8]; · iexact HS8
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  iexact HW

set_option maxHeartbeats 1000000 in
/-- The body at the first point of a later pair of sequences. -/
theorem body_C (c : Dev nD) (i : grid0.Coords) (arg2 : Memref sig .tc .vmem S2x256x1024 .f32) (harg2 : arg2.IsWhole) (arg4 : Memref sig .tc .vmem S4x1536 .f32) (harg4 : arg4.IsWhole) (arg5 : Memref sig .tc .vmem S2x8x512 .f32) (harg5 : arg5.IsWhole) (arg6 : Memref sig .tc .vmem S1x512 .f32) (harg6 : arg6.IsWhole) (arg8 : Memref sig .tc .vmem S4x128x128 .f32) (harg8 : arg8.IsWhole) (arg9 : Memref sig .tc .vmem S1x512 .f32) (harg9 : arg9.IsWhole) (arg12 : Memref sig .tc .vmem S1x1024 .f32) (harg12 : arg12.IsWhole) (arg13 : Memref sig .tc .vmem S1x1024 .f32) (harg13 : arg13.IsWhole) (arg14 : Memref sig .tc .vmem S256x256 .bf16) (harg14 : arg14.IsWhole) (arg15 : Memref sig .tc .vmem S4x256x256 .bf16) (harg15 : arg15.IsWhole) (arg16 : Memref sig .tc .vmem S4x16x16 .bf16) (harg16 : arg16.IsWhole) (arg17 : Memref sig .tc .vmem S256x256 .bf16) (harg17 : arg17.IsWhole) (arg18 : Memref sig .tc .vmem S2x256x1024 .f32) (harg18 : arg18.IsWhole) (arg19 : Memref sig .tc .vmem S2x4x128x128 .f32) (harg19 : arg19.IsWhole) (arg20 : Memref sig .tc .vmem S2x8x1536 .f32) (harg20 : arg20.IsWhole) (arg21 : Memref sig .tc .vmem S2x16x512 .f32) (harg21 : arg21.IsWhole) (arg22 : Memref sig .tc .vmem S9x1024x512 .bf16) (harg22 : arg22.IsWhole) (arg23 : Memref sig .tc .vmem S8x1024 .f32) (harg23 : arg23.IsWhole) (arg24 : Memref sig .tc .vmem S2x512x512 .bf16) (harg24 : arg24.IsWhole) (arg25 : Memref sig .tc .vmem S2x512x512 .bf16) (harg25 : arg25.IsWhole) (arg26 : Memref sig .tc .vmem S2x1024x512 .bf16) (harg26 : arg26.IsWhole) (arg27 : Memref sig .tc .vmem S2x512x1024 .f32) (harg27 : arg27.IsWhole) (hc0 : ¬cond0_0 i) (hc1 : cond0_1 i)
    (x0 : Vec F S2x256x1024 .f32) (x1 : Vec F S4x1536 .f32) (x2 : Vec F S2x8x512 .f32) (x3 : Vec F S1x512 .f32) (x4 : Vec F S4x128x128 .f32) (x5 : Vec F S1x512 .f32) (x6 : Vec F S1x1024 .f32) (x7 : Vec F S1x1024 .f32) (x8 : Vec F S256x256 .bf16) (x9 : Vec F S4x256x256 .bf16) (x10 : Vec F S4x16x16 .bf16) (x11 : Vec F S256x256 .bf16) (fh0 : HbBuf0 (F := F) c hbM0_0) (fh1 : HbBuf0 (F := F) c hbM0_1) (fh2 : HbBuf0 (F := F) c hbM0_2) (fh3 : HbBuf0 (F := F) c hbM0_3)
    (W : Waits sig Unit) (K : PUnit → sProp 𝕄) :
    iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ owns (c : Thread nD τ) arg17 fullShare x11 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ owes (c : Thread nD τ) 0 W
      ∗ (iprop(owns (c : Thread nD τ) arg2 fullShare x0 ∗ owns (c : Thread nD τ) arg4 fullShare x1 ∗ owns (c : Thread nD τ) arg5 fullShare x2 ∗ owns (c : Thread nD τ) arg6 fullShare x3 ∗ owns (c : Thread nD τ) arg8 fullShare x4 ∗ owns (c : Thread nD τ) arg9 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ owns (c : Thread nD τ) arg17 fullShare x11 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ semVal ((c : Thread nD τ), SemLoc.dma 15) 0 ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
      ⊢ wp frame (wpE (defs₀ (F := F)) Variants.none c none) Set.univ (cc0_mixer_ln i arg2 harg2 (Memref.whole main_v13) (Memref.isWhole_whole _) arg4 harg4 arg5 harg5 arg6 harg6 (Memref.whole main_arg6) (Memref.isWhole_whole _) arg8 harg8 arg9 harg9 (Memref.whole main_arg9) (Memref.isWhole_whole _) (Memref.whole main_arg10) (Memref.isWhole_whole _) arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 cc0_scratch9) K := by
  iintro ⟨H0, H1, H2, H3, H4, H5, H6, H7, H8, H9, H10, H11, H12, HS0, HS1, HS2, ⟨%d3, HS3⟩, ⟨%d4, HS4⟩, HS5, HS6, HS7, HS8, Hq0, Hq1, Hq2, Hh0, Hh1, Hh2, Hh3, HW, Hk⟩
  have h := (kernelRun0_C c i arg2 harg2 arg4 harg4 arg5 harg5 arg6 harg6 arg8 harg8 arg9 harg9 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 x0 x1 x2 x3 x4 x5 x6 x7 x8 x9 x10 x11 d3 d4 fh0 fh1 fh2 fh3).2.2.2.2 W K
  iapply h
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, H8, H9, H10, H11, H12, ⟨%e0, HS0⟩, ⟨%e1, HS1⟩, HS2, HS3, HS4, HS5, HS6, HS7, HS8, Hq0, Hq1, Hq2, Hh0, Hh1, Hh2, Hh3, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]
  · unfold owns; iexists _, _; isplitr; swap; · iexact HS0
    ipureintro; rfl
  isplitl [HS1]
  · unfold owns; iexists _, _; isplitr; swap; · iexact HS1
    ipureintro; rfl
  isplitl [HS2]; · iexact HS2
  isplitl [HS3]; · iexists _; iexact HS3
  isplitl [HS4]; · iexists _; iexact HS4
  isplitl [HS5]; · iexact HS5
  isplitl [HS6]; · iexact HS6
  isplitl [HS7]; · iexact HS7
  isplitl [HS8]; · iexact HS8
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  iexact HW

end Cert.Mix

end
-- ==== Proof.Mix.Frame.lean ====
module

public import proofs.«01_k».proof.Proof.Mix.Weak
public import Idealize.ShloMosaic.Lib.Claim

@[expose] public section

/-! The run of the mixer call. Nothing is kept of what the body computes: the invariant between points holds every scratch
buffer at some contents, the copies' semaphores at zero and the weights left in HBM as they were, and is the same at every
point; the output window is forgotten. That is enough for the frame. -/

-- membership in a rectangle of production extents (`View.cover_of_tiled`): the elaborator's structural look
-- recurses once per coordinate of the long axes
set_option maxRecDepth 16384

noncomputable section

namespace Cert.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pipeline's proof data -/

/-- The output windows this certificate FORGETS (12): nothing reads what the kernel leaves in them, so nothing
    of it is named (Lib/Pipeline/Dat.lean `Dat.toRForget`). -/
def forgets0 : Fin 13 → Bool := fun w => w.val == 12

/-- The proof data of the pipeline on core `c`: each input's buffer at its block, the output forgotten, the invariant
    that holds between any two points, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d))

set_option maxHeartbeats 2000000 in
/-- The body at any point: the inputs' buffers hold their blocks, and the invariant hands over and takes back the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.castSucc = Pipeline.ΦD osem0 spec0 H0 (V m) c from rfl, show (dats m 0 c).Φ t.succ = Pipeline.ΦD osem0 spec0 H0 (V m) c from rfl, PhiD0_eq,
    after0_0, after0_1, after0_2, after0_3, after0_4, after0_5, after0_6, after0_7, after0_8, after0_9, after0_10, after0_11]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 8 = 0
    · iintro ⟨⟨⟨HS0, HS1, HS2, HS3, HS4, HS5, HS6, HS7, HS8⟩, Hg, ⟨Hq0, Hq1, Hq2⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_A c (grid0.coords t) _ _ _ _ _ _ _ _ _ _ _ _ _ _ _ _ _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v13) (V m c main_arg6) (V m c main_arg9) (V m c main_arg10) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      isplitl [Hh3]; · iexact Hh3
      isplitl [HW]; · iexact HW
      iintro ⟨H0, H1, H2, H3, H4, H5, H6, H7, H8, H9, H10, H11, H12, HS0, HS1, HS2, HS3, HS4, HS5, HS6, HS7, HS8, Hq0, Hq1, Hq2, Hh0, Hh1, Hh2, Hh3, ⟨%W', HW'⟩⟩
      isplitl [HS0 HS1 HS2 HS3 HS4 HS5 HS6 HS7 HS8 Hg Hq0 Hq1 Hq2 Hh0 Hh1 Hh2 Hh3]
      · isplitl [HS0 HS1 HS2 HS3 HS4 HS5 HS6 HS7 HS8]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        isplitl [Hg]; · iexact Hg
        isplitl [Hq0 Hq1 Hq2]
        · isplitl [Hq0]; · iexact Hq0
          isplitl [Hq1]; · iexact Hq1
          iexact Hq2
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · exact absurd h1 (by omega)
  · by_cases h1 : t.val % 8 = 0
    · iintro ⟨⟨⟨HS0, HS1, HS2, HS3, HS4, HS5, HS6, HS7, HS8⟩, Hg, ⟨Hq0, Hq1, Hq2⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_C c (grid0.coords t) _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v13) (V m c main_arg6) (V m c main_arg9) (V m c main_arg10) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      isplitl [Hh3]; · iexact Hh3
      isplitl [HW]; · iexact HW
      iintro ⟨H0, H1, H2, H3, H4, H5, H6, H7, H8, H9, H10, H11, H12, HS0, HS1, HS2, HS3, HS4, HS5, HS6, HS7, HS8, Hq0, Hq1, Hq2, Hh0, Hh1, Hh2, Hh3, ⟨%W', HW'⟩⟩
      isplitl [HS0 HS1 HS2 HS3 HS4 HS5 HS6 HS7 HS8 Hg Hq0 Hq1 Hq2 Hh0 Hh1 Hh2 Hh3]
      · isplitl [HS0 HS1 HS2 HS3 HS4 HS5 HS6 HS7 HS8]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        isplitl [Hg]; · iexact Hg
        isplitl [Hq0 Hq1 Hq2]
        · isplitl [Hq0]; · iexact Hq0
          isplitl [Hq1]; · iexact Hq1
          iexact Hq2
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · iintro ⟨⟨⟨HS0, HS1, HS2, HS3, HS4, HS5, HS6, HS7, HS8⟩, Hg, ⟨Hq0, Hq1, Hq2⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (body_B c (grid0.coords t) _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_v13) (V m c main_arg6) (V m c main_arg9) (V m c main_arg10) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [Hq0]; · iexact Hq0
      isplitl [Hq1]; · iexact Hq1
      isplitl [Hq2]; · iexact Hq2
      isplitl [Hh0]; · iexact Hh0
      isplitl [Hh1]; · iexact Hh1
      isplitl [Hh2]; · iexact Hh2
      isplitl [Hh3]; · iexact Hh3
      isplitl [HW]; · iexact HW
      iintro ⟨H0, H1, H2, H3, H4, H5, H6, H7, H8, H9, H10, H11, H12, HS0, HS1, HS2, HS3, HS4, HS5, HS6, HS7, HS8, Hq0, Hq1, Hq2, Hh0, Hh1, Hh2, Hh3, ⟨%W', HW'⟩⟩
      isplitl [HS0 HS1 HS2 HS3 HS4 HS5 HS6 HS7 HS8 Hg Hq0 Hq1 Hq2 Hh0 Hh1 Hh2 Hh3]
      · isplitl [HS0 HS1 HS2 HS3 HS4 HS5 HS6 HS7 HS8]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          iexact HS8
        isplitl [Hg]; · iexact Hg
        isplitl [Hq0 Hq1 Hq2]
        · isplitl [Hq0]; · iexact Hq0
          isplitl [Hq1]; · iexact Hq1
          iexact Hq2
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (window 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (fun c => (dats m 0 c).toRForget forgets0) (A_eq m) (run_main m ρ)

/-- The mixer program terminates with its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Mix

end
-- ==== Proof.Mix.Claims.lean ====
module

public import proofs.«01_k».proof.Proof.Mix.Frame
public import proofs.«01_k».proof.Defs
public import proofs.«01_k».proof.Proof.Gen.Kernel

@[expose] public section

/-! The claims about the mixer call: its frames. -/

set_option maxRecDepth 16384

noncomputable section

namespace Cert.Mix.Claims

open Idealize.ShloMosaic Idealize.ShloMosaic.TcCoe Idealize.SL.Sem

instance : Cert.Kernel.Facts := Cert.Kernel.Gen.facts
instance : Cert.KernelIdeal.Facts := Cert.KernelIdeal.Gen.facts

/-- The two printed kernels have the same table of bodies: no rewrite was applied, and each table's
one body is the same program. -/
theorem defs₀_eq : Cert.Kernel.defs₀ (F := Bits) = Cert.KernelIdeal.defs₀ (F := Bits) := by
  funext pr l a
  cases pr with
  | scScalar _ => rfl
  | scVector _ _ => rfl
  | tc =>
    match l, a with
    | ⟨0, _⟩, (_, _) => rfl

/-- So the same table with the pipeline's regions added. -/
theorem defs_eq : Cert.Kernel.defs (F := Bits) = Cert.KernelIdeal.defs (F := Bits) :=
  congrArg (Pipeline.defs (Cert.KernelIdeal.pcfgs (F := Bits))) defs₀_eq

set_option maxHeartbeats 2000000 in
/-- The compiled program's frame: its text is the ideal program's, run over the machine's numbers. -/
theorem frame_kernel : Cert.quiescent_Kernel := fun m ρ _ => by
  have h := Cert.Mix.frame (F := Bits) m ρ
  rw [← defs_eq] at h
  exact h

theorem frame_ideal : Cert.quiescent_KernelIdeal := fun m ρ _ => Cert.Mix.frame (F := Ideal) m ρ

end Cert.Mix.Claims

end
-- ==== Proof.lean ====
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_finite
public import proofs.«01_k».proof.Proof.Ffn.Claims
public import proofs.«01_k».proof.Proof.Mix.Claims

@[expose] public section

noncomputable section

namespace Cert.Proof

open Idealize.ShloMosaic Idealize.SL.Sem

theorem claim : Cert.Claim :=
  ⟨Cert.Kernel.Gen.facts, Cert.KernelIdeal.Gen.facts, Cert.Kernel2.Gen.facts, Cert.Kernel2Ideal.Gen.facts, Cert.Reference2Ideal.Gen.facts, Cert.Pre_finite.Gen.facts,
    Mix.Claims.frame_kernel, Mix.Claims.frame_ideal,
    Ffn.Claims.frame_kernel, Ffn.Claims.frame_ideal, Ffn.Claims.frame_ideal_pre, Ffn.Claims.frame_reference, Ffn.Claims.frame_reference_pre,
    trivial, trivial, Ffn.Claims.algebraic⟩

end Cert.Proof

end
